-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![16, 256, 256]⟩ ⟨3, ![16, 256, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x256 : Shape := ⟨3, ![16, 256, 256]⟩
abbrev S256x2048 : Shape := ⟨2, ![256, 2048]⟩
abbrev S16x256x2048 : Shape := ⟨3, ![16, 256, 2048]⟩
abbrev S15x256x1024 : Shape := ⟨3, ![15, 256, 1024]⟩
abbrev S2x256x1024 : Shape := ⟨3, ![2, 256, 1024]⟩
abbrev S16x2x256x1024 : Shape := ⟨4, ![16, 2, 256, 1024]⟩
abbrev S4x256x1024 : Shape := ⟨3, ![4, 256, 1024]⟩
abbrev S16x128 : Shape := ⟨2, ![16, 128]⟩
abbrev S15 : Shape := ⟨1, ![15]⟩
abbrev S16x2 : Shape := ⟨2, ![16, 2]⟩
abbrev S16 : Shape := ⟨1, ![16]⟩
abbrev S4 : Shape := ⟨1, ![4]⟩
abbrev S_ : Shape := ⟨0, ![]⟩
abbrev S1x256x256 : Shape := ⟨3, ![1, 256, 256]⟩
abbrev S256x256 : Shape := ⟨2, ![256, 256]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S1x128 : Shape := ⟨2, ![1, 128]⟩
abbrev S1x16x128 : Shape := ⟨3, ![1, 16, 128]⟩
abbrev S1x1 : Shape := ⟨2, ![1, 1]⟩
abbrev S1x1x256x1024 : Shape := ⟨4, ![1, 1, 256, 1024]⟩

abbrev nBuf : Space → Nat
  | .hbm => 3
  | .vmem => 11
  | .smem => 0
  | _ => 0

abbrev bufTy : (tb : Table) → Fin (tcTables nBuf tb) → BufTy
  | .hbm, ⟨0, _⟩ => ⟨S16x256x256, .bf16⟩
  | .hbm, ⟨1, _⟩ => ⟨S256x2048, .bf16⟩
  | .hbm, ⟨2, _⟩ => ⟨S16x256x2048, .f32⟩
  | .local _ .vmem, ⟨0, _⟩ => ⟨S16x256x256, .bf16⟩
  | .local _ .vmem, ⟨1, _⟩ => ⟨S256x2048, .bf16⟩
  | .local _ .vmem, ⟨2, _⟩ => ⟨S15x256x1024, .bf16⟩
  | .local _ .vmem, ⟨3, _⟩ => ⟨S15x256x1024, .bf16⟩
  | .local _ .vmem, ⟨4, _⟩ => ⟨S15x256x1024, .bf16⟩
  | .local _ .vmem, ⟨5, _⟩ => ⟨S15x256x1024, .bf16⟩
  | .local _ .vmem, ⟨6, _⟩ => ⟨S2x256x1024, .f32⟩
  | .local _ .vmem, ⟨7, _⟩ => ⟨S2x256x1024, .fp8e4m3⟩
  | .local _ .vmem, ⟨8, _⟩ => ⟨S16x2x256x1024, .fp8e4m3⟩
  | .local _ .vmem, ⟨9, _⟩ => ⟨S4x256x1024, .f32⟩
  | .local _ .vmem, ⟨10, _⟩ => ⟨S16x128, .f32⟩
  | _, _ => ⟨S16x256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 162 → Bool
  | ⟨i, _⟩ => dmaSemScopedAt i

abbrev sig : RefSig :=
  (ofTc nBuf bufTy 1 162 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : Index := Scalar.indexCast v2
  let c0 : Index := 0#32
  let c0_20 : Index := 0#32
  ![v31.toNat, 0, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_51 : BitVec 32 := 1#32
  let v72 : BitVec 32 := Scalar.muli v25 c1_i32_51
  let v73 : BitVec 32 := Scalar.addi c0_i32_52 v72
  v73.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_61 : BitVec 32 := 1#32
  let v82 : BitVec 32 := Scalar.muli v14 c1_i32_61
  let v83 : BitVec 32 := Scalar.addi c0_i32_62 v82
  v83.toNat
def k0_off2 (d0 : Dev nD) (c0_i32_31 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v48 : BitVec 32 := Scalar.subi v2 c0_i32_31
  let c1_i32_32 : BitVec 32 := 1#32
  let v49 : BitVec 32 := Scalar.subi v48 c1_i32_32
  let c16_i32_33 : BitVec 32 := 16#32
  let c0_i32_34 : BitVec 32 := 0#32
  let v50 : BitVec 1 := Scalar.cmpi .eq c16_i32_33 c0_i32_34
  let c1_i32_35 : BitVec 32 := 1#32
  let v51 : BitVec 32 := Scalar.select v50 c1_i32_35 c16_i32_33
  let v52 : BitVec 32 := Scalar.remsi v49 v51
  let c0_i32_37 : BitVec 32 := 0#32
  let v54 : BitVec 1 := Scalar.cmpi .slt v52 c0_i32_37
  let c0_i32_38 : BitVec 32 := 0#32
  let v55 : BitVec 1 := Scalar.cmpi .slt v51 c0_i32_38
  let v56 : BitVec 1 := Scalar.xori v54 v55
  let c0_i32_36 : BitVec 32 := 0#32
  let v53 : BitVec 1 := Scalar.cmpi .ne v52 c0_i32_36
  let v57 : BitVec 1 := Scalar.andi v56 v53
  let v58 : BitVec 32 := Scalar.addi v52 v51
  let v59 : BitVec 32 := Scalar.select v57 v58 v52
  let v92 : Index := Scalar.indexCast v59
  let c0_67 : Index := 0#32
  let c0_68 : Index := 0#32
  ![v92.toNat, 0, 0]
def k0_off3 (d0 : Dev nD) (c0_i32_39 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v60 : BitVec 32 := Scalar.addi v2 c0_i32_39
  let c1_i32_40 : BitVec 32 := 1#32
  let v61 : BitVec 32 := Scalar.addi v60 c1_i32_40
  let c16_i32_41 : BitVec 32 := 16#32
  let c0_i32_42 : BitVec 32 := 0#32
  let v62 : BitVec 1 := Scalar.cmpi .eq c16_i32_41 c0_i32_42
  let c1_i32_43 : BitVec 32 := 1#32
  let v63 : BitVec 32 := Scalar.select v62 c1_i32_43 c16_i32_41
  let v64 : BitVec 32 := Scalar.remsi v61 v63
  let c0_i32_45 : BitVec 32 := 0#32
  let v66 : BitVec 1 := Scalar.cmpi .slt v64 c0_i32_45
  let c0_i32_46 : BitVec 32 := 0#32
  let v67 : BitVec 1 := Scalar.cmpi .slt v63 c0_i32_46
  let v68 : BitVec 1 := Scalar.xori v66 v67
  let c0_i32_44 : BitVec 32 := 0#32
  let v65 : BitVec 1 := Scalar.cmpi .ne v64 c0_i32_44
  let v69 : BitVec 1 := Scalar.andi v68 v65
  let v70 : BitVec 32 := Scalar.addi v64 v63
  let v71 : BitVec 32 := Scalar.select v69 v70 v64
  let v98 : Index := Scalar.indexCast v71
  let c0_72 : Index := 0#32
  let c0_73 : Index := 0#32
  ![v98.toNat, 0, 0]
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_146 : BitVec 32 := 1#32
  let v172 : BitVec 32 := Scalar.muli v25 c1_i32_146
  let v173 : BitVec 32 := Scalar.addi c0_i32_147 v172
  v173.toNat
def k0_dev6 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_156 : BitVec 32 := 1#32
  let v182 : BitVec 32 := Scalar.muli v14 c1_i32_156
  let v183 : BitVec 32 := Scalar.addi c0_i32_157 v182
  v183.toNat
def k0_dev7 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_241 : BitVec 32 := 1#32
  let v272 : BitVec 32 := Scalar.muli v25 c1_i32_241
  let v273 : BitVec 32 := Scalar.addi c0_i32_242 v272
  v273.toNat
def k0_dev8 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_251 : BitVec 32 := 1#32
  let v282 : BitVec 32 := Scalar.muli v14 c1_i32_251
  let v283 : BitVec 32 := Scalar.addi c0_i32_252 v282
  v283.toNat
def k0_dev9 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_335 : BitVec 32 := 1#32
  let v372 : BitVec 32 := Scalar.muli v25 c1_i32_335
  let v373 : BitVec 32 := Scalar.addi c0_i32_336 v372
  v373.toNat
def k0_dev10 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_345 : BitVec 32 := 1#32
  let v382 : BitVec 32 := Scalar.muli v14 c1_i32_345
  let v383 : BitVec 32 := Scalar.addi c0_i32_346 v382
  v383.toNat
def k0_dev11 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_429 : BitVec 32 := 1#32
  let v472 : BitVec 32 := Scalar.muli v25 c1_i32_429
  let v473 : BitVec 32 := Scalar.addi c0_i32_430 v472
  v473.toNat
def k0_dev12 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_439 : BitVec 32 := 1#32
  let v482 : BitVec 32 := Scalar.muli v14 c1_i32_439
  let v483 : BitVec 32 := Scalar.addi c0_i32_440 v482
  v483.toNat
def k0_dev13 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_523 : BitVec 32 := 1#32
  let v572 : BitVec 32 := Scalar.muli v25 c1_i32_523
  let v573 : BitVec 32 := Scalar.addi c0_i32_524 v572
  v573.toNat
def k0_dev14 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_533 : BitVec 32 := 1#32
  let v582 : BitVec 32 := Scalar.muli v14 c1_i32_533
  let v583 : BitVec 32 := Scalar.addi c0_i32_534 v582
  v583.toNat
def k0_dev15 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_617 : BitVec 32 := 1#32
  let v672 : BitVec 32 := Scalar.muli v25 c1_i32_617
  let v673 : BitVec 32 := Scalar.addi c0_i32_618 v672
  v673.toNat
def k0_dev16 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_627 : BitVec 32 := 1#32
  let v682 : BitVec 32 := Scalar.muli v14 c1_i32_627
  let v683 : BitVec 32 := Scalar.addi c0_i32_628 v682
  v683.toNat
def k0_dev17 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_711 : BitVec 32 := 1#32
  let v772 : BitVec 32 := Scalar.muli v25 c1_i32_711
  let v773 : BitVec 32 := Scalar.addi c0_i32_712 v772
  v773.toNat
def k0_dev18 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_721 : BitVec 32 := 1#32
  let v782 : BitVec 32 := Scalar.muli v14 c1_i32_721
  let v783 : BitVec 32 := Scalar.addi c0_i32_722 v782
  v783.toNat
def k0_dev19 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_805 : BitVec 32 := 1#32
  let v872 : BitVec 32 := Scalar.muli v25 c1_i32_805
  let v873 : BitVec 32 := Scalar.addi c0_i32_806 v872
  v873.toNat
def k0_dev20 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_815 : BitVec 32 := 1#32
  let v882 : BitVec 32 := Scalar.muli v14 c1_i32_815
  let v883 : BitVec 32 := Scalar.addi c0_i32_816 v882
  v883.toNat
def k0_dev21 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_899 : BitVec 32 := 1#32
  let v972 : BitVec 32 := Scalar.muli v25 c1_i32_899
  let v973 : BitVec 32 := Scalar.addi c0_i32_900 v972
  v973.toNat
def k0_dev22 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_909 : BitVec 32 := 1#32
  let v982 : BitVec 32 := Scalar.muli v14 c1_i32_909
  let v983 : BitVec 32 := Scalar.addi c0_i32_910 v982
  v983.toNat
def k0_dev23 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_993 : BitVec 32 := 1#32
  let v1072 : BitVec 32 := Scalar.muli v25 c1_i32_993
  let v1073 : BitVec 32 := Scalar.addi c0_i32_994 v1072
  v1073.toNat
def k0_dev24 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1003 : BitVec 32 := 1#32
  let v1082 : BitVec 32 := Scalar.muli v14 c1_i32_1003
  let v1083 : BitVec 32 := Scalar.addi c0_i32_1004 v1082
  v1083.toNat
def k0_dev25 (d0 : Dev nD) : Nat :=
  let c0_i32_1088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1087 : BitVec 32 := 1#32
  let v1172 : BitVec 32 := Scalar.muli v25 c1_i32_1087
  let v1173 : BitVec 32 := Scalar.addi c0_i32_1088 v1172
  v1173.toNat
def k0_dev26 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1097 : BitVec 32 := 1#32
  let v1182 : BitVec 32 := Scalar.muli v14 c1_i32_1097
  let v1183 : BitVec 32 := Scalar.addi c0_i32_1098 v1182
  v1183.toNat
def k0_dev27 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1181 : BitVec 32 := 1#32
  let v1272 : BitVec 32 := Scalar.muli v25 c1_i32_1181
  let v1273 : BitVec 32 := Scalar.addi c0_i32_1182 v1272
  v1273.toNat
def k0_dev28 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1191 : BitVec 32 := 1#32
  let v1282 : BitVec 32 := Scalar.muli v14 c1_i32_1191
  let v1283 : BitVec 32 := Scalar.addi c0_i32_1192 v1282
  v1283.toNat
def k0_dev29 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1275 : BitVec 32 := 1#32
  let v1372 : BitVec 32 := Scalar.muli v25 c1_i32_1275
  let v1373 : BitVec 32 := Scalar.addi c0_i32_1276 v1372
  v1373.toNat
def k0_dev30 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1285 : BitVec 32 := 1#32
  let v1382 : BitVec 32 := Scalar.muli v14 c1_i32_1285
  let v1383 : BitVec 32 := Scalar.addi c0_i32_1286 v1382
  v1383.toNat
def k0_dev31 (d0 : Dev nD) : Nat :=
  let c0_i32_1370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1369 : BitVec 32 := 1#32
  let v1472 : BitVec 32 := Scalar.muli v25 c1_i32_1369
  let v1473 : BitVec 32 := Scalar.addi c0_i32_1370 v1472
  v1473.toNat
def k0_dev32 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1379 : BitVec 32 := 1#32
  let v1482 : BitVec 32 := Scalar.muli v14 c1_i32_1379
  let v1483 : BitVec 32 := Scalar.addi c0_i32_1380 v1482
  v1483.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1564 : Index := Scalar.indexCast v2
  let c0_1455 : Index := 0#32
  ![v1564.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1456 : BitVec 32 := 0#32
  let v1568 : BitVec 1 := Scalar.cmpi .ne v2 c0_i32_1456
  let v1569 : BitVec 32 := Scalar.extui v1568
  let c0_i32_1457 : BitVec 32 := 0#32
  let v1570 : BitVec 1 := Scalar.cmpi .ne v1569 c0_i32_1457
  v1570

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev33 : Nat :=
  let c0_i32_2497 : BitVec 32 := 0#32
  let c0_i32_2495 : BitVec 32 := 0#32
  let c1_i32_2496 : BitVec 32 := 1#32
  let v2727 : BitVec 32 := Scalar.muli c0_i32_2495 c1_i32_2496
  let v2728 : BitVec 32 := Scalar.addi c0_i32_2497 v2727
  v2728.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1458 : BitVec 32 := 1#32
  let v1571 : BitVec 1 := Scalar.cmpi .ne v2 c1_i32_1458
  let v1572 : BitVec 32 := Scalar.extui v1571
  let c0_i32_1459 : BitVec 32 := 0#32
  let v1573 : BitVec 1 := Scalar.cmpi .ne v1572 c0_i32_1459
  v1573

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev34 : Nat :=
  let c0_i32_2497 : BitVec 32 := 0#32
  let c1_i32_2495 : BitVec 32 := 1#32
  let c1_i32_2496 : BitVec 32 := 1#32
  let v2727 : BitVec 32 := Scalar.muli c1_i32_2495 c1_i32_2496
  let v2728 : BitVec 32 := Scalar.addi c0_i32_2497 v2727
  v2728.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1460 : BitVec 32 := 2#32
  let v1574 : BitVec 1 := Scalar.cmpi .ne v2 c2_i32_1460
  let v1575 : BitVec 32 := Scalar.extui v1574
  let c0_i32_1461 : BitVec 32 := 0#32
  let v1576 : BitVec 1 := Scalar.cmpi .ne v1575 c0_i32_1461
  v1576

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev35 : Nat :=
  let c0_i32_2497 : BitVec 32 := 0#32
  let c2_i32_2495 : BitVec 32 := 2#32
  let c1_i32_2496 : BitVec 32 := 1#32
  let v2727 : BitVec 32 := Scalar.muli c2_i32_2495 c1_i32_2496
  let v2728 : BitVec 32 := Scalar.addi c0_i32_2497 v2727
  v2728.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1462 : BitVec 32 := 3#32
  let v1577 : BitVec 1 := Scalar.cmpi .ne v2 c3_i32_1462
  let v1578 : BitVec 32 := Scalar.extui v1577
  let c0_i32_1463 : BitVec 32 := 0#32
  let v1579 : BitVec 1 := Scalar.cmpi .ne v1578 c0_i32_1463
  v1579

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev36 : Nat :=
  let c0_i32_2497 : BitVec 32 := 0#32
  let c3_i32_2495 : BitVec 32 := 3#32
  let c1_i32_2496 : BitVec 32 := 1#32
  let v2727 : BitVec 32 := Scalar.muli c3_i32_2495 c1_i32_2496
  let v2728 : BitVec 32 := Scalar.addi c0_i32_2497 v2727
  v2728.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1464 : BitVec 32 := 4#32
  let v1580 : BitVec 1 := Scalar.cmpi .ne v2 c4_i32_1464
  let v1581 : BitVec 32 := Scalar.extui v1580
  let c0_i32_1465 : BitVec 32 := 0#32
  let v1582 : BitVec 1 := Scalar.cmpi .ne v1581 c0_i32_1465
  v1582

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev37 : Nat :=
  let c0_i32_2497 : BitVec 32 := 0#32
  let c4_i32_2495 : BitVec 32 := 4#32
  let c1_i32_2496 : BitVec 32 := 1#32
  let v2727 : BitVec 32 := Scalar.muli c4_i32_2495 c1_i32_2496
  let v2728 : BitVec 32 := Scalar.addi c0_i32_2497 v2727
  v2728.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1466 : BitVec 32 := 5#32
  let v1583 : BitVec 1 := Scalar.cmpi .ne v2 c5_i32_1466
  let v1584 : BitVec 32 := Scalar.extui v1583
  let c0_i32_1467 : BitVec 32 := 0#32
  let v1585 : BitVec 1 := Scalar.cmpi .ne v1584 c0_i32_1467
  v1585

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev38 : Nat :=
  let c0_i32_2497 : BitVec 32 := 0#32
  let c5_i32_2495 : BitVec 32 := 5#32
  let c1_i32_2496 : BitVec 32 := 1#32
  let v2727 : BitVec 32 := Scalar.muli c5_i32_2495 c1_i32_2496
  let v2728 : BitVec 32 := Scalar.addi c0_i32_2497 v2727
  v2728.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1468 : BitVec 32 := 6#32
  let v1586 : BitVec 1 := Scalar.cmpi .ne v2 c6_i32_1468
  let v1587 : BitVec 32 := Scalar.extui v1586
  let c0_i32_1469 : BitVec 32 := 0#32
  let v1588 : BitVec 1 := Scalar.cmpi .ne v1587 c0_i32_1469
  v1588

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev39 : Nat :=
  let c0_i32_2497 : BitVec 32 := 0#32
  let c6_i32_2495 : BitVec 32 := 6#32
  let c1_i32_2496 : BitVec 32 := 1#32
  let v2727 : BitVec 32 := Scalar.muli c6_i32_2495 c1_i32_2496
  let v2728 : BitVec 32 := Scalar.addi c0_i32_2497 v2727
  v2728.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1470 : BitVec 32 := 7#32
  let v1589 : BitVec 1 := Scalar.cmpi .ne v2 c7_i32_1470
  let v1590 : BitVec 32 := Scalar.extui v1589
  let c0_i32_1471 : BitVec 32 := 0#32
  let v1591 : BitVec 1 := Scalar.cmpi .ne v1590 c0_i32_1471
  v1591

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev40 : Nat :=
  let c0_i32_2497 : BitVec 32 := 0#32
  let c7_i32_2495 : BitVec 32 := 7#32
  let c1_i32_2496 : BitVec 32 := 1#32
  let v2727 : BitVec 32 := Scalar.muli c7_i32_2495 c1_i32_2496
  let v2728 : BitVec 32 := Scalar.addi c0_i32_2497 v2727
  v2728.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1472 : BitVec 32 := 8#32
  let v1592 : BitVec 1 := Scalar.cmpi .ne v2 c8_i32_1472
  let v1593 : BitVec 32 := Scalar.extui v1592
  let c0_i32_1473 : BitVec 32 := 0#32
  let v1594 : BitVec 1 := Scalar.cmpi .ne v1593 c0_i32_1473
  v1594

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev41 : Nat :=
  let c0_i32_2497 : BitVec 32 := 0#32
  let c8_i32_2495 : BitVec 32 := 8#32
  let c1_i32_2496 : BitVec 32 := 1#32
  let v2727 : BitVec 32 := Scalar.muli c8_i32_2495 c1_i32_2496
  let v2728 : BitVec 32 := Scalar.addi c0_i32_2497 v2727
  v2728.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1474 : BitVec 32 := 9#32
  let v1595 : BitVec 1 := Scalar.cmpi .ne v2 c9_i32_1474
  let v1596 : BitVec 32 := Scalar.extui v1595
  let c0_i32_1475 : BitVec 32 := 0#32
  let v1597 : BitVec 1 := Scalar.cmpi .ne v1596 c0_i32_1475
  v1597

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev42 : Nat :=
  let c0_i32_2497 : BitVec 32 := 0#32
  let c9_i32_2495 : BitVec 32 := 9#32
  let c1_i32_2496 : BitVec 32 := 1#32
  let v2727 : BitVec 32 := Scalar.muli c9_i32_2495 c1_i32_2496
  let v2728 : BitVec 32 := Scalar.addi c0_i32_2497 v2727
  v2728.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1476 : BitVec 32 := 10#32
  let v1598 : BitVec 1 := Scalar.cmpi .ne v2 c10_i32_1476
  let v1599 : BitVec 32 := Scalar.extui v1598
  let c0_i32_1477 : BitVec 32 := 0#32
  let v1600 : BitVec 1 := Scalar.cmpi .ne v1599 c0_i32_1477
  v1600

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev43 : Nat :=
  let c0_i32_2497 : BitVec 32 := 0#32
  let c10_i32_2495 : BitVec 32 := 10#32
  let c1_i32_2496 : BitVec 32 := 1#32
  let v2727 : BitVec 32 := Scalar.muli c10_i32_2495 c1_i32_2496
  let v2728 : BitVec 32 := Scalar.addi c0_i32_2497 v2727
  v2728.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1478 : BitVec 32 := 11#32
  let v1601 : BitVec 1 := Scalar.cmpi .ne v2 c11_i32_1478
  let v1602 : BitVec 32 := Scalar.extui v1601
  let c0_i32_1479 : BitVec 32 := 0#32
  let v1603 : BitVec 1 := Scalar.cmpi .ne v1602 c0_i32_1479
  v1603

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev44 : Nat :=
  let c0_i32_2497 : BitVec 32 := 0#32
  let c11_i32_2495 : BitVec 32 := 11#32
  let c1_i32_2496 : BitVec 32 := 1#32
  let v2727 : BitVec 32 := Scalar.muli c11_i32_2495 c1_i32_2496
  let v2728 : BitVec 32 := Scalar.addi c0_i32_2497 v2727
  v2728.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1480 : BitVec 32 := 12#32
  let v1604 : BitVec 1 := Scalar.cmpi .ne v2 c12_i32_1480
  let v1605 : BitVec 32 := Scalar.extui v1604
  let c0_i32_1481 : BitVec 32 := 0#32
  let v1606 : BitVec 1 := Scalar.cmpi .ne v1605 c0_i32_1481
  v1606

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev45 : Nat :=
  let c0_i32_2497 : BitVec 32 := 0#32
  let c12_i32_2495 : BitVec 32 := 12#32
  let c1_i32_2496 : BitVec 32 := 1#32
  let v2727 : BitVec 32 := Scalar.muli c12_i32_2495 c1_i32_2496
  let v2728 : BitVec 32 := Scalar.addi c0_i32_2497 v2727
  v2728.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1482 : BitVec 32 := 13#32
  let v1607 : BitVec 1 := Scalar.cmpi .ne v2 c13_i32_1482
  let v1608 : BitVec 32 := Scalar.extui v1607
  let c0_i32_1483 : BitVec 32 := 0#32
  let v1609 : BitVec 1 := Scalar.cmpi .ne v1608 c0_i32_1483
  v1609

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev46 : Nat :=
  let c0_i32_2497 : BitVec 32 := 0#32
  let c13_i32_2495 : BitVec 32 := 13#32
  let c1_i32_2496 : BitVec 32 := 1#32
  let v2727 : BitVec 32 := Scalar.muli c13_i32_2495 c1_i32_2496
  let v2728 : BitVec 32 := Scalar.addi c0_i32_2497 v2727
  v2728.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1484 : BitVec 32 := 14#32
  let v1610 : BitVec 1 := Scalar.cmpi .ne v2 c14_i32_1484
  let v1611 : BitVec 32 := Scalar.extui v1610
  let c0_i32_1485 : BitVec 32 := 0#32
  let v1612 : BitVec 1 := Scalar.cmpi .ne v1611 c0_i32_1485
  v1612

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev47 : Nat :=
  let c0_i32_2497 : BitVec 32 := 0#32
  let c14_i32_2495 : BitVec 32 := 14#32
  let c1_i32_2496 : BitVec 32 := 1#32
  let v2727 : BitVec 32 := Scalar.muli c14_i32_2495 c1_i32_2496
  let v2728 : BitVec 32 := Scalar.addi c0_i32_2497 v2727
  v2728.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v1613 : BitVec 1 := Scalar.cmpi .ne v2 c15_i32
  let v1614 : BitVec 32 := Scalar.extui v1613
  let c0_i32_1486 : BitVec 32 := 0#32
  let v1615 : BitVec 1 := Scalar.cmpi .ne v1614 c0_i32_1486
  v1615

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2498 : BitVec 32 := 0#32
  ![v2.toNat, 0]
def k0_dev48 : Nat :=
  let c0_i32_2497 : BitVec 32 := 0#32
  let c15_i32_2495 : BitVec 32 := 15#32
  let c1_i32_2496 : BitVec 32 := 1#32
  let v2727 : BitVec 32 := Scalar.muli c15_i32_2495 c1_i32_2496
  let v2728 : BitVec 32 := Scalar.addi c0_i32_2497 v2727
  v2728.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1487 : BitVec 32 := 0#32
  let v1616 : BitVec 1 := Scalar.cmpi .ne v2 c0_i32_1487
  let v1617 : BitVec 32 := Scalar.extui v1616
  let c0_i32_1488 : BitVec 32 := 0#32
  let v1618 : BitVec 1 := Scalar.cmpi .ne v1617 c0_i32_1488
  v1618

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1489 : BitVec 32 := 1#32
  let v1619 : BitVec 1 := Scalar.cmpi .ne v2 c1_i32_1489
  let v1620 : BitVec 32 := Scalar.extui v1619
  let c0_i32_1490 : BitVec 32 := 0#32
  let v1621 : BitVec 1 := Scalar.cmpi .ne v1620 c0_i32_1490
  v1621

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1491 : BitVec 32 := 2#32
  let v1622 : BitVec 1 := Scalar.cmpi .ne v2 c2_i32_1491
  let v1623 : BitVec 32 := Scalar.extui v1622
  let c0_i32_1492 : BitVec 32 := 0#32
  let v1624 : BitVec 1 := Scalar.cmpi .ne v1623 c0_i32_1492
  v1624

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1493 : BitVec 32 := 3#32
  let v1625 : BitVec 1 := Scalar.cmpi .ne v2 c3_i32_1493
  let v1626 : BitVec 32 := Scalar.extui v1625
  let c0_i32_1494 : BitVec 32 := 0#32
  let v1627 : BitVec 1 := Scalar.cmpi .ne v1626 c0_i32_1494
  v1627

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1495 : BitVec 32 := 4#32
  let v1628 : BitVec 1 := Scalar.cmpi .ne v2 c4_i32_1495
  let v1629 : BitVec 32 := Scalar.extui v1628
  let c0_i32_1496 : BitVec 32 := 0#32
  let v1630 : BitVec 1 := Scalar.cmpi .ne v1629 c0_i32_1496
  v1630

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1497 : BitVec 32 := 5#32
  let v1631 : BitVec 1 := Scalar.cmpi .ne v2 c5_i32_1497
  let v1632 : BitVec 32 := Scalar.extui v1631
  let c0_i32_1498 : BitVec 32 := 0#32
  let v1633 : BitVec 1 := Scalar.cmpi .ne v1632 c0_i32_1498
  v1633

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1499 : BitVec 32 := 6#32
  let v1634 : BitVec 1 := Scalar.cmpi .ne v2 c6_i32_1499
  let v1635 : BitVec 32 := Scalar.extui v1634
  let c0_i32_1500 : BitVec 32 := 0#32
  let v1636 : BitVec 1 := Scalar.cmpi .ne v1635 c0_i32_1500
  v1636

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1501 : BitVec 32 := 7#32
  let v1637 : BitVec 1 := Scalar.cmpi .ne v2 c7_i32_1501
  let v1638 : BitVec 32 := Scalar.extui v1637
  let c0_i32_1502 : BitVec 32 := 0#32
  let v1639 : BitVec 1 := Scalar.cmpi .ne v1638 c0_i32_1502
  v1639

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1503 : BitVec 32 := 8#32
  let v1640 : BitVec 1 := Scalar.cmpi .ne v2 c8_i32_1503
  let v1641 : BitVec 32 := Scalar.extui v1640
  let c0_i32_1504 : BitVec 32 := 0#32
  let v1642 : BitVec 1 := Scalar.cmpi .ne v1641 c0_i32_1504
  v1642

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1505 : BitVec 32 := 9#32
  let v1643 : BitVec 1 := Scalar.cmpi .ne v2 c9_i32_1505
  let v1644 : BitVec 32 := Scalar.extui v1643
  let c0_i32_1506 : BitVec 32 := 0#32
  let v1645 : BitVec 1 := Scalar.cmpi .ne v1644 c0_i32_1506
  v1645

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1507 : BitVec 32 := 10#32
  let v1646 : BitVec 1 := Scalar.cmpi .ne v2 c10_i32_1507
  let v1647 : BitVec 32 := Scalar.extui v1646
  let c0_i32_1508 : BitVec 32 := 0#32
  let v1648 : BitVec 1 := Scalar.cmpi .ne v1647 c0_i32_1508
  v1648

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1509 : BitVec 32 := 11#32
  let v1649 : BitVec 1 := Scalar.cmpi .ne v2 c11_i32_1509
  let v1650 : BitVec 32 := Scalar.extui v1649
  let c0_i32_1510 : BitVec 32 := 0#32
  let v1651 : BitVec 1 := Scalar.cmpi .ne v1650 c0_i32_1510
  v1651

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1511 : BitVec 32 := 12#32
  let v1652 : BitVec 1 := Scalar.cmpi .ne v2 c12_i32_1511
  let v1653 : BitVec 32 := Scalar.extui v1652
  let c0_i32_1512 : BitVec 32 := 0#32
  let v1654 : BitVec 1 := Scalar.cmpi .ne v1653 c0_i32_1512
  v1654

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1513 : BitVec 32 := 13#32
  let v1655 : BitVec 1 := Scalar.cmpi .ne v2 c13_i32_1513
  let v1656 : BitVec 32 := Scalar.extui v1655
  let c0_i32_1514 : BitVec 32 := 0#32
  let v1657 : BitVec 1 := Scalar.cmpi .ne v1656 c0_i32_1514
  v1657

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1515 : BitVec 32 := 14#32
  let v1658 : BitVec 1 := Scalar.cmpi .ne v2 c14_i32_1515
  let v1659 : BitVec 32 := Scalar.extui v1658
  let c0_i32_1516 : BitVec 32 := 0#32
  let v1660 : BitVec 1 := Scalar.cmpi .ne v1659 c0_i32_1516
  v1660

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1517 : BitVec 32 := 15#32
  let v1661 : BitVec 1 := Scalar.cmpi .ne v2 c15_i32_1517
  let v1662 : BitVec 32 := Scalar.extui v1661
  let c0_i32_1518 : BitVec 32 := 0#32
  let v1663 : BitVec 1 := Scalar.cmpi .ne v1662 c0_i32_1518
  v1663

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2497 : BitVec 32 := 0#32
  ![v2.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1568 : BitVec 32 := 0#32
  let v1735 : BitVec 1 := Scalar.cmpi .ne v2 c0_i32_1568
  let v1736 : BitVec 32 := Scalar.extui v1735
  let c0_i32_1569 : BitVec 32 := 0#32
  let v1737 : BitVec 1 := Scalar.cmpi .ne v1736 c0_i32_1569
  v1737

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev49 : Nat :=
  let c0_i32_2501 : BitVec 32 := 0#32
  let c0_i32_2499 : BitVec 32 := 0#32
  let c1_i32_2500 : BitVec 32 := 1#32
  let v2727 : BitVec 32 := Scalar.muli c0_i32_2499 c1_i32_2500
  let v2728 : BitVec 32 := Scalar.addi c0_i32_2501 v2727
  v2728.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev50 : Nat :=
  let c0_i32_2513 : BitVec 32 := 0#32
  let c0_i32_2511 : BitVec 32 := 0#32
  let c1_i32_2512 : BitVec 32 := 1#32
  let v2737 : BitVec 32 := Scalar.muli c0_i32_2511 c1_i32_2512
  let v2738 : BitVec 32 := Scalar.addi c0_i32_2513 v2737
  v2738.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1570 : BitVec 32 := 1#32
  let v1738 : BitVec 1 := Scalar.cmpi .ne v2 c1_i32_1570
  let v1739 : BitVec 32 := Scalar.extui v1738
  let c0_i32_1571 : BitVec 32 := 0#32
  let v1740 : BitVec 1 := Scalar.cmpi .ne v1739 c0_i32_1571
  v1740

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev51 : Nat :=
  let c0_i32_2501 : BitVec 32 := 0#32
  let c1_i32_2499 : BitVec 32 := 1#32
  let c1_i32_2500 : BitVec 32 := 1#32
  let v2727 : BitVec 32 := Scalar.muli c1_i32_2499 c1_i32_2500
  let v2728 : BitVec 32 := Scalar.addi c0_i32_2501 v2727
  v2728.toNat
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev52 : Nat :=
  let c0_i32_2513 : BitVec 32 := 0#32
  let c1_i32_2511 : BitVec 32 := 1#32
  let c1_i32_2512 : BitVec 32 := 1#32
  let v2737 : BitVec 32 := Scalar.muli c1_i32_2511 c1_i32_2512
  let v2738 : BitVec 32 := Scalar.addi c0_i32_2513 v2737
  v2738.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1572 : BitVec 32 := 2#32
  let v1741 : BitVec 1 := Scalar.cmpi .ne v2 c2_i32_1572
  let v1742 : BitVec 32 := Scalar.extui v1741
  let c0_i32_1573 : BitVec 32 := 0#32
  let v1743 : BitVec 1 := Scalar.cmpi .ne v1742 c0_i32_1573
  v1743

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev53 : Nat :=
  let c0_i32_2501 : BitVec 32 := 0#32
  let c2_i32_2499 : BitVec 32 := 2#32
  let c1_i32_2500 : BitVec 32 := 1#32
  let v2727 : BitVec 32 := Scalar.muli c2_i32_2499 c1_i32_2500
  let v2728 : BitVec 32 := Scalar.addi c0_i32_2501 v2727
  v2728.toNat
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off64 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev54 : Nat :=
  let c0_i32_2513 : BitVec 32 := 0#32
  let c2_i32_2511 : BitVec 32 := 2#32
  let c1_i32_2512 : BitVec 32 := 1#32
  let v2737 : BitVec 32 := Scalar.muli c2_i32_2511 c1_i32_2512
  let v2738 : BitVec 32 := Scalar.addi c0_i32_2513 v2737
  v2738.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1574 : BitVec 32 := 3#32
  let v1744 : BitVec 1 := Scalar.cmpi .ne v2 c3_i32_1574
  let v1745 : BitVec 32 := Scalar.extui v1744
  let c0_i32_1575 : BitVec 32 := 0#32
  let v1746 : BitVec 1 := Scalar.cmpi .ne v1745 c0_i32_1575
  v1746

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off66 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev55 : Nat :=
  let c0_i32_2501 : BitVec 32 := 0#32
  let c3_i32_2499 : BitVec 32 := 3#32
  let c1_i32_2500 : BitVec 32 := 1#32
  let v2727 : BitVec 32 := Scalar.muli c3_i32_2499 c1_i32_2500
  let v2728 : BitVec 32 := Scalar.addi c0_i32_2501 v2727
  v2728.toNat
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off68 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev56 : Nat :=
  let c0_i32_2513 : BitVec 32 := 0#32
  let c3_i32_2511 : BitVec 32 := 3#32
  let c1_i32_2512 : BitVec 32 := 1#32
  let v2737 : BitVec 32 := Scalar.muli c3_i32_2511 c1_i32_2512
  let v2738 : BitVec 32 := Scalar.addi c0_i32_2513 v2737
  v2738.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1576 : BitVec 32 := 4#32
  let v1747 : BitVec 1 := Scalar.cmpi .ne v2 c4_i32_1576
  let v1748 : BitVec 32 := Scalar.extui v1747
  let c0_i32_1577 : BitVec 32 := 0#32
  let v1749 : BitVec 1 := Scalar.cmpi .ne v1748 c0_i32_1577
  v1749

def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off70 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev57 : Nat :=
  let c0_i32_2501 : BitVec 32 := 0#32
  let c4_i32_2499 : BitVec 32 := 4#32
  let c1_i32_2500 : BitVec 32 := 1#32
  let v2727 : BitVec 32 := Scalar.muli c4_i32_2499 c1_i32_2500
  let v2728 : BitVec 32 := Scalar.addi c0_i32_2501 v2727
  v2728.toNat
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off72 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev58 : Nat :=
  let c0_i32_2513 : BitVec 32 := 0#32
  let c4_i32_2511 : BitVec 32 := 4#32
  let c1_i32_2512 : BitVec 32 := 1#32
  let v2737 : BitVec 32 := Scalar.muli c4_i32_2511 c1_i32_2512
  let v2738 : BitVec 32 := Scalar.addi c0_i32_2513 v2737
  v2738.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1578 : BitVec 32 := 5#32
  let v1750 : BitVec 1 := Scalar.cmpi .ne v2 c5_i32_1578
  let v1751 : BitVec 32 := Scalar.extui v1750
  let c0_i32_1579 : BitVec 32 := 0#32
  let v1752 : BitVec 1 := Scalar.cmpi .ne v1751 c0_i32_1579
  v1752

def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off74 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev59 : Nat :=
  let c0_i32_2501 : BitVec 32 := 0#32
  let c5_i32_2499 : BitVec 32 := 5#32
  let c1_i32_2500 : BitVec 32 := 1#32
  let v2727 : BitVec 32 := Scalar.muli c5_i32_2499 c1_i32_2500
  let v2728 : BitVec 32 := Scalar.addi c0_i32_2501 v2727
  v2728.toNat
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off76 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev60 : Nat :=
  let c0_i32_2513 : BitVec 32 := 0#32
  let c5_i32_2511 : BitVec 32 := 5#32
  let c1_i32_2512 : BitVec 32 := 1#32
  let v2737 : BitVec 32 := Scalar.muli c5_i32_2511 c1_i32_2512
  let v2738 : BitVec 32 := Scalar.addi c0_i32_2513 v2737
  v2738.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1580 : BitVec 32 := 6#32
  let v1753 : BitVec 1 := Scalar.cmpi .ne v2 c6_i32_1580
  let v1754 : BitVec 32 := Scalar.extui v1753
  let c0_i32_1581 : BitVec 32 := 0#32
  let v1755 : BitVec 1 := Scalar.cmpi .ne v1754 c0_i32_1581
  v1755

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off78 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev61 : Nat :=
  let c0_i32_2501 : BitVec 32 := 0#32
  let c6_i32_2499 : BitVec 32 := 6#32
  let c1_i32_2500 : BitVec 32 := 1#32
  let v2727 : BitVec 32 := Scalar.muli c6_i32_2499 c1_i32_2500
  let v2728 : BitVec 32 := Scalar.addi c0_i32_2501 v2727
  v2728.toNat
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off80 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev62 : Nat :=
  let c0_i32_2513 : BitVec 32 := 0#32
  let c6_i32_2511 : BitVec 32 := 6#32
  let c1_i32_2512 : BitVec 32 := 1#32
  let v2737 : BitVec 32 := Scalar.muli c6_i32_2511 c1_i32_2512
  let v2738 : BitVec 32 := Scalar.addi c0_i32_2513 v2737
  v2738.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1582 : BitVec 32 := 7#32
  let v1756 : BitVec 1 := Scalar.cmpi .ne v2 c7_i32_1582
  let v1757 : BitVec 32 := Scalar.extui v1756
  let c0_i32_1583 : BitVec 32 := 0#32
  let v1758 : BitVec 1 := Scalar.cmpi .ne v1757 c0_i32_1583
  v1758

def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off82 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev63 : Nat :=
  let c0_i32_2501 : BitVec 32 := 0#32
  let c7_i32_2499 : BitVec 32 := 7#32
  let c1_i32_2500 : BitVec 32 := 1#32
  let v2727 : BitVec 32 := Scalar.muli c7_i32_2499 c1_i32_2500
  let v2728 : BitVec 32 := Scalar.addi c0_i32_2501 v2727
  v2728.toNat
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off84 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev64 : Nat :=
  let c0_i32_2513 : BitVec 32 := 0#32
  let c7_i32_2511 : BitVec 32 := 7#32
  let c1_i32_2512 : BitVec 32 := 1#32
  let v2737 : BitVec 32 := Scalar.muli c7_i32_2511 c1_i32_2512
  let v2738 : BitVec 32 := Scalar.addi c0_i32_2513 v2737
  v2738.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1584 : BitVec 32 := 8#32
  let v1759 : BitVec 1 := Scalar.cmpi .ne v2 c8_i32_1584
  let v1760 : BitVec 32 := Scalar.extui v1759
  let c0_i32_1585 : BitVec 32 := 0#32
  let v1761 : BitVec 1 := Scalar.cmpi .ne v1760 c0_i32_1585
  v1761

def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off86 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev65 : Nat :=
  let c0_i32_2501 : BitVec 32 := 0#32
  let c8_i32_2499 : BitVec 32 := 8#32
  let c1_i32_2500 : BitVec 32 := 1#32
  let v2727 : BitVec 32 := Scalar.muli c8_i32_2499 c1_i32_2500
  let v2728 : BitVec 32 := Scalar.addi c0_i32_2501 v2727
  v2728.toNat
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off88 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev66 : Nat :=
  let c0_i32_2513 : BitVec 32 := 0#32
  let c8_i32_2511 : BitVec 32 := 8#32
  let c1_i32_2512 : BitVec 32 := 1#32
  let v2737 : BitVec 32 := Scalar.muli c8_i32_2511 c1_i32_2512
  let v2738 : BitVec 32 := Scalar.addi c0_i32_2513 v2737
  v2738.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1586 : BitVec 32 := 9#32
  let v1762 : BitVec 1 := Scalar.cmpi .ne v2 c9_i32_1586
  let v1763 : BitVec 32 := Scalar.extui v1762
  let c0_i32_1587 : BitVec 32 := 0#32
  let v1764 : BitVec 1 := Scalar.cmpi .ne v1763 c0_i32_1587
  v1764

def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off90 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev67 : Nat :=
  let c0_i32_2501 : BitVec 32 := 0#32
  let c9_i32_2499 : BitVec 32 := 9#32
  let c1_i32_2500 : BitVec 32 := 1#32
  let v2727 : BitVec 32 := Scalar.muli c9_i32_2499 c1_i32_2500
  let v2728 : BitVec 32 := Scalar.addi c0_i32_2501 v2727
  v2728.toNat
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off92 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev68 : Nat :=
  let c0_i32_2513 : BitVec 32 := 0#32
  let c9_i32_2511 : BitVec 32 := 9#32
  let c1_i32_2512 : BitVec 32 := 1#32
  let v2737 : BitVec 32 := Scalar.muli c9_i32_2511 c1_i32_2512
  let v2738 : BitVec 32 := Scalar.addi c0_i32_2513 v2737
  v2738.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1588 : BitVec 32 := 10#32
  let v1765 : BitVec 1 := Scalar.cmpi .ne v2 c10_i32_1588
  let v1766 : BitVec 32 := Scalar.extui v1765
  let c0_i32_1589 : BitVec 32 := 0#32
  let v1767 : BitVec 1 := Scalar.cmpi .ne v1766 c0_i32_1589
  v1767

def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off94 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev69 : Nat :=
  let c0_i32_2501 : BitVec 32 := 0#32
  let c10_i32_2499 : BitVec 32 := 10#32
  let c1_i32_2500 : BitVec 32 := 1#32
  let v2727 : BitVec 32 := Scalar.muli c10_i32_2499 c1_i32_2500
  let v2728 : BitVec 32 := Scalar.addi c0_i32_2501 v2727
  v2728.toNat
def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off96 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev70 : Nat :=
  let c0_i32_2513 : BitVec 32 := 0#32
  let c10_i32_2511 : BitVec 32 := 10#32
  let c1_i32_2512 : BitVec 32 := 1#32
  let v2737 : BitVec 32 := Scalar.muli c10_i32_2511 c1_i32_2512
  let v2738 : BitVec 32 := Scalar.addi c0_i32_2513 v2737
  v2738.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1590 : BitVec 32 := 11#32
  let v1768 : BitVec 1 := Scalar.cmpi .ne v2 c11_i32_1590
  let v1769 : BitVec 32 := Scalar.extui v1768
  let c0_i32_1591 : BitVec 32 := 0#32
  let v1770 : BitVec 1 := Scalar.cmpi .ne v1769 c0_i32_1591
  v1770

def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off98 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev71 : Nat :=
  let c0_i32_2501 : BitVec 32 := 0#32
  let c11_i32_2499 : BitVec 32 := 11#32
  let c1_i32_2500 : BitVec 32 := 1#32
  let v2727 : BitVec 32 := Scalar.muli c11_i32_2499 c1_i32_2500
  let v2728 : BitVec 32 := Scalar.addi c0_i32_2501 v2727
  v2728.toNat
def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off100 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev72 : Nat :=
  let c0_i32_2513 : BitVec 32 := 0#32
  let c11_i32_2511 : BitVec 32 := 11#32
  let c1_i32_2512 : BitVec 32 := 1#32
  let v2737 : BitVec 32 := Scalar.muli c11_i32_2511 c1_i32_2512
  let v2738 : BitVec 32 := Scalar.addi c0_i32_2513 v2737
  v2738.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1592 : BitVec 32 := 12#32
  let v1771 : BitVec 1 := Scalar.cmpi .ne v2 c12_i32_1592
  let v1772 : BitVec 32 := Scalar.extui v1771
  let c0_i32_1593 : BitVec 32 := 0#32
  let v1773 : BitVec 1 := Scalar.cmpi .ne v1772 c0_i32_1593
  v1773

def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off102 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev73 : Nat :=
  let c0_i32_2501 : BitVec 32 := 0#32
  let c12_i32_2499 : BitVec 32 := 12#32
  let c1_i32_2500 : BitVec 32 := 1#32
  let v2727 : BitVec 32 := Scalar.muli c12_i32_2499 c1_i32_2500
  let v2728 : BitVec 32 := Scalar.addi c0_i32_2501 v2727
  v2728.toNat
def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off104 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev74 : Nat :=
  let c0_i32_2513 : BitVec 32 := 0#32
  let c12_i32_2511 : BitVec 32 := 12#32
  let c1_i32_2512 : BitVec 32 := 1#32
  let v2737 : BitVec 32 := Scalar.muli c12_i32_2511 c1_i32_2512
  let v2738 : BitVec 32 := Scalar.addi c0_i32_2513 v2737
  v2738.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1594 : BitVec 32 := 13#32
  let v1774 : BitVec 1 := Scalar.cmpi .ne v2 c13_i32_1594
  let v1775 : BitVec 32 := Scalar.extui v1774
  let c0_i32_1595 : BitVec 32 := 0#32
  let v1776 : BitVec 1 := Scalar.cmpi .ne v1775 c0_i32_1595
  v1776

def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off106 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev75 : Nat :=
  let c0_i32_2501 : BitVec 32 := 0#32
  let c13_i32_2499 : BitVec 32 := 13#32
  let c1_i32_2500 : BitVec 32 := 1#32
  let v2727 : BitVec 32 := Scalar.muli c13_i32_2499 c1_i32_2500
  let v2728 : BitVec 32 := Scalar.addi c0_i32_2501 v2727
  v2728.toNat
def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off108 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev76 : Nat :=
  let c0_i32_2513 : BitVec 32 := 0#32
  let c13_i32_2511 : BitVec 32 := 13#32
  let c1_i32_2512 : BitVec 32 := 1#32
  let v2737 : BitVec 32 := Scalar.muli c13_i32_2511 c1_i32_2512
  let v2738 : BitVec 32 := Scalar.addi c0_i32_2513 v2737
  v2738.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1596 : BitVec 32 := 14#32
  let v1777 : BitVec 1 := Scalar.cmpi .ne v2 c14_i32_1596
  let v1778 : BitVec 32 := Scalar.extui v1777
  let c0_i32_1597 : BitVec 32 := 0#32
  let v1779 : BitVec 1 := Scalar.cmpi .ne v1778 c0_i32_1597
  v1779

def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off110 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev77 : Nat :=
  let c0_i32_2501 : BitVec 32 := 0#32
  let c14_i32_2499 : BitVec 32 := 14#32
  let c1_i32_2500 : BitVec 32 := 1#32
  let v2727 : BitVec 32 := Scalar.muli c14_i32_2499 c1_i32_2500
  let v2728 : BitVec 32 := Scalar.addi c0_i32_2501 v2727
  v2728.toNat
def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off112 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev78 : Nat :=
  let c0_i32_2513 : BitVec 32 := 0#32
  let c14_i32_2511 : BitVec 32 := 14#32
  let c1_i32_2512 : BitVec 32 := 1#32
  let v2737 : BitVec 32 := Scalar.muli c14_i32_2511 c1_i32_2512
  let v2738 : BitVec 32 := Scalar.addi c0_i32_2513 v2737
  v2738.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1598 : BitVec 32 := 15#32
  let v1780 : BitVec 1 := Scalar.cmpi .ne v2 c15_i32_1598
  let v1781 : BitVec 32 := Scalar.extui v1780
  let c0_i32_1599 : BitVec 32 := 0#32
  let v1782 : BitVec 1 := Scalar.cmpi .ne v1781 c0_i32_1599
  v1782

def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2496 : BitVec 32 := 0#32
  ![v2.toNat, 0]
def k0_off114 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2495 : BitVec 32 := 0#32
  let c0_i32_2502 : BitVec 32 := 0#32
  let c0_i32_2503 : BitVec 32 := 0#32
  ![v2.toNat, 0, 0, 0]
def k0_dev79 : Nat :=
  let c0_i32_2501 : BitVec 32 := 0#32
  let c15_i32_2499 : BitVec 32 := 15#32
  let c1_i32_2500 : BitVec 32 := 1#32
  let v2727 : BitVec 32 := Scalar.muli c15_i32_2499 c1_i32_2500
  let v2728 : BitVec 32 := Scalar.addi c0_i32_2501 v2727
  v2728.toNat
def k0_off115 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  ![v2.toNat, 1]
def k0_off116 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2507 : BitVec 32 := 1#32
  let c0_i32_2514 : BitVec 32 := 0#32
  let c0_i32_2515 : BitVec 32 := 0#32
  ![v2.toNat, 1, 0, 0]
def k0_dev80 : Nat :=
  let c0_i32_2513 : BitVec 32 := 0#32
  let c15_i32_2511 : BitVec 32 := 15#32
  let c1_i32_2512 : BitVec 32 := 1#32
  let v2737 : BitVec 32 := Scalar.muli c15_i32_2511 c1_i32_2512
  let v2738 : BitVec 32 := Scalar.addi c0_i32_2513 v2737
  v2738.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2462 : BitVec 32 := 0#32
  let v2679 : BitVec 1 := Scalar.cmpi .ne v2 c0_i32_2462
  let v2680 : BitVec 32 := Scalar.extui v2679
  let c0_i32_2463 : BitVec 32 := 0#32
  let v2681 : BitVec 1 := Scalar.cmpi .ne v2680 c0_i32_2463
  v2681

def k0_off117 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off118 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2464 : BitVec 32 := 1#32
  let v2682 : BitVec 1 := Scalar.cmpi .ne v2 c1_i32_2464
  let v2683 : BitVec 32 := Scalar.extui v2682
  let c0_i32_2465 : BitVec 32 := 0#32
  let v2684 : BitVec 1 := Scalar.cmpi .ne v2683 c0_i32_2465
  v2684

def k0_off119 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off120 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2466 : BitVec 32 := 2#32
  let v2685 : BitVec 1 := Scalar.cmpi .ne v2 c2_i32_2466
  let v2686 : BitVec 32 := Scalar.extui v2685
  let c0_i32_2467 : BitVec 32 := 0#32
  let v2687 : BitVec 1 := Scalar.cmpi .ne v2686 c0_i32_2467
  v2687

def k0_off121 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off122 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2468 : BitVec 32 := 3#32
  let v2688 : BitVec 1 := Scalar.cmpi .ne v2 c3_i32_2468
  let v2689 : BitVec 32 := Scalar.extui v2688
  let c0_i32_2469 : BitVec 32 := 0#32
  let v2690 : BitVec 1 := Scalar.cmpi .ne v2689 c0_i32_2469
  v2690

def k0_off123 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off124 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2470 : BitVec 32 := 4#32
  let v2691 : BitVec 1 := Scalar.cmpi .ne v2 c4_i32_2470
  let v2692 : BitVec 32 := Scalar.extui v2691
  let c0_i32_2471 : BitVec 32 := 0#32
  let v2693 : BitVec 1 := Scalar.cmpi .ne v2692 c0_i32_2471
  v2693

def k0_off125 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off126 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2472 : BitVec 32 := 5#32
  let v2694 : BitVec 1 := Scalar.cmpi .ne v2 c5_i32_2472
  let v2695 : BitVec 32 := Scalar.extui v2694
  let c0_i32_2473 : BitVec 32 := 0#32
  let v2696 : BitVec 1 := Scalar.cmpi .ne v2695 c0_i32_2473
  v2696

def k0_off127 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off128 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2474 : BitVec 32 := 6#32
  let v2697 : BitVec 1 := Scalar.cmpi .ne v2 c6_i32_2474
  let v2698 : BitVec 32 := Scalar.extui v2697
  let c0_i32_2475 : BitVec 32 := 0#32
  let v2699 : BitVec 1 := Scalar.cmpi .ne v2698 c0_i32_2475
  v2699

def k0_off129 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off130 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2476 : BitVec 32 := 7#32
  let v2700 : BitVec 1 := Scalar.cmpi .ne v2 c7_i32_2476
  let v2701 : BitVec 32 := Scalar.extui v2700
  let c0_i32_2477 : BitVec 32 := 0#32
  let v2702 : BitVec 1 := Scalar.cmpi .ne v2701 c0_i32_2477
  v2702

def k0_off131 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off132 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2478 : BitVec 32 := 8#32
  let v2703 : BitVec 1 := Scalar.cmpi .ne v2 c8_i32_2478
  let v2704 : BitVec 32 := Scalar.extui v2703
  let c0_i32_2479 : BitVec 32 := 0#32
  let v2705 : BitVec 1 := Scalar.cmpi .ne v2704 c0_i32_2479
  v2705

def k0_off133 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off134 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2480 : BitVec 32 := 9#32
  let v2706 : BitVec 1 := Scalar.cmpi .ne v2 c9_i32_2480
  let v2707 : BitVec 32 := Scalar.extui v2706
  let c0_i32_2481 : BitVec 32 := 0#32
  let v2708 : BitVec 1 := Scalar.cmpi .ne v2707 c0_i32_2481
  v2708

def k0_off135 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off136 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2482 : BitVec 32 := 10#32
  let v2709 : BitVec 1 := Scalar.cmpi .ne v2 c10_i32_2482
  let v2710 : BitVec 32 := Scalar.extui v2709
  let c0_i32_2483 : BitVec 32 := 0#32
  let v2711 : BitVec 1 := Scalar.cmpi .ne v2710 c0_i32_2483
  v2711

def k0_off137 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off138 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2484 : BitVec 32 := 11#32
  let v2712 : BitVec 1 := Scalar.cmpi .ne v2 c11_i32_2484
  let v2713 : BitVec 32 := Scalar.extui v2712
  let c0_i32_2485 : BitVec 32 := 0#32
  let v2714 : BitVec 1 := Scalar.cmpi .ne v2713 c0_i32_2485
  v2714

def k0_off139 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off140 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2486 : BitVec 32 := 12#32
  let v2715 : BitVec 1 := Scalar.cmpi .ne v2 c12_i32_2486
  let v2716 : BitVec 32 := Scalar.extui v2715
  let c0_i32_2487 : BitVec 32 := 0#32
  let v2717 : BitVec 1 := Scalar.cmpi .ne v2716 c0_i32_2487
  v2717

def k0_off141 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off142 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2488 : BitVec 32 := 13#32
  let v2718 : BitVec 1 := Scalar.cmpi .ne v2 c13_i32_2488
  let v2719 : BitVec 32 := Scalar.extui v2718
  let c0_i32_2489 : BitVec 32 := 0#32
  let v2720 : BitVec 1 := Scalar.cmpi .ne v2719 c0_i32_2489
  v2720

def k0_off143 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off144 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2490 : BitVec 32 := 14#32
  let v2721 : BitVec 1 := Scalar.cmpi .ne v2 c14_i32_2490
  let v2722 : BitVec 32 := Scalar.extui v2721
  let c0_i32_2491 : BitVec 32 := 0#32
  let v2723 : BitVec 1 := Scalar.cmpi .ne v2722 c0_i32_2491
  v2723

def k0_off145 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off146 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2492 : BitVec 32 := 15#32
  let v2724 : BitVec 1 := Scalar.cmpi .ne v2 c15_i32_2492
  let v2725 : BitVec 32 := Scalar.extui v2724
  let c0_i32_2493 : BitVec 32 := 0#32
  let v2726 : BitVec 1 := Scalar.cmpi .ne v2725 c0_i32_2493
  v2726

def k0_off147 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2494 : BitVec 32 := 0#32
  let c0_i32_2503 : BitVec 32 := 0#32
  let c0_i32_2504 : BitVec 32 := 0#32
  ![v2.toNat, 0, 0, 0]
def k0_off148 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2505 : BitVec 32 := 1#32
  let c0_i32_2514 : BitVec 32 := 0#32
  let c0_i32_2515 : BitVec 32 := 0#32
  ![v2.toNat, 1, 0, 0]
abbrev stage0_0 : Fin 1 → Memref sig .tc .vmem S16x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x256x4096 : Shape := ⟨3, ![16, 256, 4096]⟩
abbrev S4096x2048 : Shape := ⟨2, ![4096, 2048]⟩
abbrev S16x256x2048 : Shape := ⟨3, ![16, 256, 2048]⟩
abbrev S1x16x256x2048 : Shape := ⟨4, ![1, 16, 256, 2048]⟩
abbrev S1 : Shape := ⟨1, ![1]⟩
abbrev S1x1x1x1 : Shape := ⟨4, ![1, 1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S16x256x4096, .bf16⟩
  | .hbm, ⟨1, _⟩ => ⟨S4096x2048, .bf16⟩
  | .hbm, ⟨2, _⟩ => ⟨S16x256x2048, .f32⟩
  | .local _ .vmem, ⟨0, _⟩ => ⟨S16x256x4096, .bf16⟩
  | .local _ .vmem, ⟨1, _⟩ => ⟨S4096x2048, .bf16⟩
  | .local _ .vmem, ⟨2, _⟩ => ⟨S16x256x2048, .f32⟩
  | _, _ => ⟨S16x256x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal.Run

open Idealize.ShloMosaic Idealize.SL.Sem
open Cert.KernelIdeal.Gen

variable {F : FTy → Type} [FloatOps F]

/-! # The ring reduce-scatter as a loop

The kernel's first half — the barrier, the first partial products, the fifteen hops of the two rings — printed once
per hop in the program, written here once at a symbolic hop. -/

/-- The whole-buffer views of the kernel's operands and scratch buffers. -/
abbrev xM : Memref sig .tc .vmem S16x256x256 .bf16 := Memref.whole cc0_stg0_0
abbrev wM : Memref sig .tc .vmem S256x2048 .bf16 := Memref.whole cc0_stg1_0
abbrev oM : Memref sig .tc .hbm S16x256x2048 .f32 := Memref.whole main_v1
abbrev lrM : Memref sig .tc .vmem S15x256x1024 .bf16 := Memref.whole cc0_scratch0
abbrev llM : Memref sig .tc .vmem S15x256x1024 .bf16 := Memref.whole cc0_scratch1
abbrev srM : Memref sig .tc .vmem S15x256x1024 .bf16 := Memref.whole cc0_scratch2
abbrev slM : Memref sig .tc .vmem S15x256x1024 .bf16 := Memref.whole cc0_scratch3
abbrev ownM : Memref sig .tc .vmem S2x256x1024 .f32 := Memref.whole cc0_scratch4
abbrev qM : Memref sig .tc .vmem S2x256x1024 .fp8e4m3 := Memref.whole cc0_scratch5
abbrev agM : Memref sig .tc .vmem S16x2x256x1024 .fp8e4m3 := Memref.whole cc0_scratch6
abbrev dqM : Memref sig .tc .vmem S4x256x1024 .f32 := Memref.whole cc0_scratch7
abbrev amM : Memref sig .tc .vmem S16x128 .f32 := Memref.whole cc0_scratch8

/-- Slot `s` of a ring buffer. -/
theorem inbS (s : Fin 15) : ∀ a, (![s.val, 0, 0] : Fin 3 → Nat) a + S1x256x1024.size a ≤ S15x256x1024.size a := by
  revert s; decide
abbrev rS (s : Fin 15) : Rect S15x256x1024 := Rect.unit (s := S15x256x1024) ![s.val, 0, 0] S1x256x1024.size (inbS s)
theorem packS : ∀ s : Fin 15, (rS s).PackedRows (EltTy.packing .bf16) := by decide
theorem wordS : ∀ s : Fin 15, (rS s).WholeWords (EltTy.packing .bf16) := by decide
theorem inbT (s : Fin 15) : ∀ a, (![s.val] : Fin 1 → Nat) a + S1.size a ≤ S15.size a := by revert s; decide
/-- Entry `s` of a ring's semaphore array. -/
abbrev semS (A : DmaSems sig S15) (s : Fin 15) : DmaSem sig :=
  ((A.slice (Rect.unit (s := S15) ![s.val] S1.size (inbT s))).squeeze S_ squeezes_S1_S_).sem
/-- Slot `s` as the two-dimensional block the copies move. -/
abbrev slotS (M : Memref sig .tc .vmem S15x256x1024 .bf16) (s : Fin 15) : Memref sig .tc .vmem S256x1024 .bf16 :=
  (M.slice (rS s) (fun _ => rfl)).squeeze S256x1024 squeezes_S1x256x1024_S256x1024

theorem isW {b : Ref sig .tc} : (Memref.whole b).IsWhole := Memref.isWhole_whole _

/-- A slot is made of whole words. -/
theorem wxS {M : Memref sig .tc .vmem S15x256x1024 .bf16} (hM : M.IsWhole) (s : Fin 15) : (slotS M s).view.WordExact :=
  (hM.wordExact_slice rfl _ (wordS s)).reshape _ _
/-- A store into a slot is made of whole words. -/
theorem sxS {M : Memref sig .tc .vmem S15x256x1024 .bf16} (hM : M.IsWhole) (s : Fin 15) : (M.view.slice (rS s)).StoreExact Finset.univ :=
  hM.storeExact_slice rfl _ (packS s)

/-- The two halves of the weight shard. -/
abbrev rwl : Rect S256x2048 := Rect.unit (s := S256x2048) ![0, 0] S256x1024.size inb_S256x2048_S256x1024_0_0
abbrev rwr : Rect S256x2048 := Rect.unit (s := S256x2048) ![0, 1024] S256x1024.size inb_S256x2048_S256x1024_0_1024
abbrev rx1 (c : Dev nD) : Rect S16x256x256 := Rect.unit (s := S16x256x256) (k0_off1 c) S1x256x256.size (k0_off1_inb c)
abbrev rx2 (c : Dev nD) (s : Fin 15) : Rect S16x256x256 :=
  Rect.unit (s := S16x256x256) (k0_off2 c (BitVec.ofNat 32 s.val)) S1x256x256.size (k0_off2_inb c s)
abbrev rx3 (c : Dev nD) (s : Fin 15) : Rect S16x256x256 :=
  Rect.unit (s := S16x256x256) (k0_off3 c (BitVec.ofNat 32 s.val)) S1x256x256.size (k0_off3_inb c s)
abbrev rO (h : Fin 2) (i : ∀ a, (![h.val, 0, 0] : Fin 3 → Nat) a + S1x256x1024.size a ≤ S2x256x1024.size a) : Rect S2x256x1024 :=
  Rect.unit (s := S2x256x1024) ![h.val, 0, 0] S1x256x1024.size i

/-- The barrier semaphore. -/
abbrev barS : Sem sig := (show Sems sig S_ from SemArray.scalar (sig.barrier 0 rfl)).sem

abbrev PR (F : FTy → Type) := Prog (TpuEff nD τ sig (Elt F) Λ₀ .tc)

abbrev ldS (M : Memref sig .tc .vmem S15x256x1024 .bf16) (s : Fin 15) : PR F (Vec F S1x256x1024 .bf16) :=
  Prog.lift (.load M (rS s).toLoadRect (View.loadsAt_vmem h_S1x256x1024))

/-- The barrier and the first partial products. -/
def start (d0 : Dev nD) : PR F PUnit := do
  semSignalWord (⟨k0_dev1 d0, k0_dev1_lt d0⟩ : Dev nD) barS 1#32
  semSignalWord (⟨k0_dev2 d0, k0_dev2_lt d0⟩ : Dev nD) barS 1#32
  semWaitWord barS 2#32
  let vx : Vec F S1x256x256 .bf16 ← Prog.lift (.load xM (rx1 d0).toLoadRect (View.loadsAt_vmem h_S1x256x256))
  let vl : Vec F S256x1024 .bf16 ← Prog.lift (.load wM rwl.toLoadRect (View.loadsAt_vmem h_S256x1024))
  let vr : Vec F S256x1024 .bf16 ← Prog.lift (.load wM rwr.toLoadRect (View.loadsAt_vmem h_S256x1024))
  let _ ← ldS srM 0
  Prog.lift (.store srM (rS 0) (k0_pay2 vx vl) Finset.univ (View.stores_vmem h_S1x256x1024 (sxS isW 0) (fun _ => rfl)) (.inl rfl))
  let _ ← ldS slM 0
  Prog.lift (.store slM (rS 0) (k0_pay3 vx vr) Finset.univ (View.stores_vmem h_S1x256x1024 (sxS isW 0) (fun _ => rfl)) (.inl rfl))

/-- Hop `s` up to the arrived partial sums: both slots sent, the next local products formed, both
    copies and both arrivals waited for; the products and the arrived sums are returned. -/
def hop (d0 : Dev nD) (s : Fin 15) : PR F (Σ' (_ : Vec F S1x256x256 .bf16) (_ : Vec F S256x1024 .bf16) (_ : Vec F S1x256x256 .bf16) (_ : Vec F S256x1024 .bf16) (_ : Vec F S1x256x1024 .bf16), Vec F S1x256x1024 .bf16) := do
  Prog.lift (.enqueueDma (slotS srM s) (.remote (Dev.tc (⟨k0_dev3 d0, k0_dev3_lt d0⟩ : Dev nD)) (slotS lrM s) (.dma (semS cc0_scratch9 s))) (.dma (semS cc0_scratch10 s)) (wxS isW s) (wxS isW s) ⟨⟨rfl, Or.inl rfl⟩, trivial⟩)
  Prog.lift (.enqueueDma (slotS slM s) (.remote (Dev.tc (⟨k0_dev4 d0, k0_dev4_lt d0⟩ : Dev nD)) (slotS llM s) (.dma (semS cc0_scratch11 s))) (.dma (semS cc0_scratch12 s)) (wxS isW s) (wxS isW s) ⟨⟨rfl, Or.inl rfl⟩, trivial⟩)
  let v93 : Vec F S1x256x256 .bf16 ← Prog.lift (.load xM (rx2 d0 s).toLoadRect (View.loadsAt_vmem h_S1x256x256))
  let v95 : Vec F S256x1024 .bf16 ← Prog.lift (.load wM rwl.toLoadRect (View.loadsAt_vmem h_S256x1024))
  let v99 : Vec F S1x256x256 .bf16 ← Prog.lift (.load xM (rx3 d0 s).toLoadRect (View.loadsAt_vmem h_S1x256x256))
  let v101 : Vec F S256x1024 .bf16 ← Prog.lift (.load wM rwr.toLoadRect (View.loadsAt_vmem h_S256x1024))
  Prog.lift (.waitDma2 (semS cc0_scratch9 s) (slotS lrM s) (slotS srM s) (wxS isW s) (wxS isW s))
  Prog.lift (.waitDma2 (semS cc0_scratch10 s) (slotS srM s) (slotS lrM s) (wxS isW s) (wxS isW s))
  Prog.lift (.waitDma2 (semS cc0_scratch11 s) (slotS llM s) (slotS slM s) (wxS isW s) (wxS isW s))
  Prog.lift (.waitDma2 (semS cc0_scratch12 s) (slotS slM s) (slotS llM s) (wxS isW s) (wxS isW s))
  let vr : Vec F S1x256x1024 .bf16 ← ldS lrM s
  let vl : Vec F S1x256x1024 .bf16 ← ldS llM s
  pure ⟨v93, v95, v99, v101, vr, vl⟩

/-- Hop `s` of the first fourteen: the sums carried on are stored into slot `s'`, the next. -/
def step (d0 : Dev nD) (s s' : Fin 15) : PR F PUnit := do
  let ⟨v93, v95, v99, v101, vr, vl⟩ ← hop d0 s
  let _ ← ldS srM s'
  Prog.lift (.store srM (rS s') (k0_pay7 (k0_pay5 (k0_pay4 v93) v95) vr) Finset.univ (View.stores_vmem h_S1x256x1024 (sxS isW s') (fun _ => rfl)) (.inl rfl))
  let _ ← ldS slM s'
  Prog.lift (.store slM (rS s') (k0_pay8 (k0_pay6 v99 v101) vl) Finset.univ (View.stores_vmem h_S1x256x1024 (sxS isW s') (fun _ => rfl)) (.inl rfl))

abbrev rO0 : Rect S2x256x1024 := Rect.unit (s := S2x256x1024) ![0, 0, 0] S1x256x1024.size inb_S2x256x1024_S1x256x1024_0_0_0
abbrev rO1 : Rect S2x256x1024 := Rect.unit (s := S2x256x1024) ![1, 0, 0] S1x256x1024.size inb_S2x256x1024_S1x256x1024_1_0_0

/-- The last hop: the complete sums, with negative entries cut off, are the device's own two blocks. -/
def lastStep (d0 : Dev nD) : PR F (FVec F S1x128 .f32) := do
  let ⟨v93, v95, v99, v101, vr, vl⟩ ← hop d0 14
  let _ ← Prog.lift (.load ownM rO0.toLoadRect (View.loadsAt_vmem h_S1x256x1024))
  Prog.lift (.store ownM rO0 (k0_pay74 (k0_pay72 v93 v95) vr) Finset.univ (View.stores_vmem_bits_univ h_S1x256x1024 rfl) (.inl rfl))
  let _ ← Prog.lift (.load ownM rO1.toLoadRect (View.loadsAt_vmem h_S1x256x1024))
  Prog.lift (.store ownM rO1 (k0_pay75 (k0_pay73 v99 v101) vl) Finset.univ (View.stores_vmem_bits_univ h_S1x256x1024 rfl) (.inl rfl))
  let v1550 : Vec F S1x256x1024 .f32 ← Prog.lift (.load ownM rO0.toLoadRect (View.loadsAt_vmem h_S1x256x1024))
  let v1556 : Vec F S1x256x1024 .f32 ← Prog.lift (.load ownM rO1.toLoadRect (View.loadsAt_vmem h_S1x256x1024))
  pure (k0_pay76 v1550 v1556)

/-- The device's position in the ring, as the word the program computes. -/
abbrev posWord (d0 : Dev nD) : BitVec 32 := Scalar.remsi (Scalar.divsi (Dev.word d0) 1#32) 16#32

/-- What the ring phases are followed by, up to the two quantised blocks sent. -/
def tailA (d0 : Dev nD) (v1563 : FVec F S1x128 .f32) : PR F (Σ' (d0 : Dev nD) (v2 : BitVec 32) (v1718 : F .f32), BitVec 32) := do
  let v2 := posWord d0
  let b54 : BitVec 32 ← k0_part54 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 v1563
  let b55 : BitVec 32 ← k0_part55 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 b54
  let b56 : BitVec 32 ← k0_part56 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 b55
  let b57 : BitVec 32 ← k0_part57 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 b56
  let v1715 : FVec F S1x1x1 .f32 ← k0_part58 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 v2 b57
  let ⟨v1718, b59⟩ : Σ' (v1718 : F .f32), BitVec 32 ← k0_part59 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 v1715
  let b60 : BitVec 32 ← k0_part60 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 d0 v2 b59
  pure ⟨d0, v2, v1718, b60⟩

/-- The kernel up to the two quantised blocks sent, its ring phases a loop. -/
def front : PR F (Σ' (d0 : Dev nD) (v2 : BitVec 32) (v1718 : F .f32), BitVec 32) := do
  let d0 : Dev nD ← Prog.lift .deviceId
  start d0
  step d0 0 1
  step d0 1 2
  step d0 2 3
  step d0 3 4
  step d0 4 5
  step d0 5 6
  step d0 6 7
  step d0 7 8
  step d0 8 9
  step d0 9 10
  step d0 10 11
  step d0 11 12
  step d0 12 13
  step d0 13 14
  let v ← lastStep d0
  tailA d0 v

set_option maxRecDepth 65536 in
theorem part94_eq : k0_part94 (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 = front := by
  chain_rfl

end Cert.KernelIdeal.Run

end
-- ==== Proof.Common.lean ====
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.Transfers

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

abbrev UU : Type := UR sig nD τ × URounds (GSem nD τ sig) Bool

/-- The resources the proofs are stated in. -/
abbrev MM (F : FTy → Type) := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-- The weakest precondition of a program on device `c`. -/
abbrev Wp (c : Dev nD) {α : Type} (p : PR F α) (Q : α → sProp 𝕄) : sProp 𝕄 :=
  wp frame (wpE (defs₀ (F := F)) 𝒱₀ (c : Thread nD τ) none) Set.univ p Q

variable (m : (ℓ : Loc nD τ sig) → Buf (Elt F) ℓ)

/-! ## The ring of devices -/

/-- The device `k` places to the right. -/
def pls (c : Dev nD) (k : ℕ) : Dev nD := ⟨(c.val + k) % 16, Nat.mod_lt _ (by decide)⟩
/-- The right neighbour. -/
abbrev nxt (c : Dev nD) : Dev nD := pls c 1
/-- The left neighbour. -/
abbrev prv (c : Dev nD) : Dev nD := pls c 15
/-- How many places `c` lies to the right of `d`. -/
def hops (c d : Dev nD) : ℕ := (c.val + 16 - d.val) % 16

theorem nxt_prv (c : Dev nD) : nxt (prv c) = c := by revert c; decide
theorem prv_nxt (c : Dev nD) : prv (nxt c) = c := by revert c; decide
theorem pls_zero (c : Dev nD) : pls c 0 = c := by revert c; decide
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel

/-! ## Semaphores and what they are for -/

theorem inb16 (j : Fin 16) : ∀ a, (![j.val] : Fin 1 → Nat) a + S1.size a ≤ S16.size a := by revert j; decide
theorem inb16x2 (j : Fin 16) (h : Fin 2) : ∀ a, (![j.val, h.val] : Fin 2 → Nat) a + S1x1.size a ≤ S16x2.size a := by revert j h; decide
theorem inb4 (k : Fin 4) : ∀ a, (![k.val] : Fin 1 → Nat) a + S1.size a ≤ S4.size a := by revert k; decide
/-- Entry `j` of an array of sixteen semaphores. -/
abbrev semA (A : DmaSems sig S16) (j : Fin 16) : DmaSem sig :=
  ((A.slice (Rect.unit (s := S16) ![j.val] S1.size (inb16 j))).squeeze S_ squeezes_S1_S_).sem
/-- Entry `(j, h)` of an array of sixteen pairs of semaphores. -/
abbrev semG (A : DmaSems sig S16x2) (j : Fin 16) (h : Fin 2) : DmaSem sig :=
  ((A.slice (Rect.unit (s := S16x2) ![j.val, h.val] S1x1.size (inb16x2 j h))).squeeze S_ squeezes_S1x1_S_).sem
/-- Entry `k` of an array of four semaphores. -/
abbrev semQ (A : DmaSems sig S4) (k : Fin 4) : DmaSem sig :=
  ((A.slice (Rect.unit (s := S4) ![k.val] S1.size (inb4 k))).squeeze S_ squeezes_S1_S_).sem

/-- What a semaphore is for: the barrier; the sending and receiving sides of a hop of the right and of the left ring;
    of the exchange of the maxima; of the gathering of the quantised halves; a local copy out. -/
inductive Kd
  | bar | other
  | sR (s : Fin 15) | rR (s : Fin 15) | sL (s : Fin 15) | rL (s : Fin 15)
  | amS (j : Fin 16) | amR (j : Fin 16)
  | agS (j : Fin 16) (h : Fin 2) | agR (j : Fin 16) (h : Fin 2)
  | dq (k : Fin 4)
  deriving DecidableEq

/-- The use of the transfer semaphore numbered `i`. -/
def kdN (i : ℕ) : Kd :=
  if i < 2 then .other else if i < 17 then .sR (Fin.ofNat 15 (i - 2)) else if i < 32 then .rR (Fin.ofNat 15 (i - 17))
  else if i < 47 then .sL (Fin.ofNat 15 (i - 32)) else if i < 62 then .rL (Fin.ofNat 15 (i - 47))
  else if i < 94 then .agS (Fin.ofNat 16 ((i - 62) / 2)) (Fin.ofNat 2 i)
  else if i < 126 then .agR (Fin.ofNat 16 ((i - 94) / 2)) (Fin.ofNat 2 i)
  else if i < 142 then .amS (Fin.ofNat 16 (i - 126)) else if i < 158 then .amR (Fin.ofNat 16 (i - 142))
  else .dq (Fin.ofNat 4 (i - 158))

/-- A semaphore's use. -/
def kd : SemLoc sig → Kd
  | .reg _ => .bar
  | .dma i => kdN i.val

/-- The semaphore of a use. -/
def sem : Kd → SemLoc sig
  | .bar => .reg barS
  | .other => .dma (semQ cc0_scratch17 0)
  | .sR s => .dma (semS cc0_scratch9 s)
  | .rR s => .dma (semS cc0_scratch10 s)
  | .sL s => .dma (semS cc0_scratch11 s)
  | .rL s => .dma (semS cc0_scratch12 s)
  | .agS j h => .dma (semG cc0_scratch13 j h)
  | .agR j h => .dma (semG cc0_scratch14 j h)
  | .amS j => .dma (semA cc0_scratch15 j)
  | .amR j => .dma (semA cc0_scratch16 j)
  | .dq k => .dma (semQ cc0_scratch17 k)

theorem kd_sR : ∀ s : Fin 15, kd (sem (.sR s)) = .sR s := by decide +kernel
theorem kd_rR : ∀ s : Fin 15, kd (sem (.rR s)) = .rR s := by decide +kernel
theorem kd_sL : ∀ s : Fin 15, kd (sem (.sL s)) = .sL s := by decide +kernel
theorem kd_rL : ∀ s : Fin 15, kd (sem (.rL s)) = .rL s := by decide +kernel
theorem kd_amS : ∀ j : Fin 16, kd (sem (.amS j)) = .amS j := by decide +kernel
theorem kd_amR : ∀ j : Fin 16, kd (sem (.amR j)) = .amR j := by decide +kernel
theorem kd_agS : ∀ (j : Fin 16) (h : Fin 2), kd (sem (.agS j h)) = .agS j h := by decide +kernel
theorem kd_agR : ∀ (j : Fin 16) (h : Fin 2), kd (sem (.agR j h)) = .agR j h := by decide +kernel
theorem kd_dq : ∀ k : Fin 4, kd (sem (.dq k)) = .dq k := by decide +kernel
/-- A use is that of its semaphore. -/
theorem kd_sem (k : Kd) (hk : k ≠ .other) : kd (sem k) = k := by
  cases k with
  | bar => rfl
  | other => exact absurd rfl hk
  | sR s => exact kd_sR s
  | rR s => exact kd_rR s
  | sL s => exact kd_sL s
  | rL s => exact kd_rL s
  | amS j => exact kd_amS j
  | amR j => exact kd_amR j
  | agS j h => exact kd_agS j h
  | agR j h => exact kd_agR j h
  | dq k => exact kd_dq k

/-- The cell of device `c`'s semaphore of use `k`. -/
abbrev cl (c : Dev nD) (k : Kd) : GSem nD τ sig := ((c : Thread nD τ), sem k)

/-! ## Rows and blocks of the scratch buffers -/

theorem inbAm (j : Fin 16) : ∀ a, (![j.val, 0] : Fin 2 → Nat) a + S1x128.size a ≤ S16x128.size a := by revert j; decide
/-- Row `j` of the maxima. -/
abbrev rAm (j : Fin 16) : Rect S16x128 := Rect.unit (s := S16x128) ![j.val, 0] S1x128.size (inbAm j)
theorem inbAg (j : Fin 16) (h : Fin 2) : ∀ a, (![j.val, h.val, 0, 0] : Fin 4 → Nat) a + S1x1x256x1024.size a ≤ S16x2x256x1024.size a := by
  revert j h; decide
/-- Half `h` of device `j`'s quantised blocks. -/
abbrev rAg (j : Fin 16) (h : Fin 2) : Rect S16x2x256x1024 :=
  Rect.unit (s := S16x2x256x1024) ![j.val, h.val, 0, 0] S1x1x256x1024.size (inbAg j h)
theorem inbQ (h : Fin 2) : ∀ a, (![h.val, 0, 0] : Fin 3 → Nat) a + S1x256x1024.size a ≤ S2x256x1024.size a := by revert h; decide
/-- Half `h` of a pair of blocks. -/
abbrev rQ (h : Fin 2) : Rect S2x256x1024 := Rect.unit (s := S2x256x1024) ![h.val, 0, 0] S1x256x1024.size (inbQ h)
theorem inbD (k : Fin 4) : ∀ a, (![k.val, 0, 0] : Fin 3 → Nat) a + S1x256x1024.size a ≤ S4x256x1024.size a := by revert k; decide
/-- Slot `k` of the dequantised blocks. -/
abbrev rD (k : Fin 4) : Rect S4x256x1024 := Rect.unit (s := S4x256x1024) ![k.val, 0, 0] S1x256x1024.size (inbD k)
/-- The chunk of rows of the result that block `i` writes: the right half of device `i / 2` or the left half. -/
def chunk (i : Fin 32) : Fin 16 := if i.val % 2 = 0 then ⟨(i.val / 2 + 1) % 16, Nat.mod_lt _ (by decide)⟩ else ⟨(i.val / 2 + 15) % 16, Nat.mod_lt _ (by decide)⟩
theorem inbOut (i : Fin 32) : ∀ a, (![(chunk i).val, 0, 1024 * (i.val % 2)] : Fin 3 → Nat) a + S1x256x1024.size a ≤ S16x256x2048.size a := by
  revert i; decide
/-- The block of the result that block `i` of the last phase writes. -/
abbrev rOut (i : Fin 32) : Rect S16x256x2048 :=
  Rect.unit (s := S16x256x2048) ![(chunk i).val, 0, 1024 * (i.val % 2)] S1x256x1024.size (inbOut i)

/-- Half `h` of device `j`'s quantised blocks, as the two-dimensional block the copies move. -/
abbrev agB (j : Fin 16) (h : Fin 2) : Memref sig .tc .vmem S256x1024 .fp8e4m3 :=
  (agM.slice (rAg j h) (fun _ => rfl)).squeeze S256x1024 squeezes_S1x1x256x1024_S256x1024

/-- A slice of a whole buffer on device `c`, at any contents. -/
def any (c : Dev nD) {sp : Space} {sh : Shape} {e : EltTy} (M : Memref sig .tc sp sh e) : sProp 𝕄 :=
  iprop(∃ f, M.view.loc (c : Thread nD τ) ↦[M.view.set]{fullShare} f)

omit [FloatOps F] in
instance any_storable (c : Dev nD) {sp : Space} {sh : Shape} {e : EltTy} (M : Memref sig .tc sp sh e) :
    BI.Storable (upEmb : UEmb _ 𝕄) (any (F := F) c M) := by unfold any; infer_instance

/-- `M`'s elements on device `c`, read as `X`. -/
abbrev has (c : Dev nD) {sp : Space} {sh : Shape} {e : EltTy} (M : Memref sig .tc sp sh e) (q : PosShare TreeShare)
    (X : sh.Idx → Elt F e) : sProp 𝕄 := owns (c : Thread nD τ) M q X

/-! ## Contents -/

/-- Device `c`'s shard of the activations, as staged. -/
def xs (c : Dev nD) : (cc0_stg0_0 : Ref sig .tc).ty.Contents (Elt F) :=
  (win0_0.blk (0 : Fin 1)).view.read (Elt F) (m ((c : Thread nD τ).loc main_arg0))
/-- Device `c`'s shard of the weights, as staged. -/
def ws (c : Dev nD) : (cc0_stg1_0 : Ref sig .tc).ty.Contents (Elt F) :=
  (win0_1.blk (0 : Fin 1)).view.read (Elt F) (m ((c : Thread nD τ).loc main_arg1))

def X1 (c : Dev nD) : Vec F S1x256x256 .bf16 := xM.view.readAt (Elt F) (rx1 c).toLoadRect (xs m c)
def X2 (c : Dev nD) (s : Fin 15) : Vec F S1x256x256 .bf16 := xM.view.readAt (Elt F) (rx2 c s).toLoadRect (xs m c)
def X3 (c : Dev nD) (s : Fin 15) : Vec F S1x256x256 .bf16 := xM.view.readAt (Elt F) (rx3 c s).toLoadRect (xs m c)
def WL (c : Dev nD) : Vec F S256x1024 .bf16 := wM.view.readAt (Elt F) rwl.toLoadRect (ws m c)
def WR (c : Dev nD) : Vec F S256x1024 .bf16 := wM.view.readAt (Elt F) rwr.toLoadRect (ws m c)

/-- The partial sums device `c` sends on the right ring at hop `s`. -/
def sbR : ℕ → Dev nD → Vec F S1x256x1024 .bf16
  | 0, c => k0_pay2 (X1 m c) (WL m c)
  | s + 1, c => k0_pay7 (k0_pay5 (k0_pay4 (X2 m c (Fin.ofNat 15 s))) (WL m c)) (sbR s (prv c))
/-- The partial sums device `c` sends on the left ring at hop `s`. -/
def sbL : ℕ → Dev nD → Vec F S1x256x1024 .bf16
  | 0, c => k0_pay3 (X1 m c) (WR m c)
  | s + 1, c => k0_pay8 (k0_pay6 (X3 m c (Fin.ofNat 15 s)) (WR m c)) (sbL s (nxt c))

/-- Device `c`'s own complete block of the right ring, negative entries cut off. -/
def ownR (c : Dev nD) : Vec F S1x256x1024 .f32 := k0_pay74 (k0_pay72 (X2 m c 14) (WL m c)) (sbR m 14 (prv c))
/-- Device `c`'s own complete block of the left ring. -/
def ownL (c : Dev nD) : Vec F S1x256x1024 .f32 := k0_pay75 (k0_pay73 (X3 m c 14) (WR m c)) (sbL m 14 (nxt c))

/-- The row device `c` sends round: its own maximum, repeated. -/
def amv (c : Dev nD) : Vec F S1x128 .f32 := k0_pay77 (k0_pay76 (ownR m c) (ownL m c))
/-- The maxima of all the devices, row by row. -/
def amBuf : (cc0_scratch8 : Ref sig .tc).ty.Contents (Elt F) := fun i => amv m (i 0) (fun a => match a with | ⟨0, _⟩ => ⟨0, Nat.one_pos⟩ | ⟨1, _⟩ => i 1)

/-- The maximum of all, as the kernel holds it. -/
def gmax : FVec F S1x1x1 .f32 :=
  k0_pay78 (amM.view.readAt (Elt F) (Rect.unit (s := S16x128) ![0, 0] S16x128.size inb_S16x128_S16x128_0_0).toLoadRect (amBuf m))
/-- The scale the quantised values are multiplied by. -/
def scl : F .f32 := k0_pay81 (gmax m)
/-- Half `h` of device `c`'s quantised blocks. -/
def qv (c : Dev nD) (h : Fin 2) : Vec F S1x256x1024 .fp8e4m3 :=
  if h = 0 then k0_pay82 (gmax m) (ownR m c) else k0_pay83 (gmax m) (ownL m c)
/-- The same as a two-dimensional block. -/
def qv2 (c : Dev nD) (h : Fin 2) : Vec F S256x1024 .fp8e4m3 := shapeCast S256x1024 (qv m c h) shapeCasts_S1x256x1024_S256x1024
/-- A quantised block times the scale. -/
def deq (q : FVec F S256x1024 .fp8e4m3) (k : F .f32) : FVec F S256x1024 .f32 :=
  mulf (extf .f32 q bitsLt_fp8e4m3_f32) (broadcast S256x1024 k)
/-- Block `i` of the result. -/
def ob (i : Fin 32) : Vec F S1x256x1024 .f32 :=
  shapeCast S1x256x1024 (deq (qv2 m ⟨i.val / 2, by have := i.isLt; change i.val / 2 < 16; omega⟩ ⟨i.val % 2, Nat.mod_lt _ (by decide)⟩) (scl m)) shapeCasts_S256x1024_S1x256x1024

/-! ## The schedule -/

abbrev NS : ℕ := (slotS lrM 0).view.dmaCredit
abbrev NA : ℕ := (amM.slice (rAm 0) (fun _ => rfl)).view.dmaCredit
abbrev NG : ℕ := (agB 0 0).view.dmaCredit
abbrev ND : ℕ := ((oM.slice (rOut 0) (fun _ => rfl)).squeeze S256x1024 squeezes_S1x256x1024_S256x1024).view.dmaCredit

/-- What device `j` may write on device `d`: row `j` of its maxima and the two halves of block `j` of its gathered blocks. -/
def permit (d j : Dev nD) : sProp 𝕄 :=
  iprop(any (F := F) d (amM.slice (rAm j) (fun _ => rfl)) ∗ any (F := F) d (agM.slice (rAg j 0) (fun _ => rfl))
    ∗ any (F := F) d (agM.slice (rAg j 1) (fun _ => rfl)))
/-- The permits on device `d` of the `n` devices from `e` on. -/
def permits (d : Dev nD) : Dev nD → ℕ → sProp 𝕄
  | _, 0 => iprop(emp)
  | e, n + 1 => iprop(permit (F := F) d e ∗ permits d (nxt e) n)
/-- The device whose permits arrive at `c` with hop `s`. -/
abbrev org (c : Dev nD) (s : ℕ) : Dev nD := pls c (15 - s)

omit [FloatOps F] in
instance permit_storable (d j : Dev nD) : BI.Storable (upEmb : UEmb _ 𝕄) (permit (F := F) d j) := by unfold permit; infer_instance
omit [FloatOps F] in
instance permits_storable (d e : Dev nD) (n : ℕ) : BI.Storable (upEmb : UEmb _ 𝕄) (permits (F := F) d e n) := by
  induction n generalizing e with
  | zero => unfold permits; infer_instance
  | succ n ih => unfold permits; have := ih (nxt e); infer_instance

/-- The share of a row or block the copy to device `d` reads. -/
abbrev shr (d : Fin 16) : PosShare TreeShare := shareTok fullShare 16 d
/-- The share kept. -/
abbrev shr0 : PosShare TreeShare := shareDrop fullShare 16

/-- The duties of round `r` of device `c`'s semaphore of use `k`. -/
def dut (c : Dev nD) (k : Kd) (r : ℕ) : Finset Bool :=
  match k with
  | .bar => if r = 0 then {false, true} else ∅
  | .other => ∅
  | .sR _ | .rR _ | .sL _ | .rL _ => if r = 0 then {false} else ∅
  | .amS j | .amR j | .agS j _ | .agR j _ => if r = 0 ∧ j ≠ c then {false} else ∅
  | .dq _ => if r < 8 then {false} else ∅

/-- The units of a duty. -/
def amt (k : Kd) : ℕ :=
  match k with
  | .bar | .other => 1
  | .sR _ | .rR _ | .sL _ | .rL _ => NS
  | .amS _ | .amR _ => NA
  | .agS _ _ | .agR _ _ => NG
  | .dq _ => ND

/-- What a duty hands to the owner. -/
def pay (c : Dev nD) (k : Kd) (r : ℕ) (d : Bool) : sProp 𝕄 :=
  match k with
  | .bar => if d then bigSep Finset.univ fun s : Fin 15 => any (F := F) (nxt c) (lrM.slice (rS s) (fun _ => rfl))
      else bigSep Finset.univ fun s : Fin 15 => any (F := F) (prv c) (llM.slice (rS s) (fun _ => rfl))
  | .other => iprop(emp)
  | .sR s => has c (srM.slice (rS s) (fun _ => rfl)) fullShare (sbR m s c)
  | .sL s => has c (slM.slice (rS s) (fun _ => rfl)) fullShare (sbL m s c)
  | .rR s => iprop(has c (lrM.slice (rS s) (fun _ => rfl)) fullShare (sbR m s (prv c)) ∗ permits (F := F) (org c s) c (15 - s))
  | .rL s => has c (llM.slice (rS s) (fun _ => rfl)) fullShare (sbL m s (nxt c))
  | .amS j => has c (amM.slice (rAm c) (fun _ => rfl)) (shr j) (amv m c)
  | .amR j => has c (amM.slice (rAm j) (fun _ => rfl)) fullShare (amv m j)
  | .agS j h => has c (qM.slice (rQ h) (fun _ => rfl)) (shr j) (qv m c h)
  | .agR j h => has c (agB j h) fullShare (qv2 m j h)
  | .dq k => iprop(has c (oM.slice (rOut (Fin.ofNat 32 (4 * r + k))) (fun _ => rfl)) fullShare (ob m (Fin.ofNat 32 (4 * r + k)))
      ∗ any (F := F) c (dqM.slice (rD k) (fun _ => rfl)))

instance pay_storable (c : Dev nD) (k : Kd) (r : ℕ) (d : Bool) : BI.Storable (upEmb : UEmb _ 𝕄) (pay m c k r d) := by
  cases k <;> unfold pay <;> dsimp only <;> (repeat' split) <;> infer_instance

theorem NS_pos : 0 < NS := View.dmaCredit_pos _ (by decide)
theorem NA_pos : 0 < NA := View.dmaCredit_pos _ (by decide)
theorem NG_pos : 0 < NG := View.dmaCredit_pos _ (by decide)
theorem ND_pos : 0 < ND := View.dmaCredit_pos _ (by decide)
theorem amt_pos (k : Kd) : 0 < amt k := by
  cases k <;> unfold amt <;> dsimp only <;> first | exact Nat.one_pos | exact NS_pos | exact NA_pos | exact NG_pos | exact ND_pos

/-- The schedule of all the cells. -/
def Rd : Rounds.Schedule (GSem nD τ sig) Bool 𝕄 where
  duties g r := if g.1.2 = .tc then dut g.1.1 (kd g.2) r else ∅
  amount g _ _ := amt (kd g.2)
  payload g r d := pay m g.1.1 (kd g.2) r d
  amount_pos g _ _ _ := amt_pos _

instance Rd_storable (g : GSem nD τ sig) (r : ℕ) (d : Bool) : BI.Storable (upEmb : UEmb _ 𝕄) ((Rd (F := F) m).payload g r d) :=
  pay_storable m _ _ _ _

theorem Rd_duties (c : Dev nD) (sm : SemLoc sig) (r : ℕ) : (Rd m).duties ((c : Thread nD τ), sm) r = dut c (kd sm) r := by
  dsimp only [Rd]; exact if_pos rfl
theorem Rd_amount (c : Dev nD) (sm : SemLoc sig) (r : ℕ) (d : Bool) : (Rd m).amount ((c : Thread nD τ), sm) r d = amt (kd sm) := rfl
theorem Rd_payload (c : Dev nD) (sm : SemLoc sig) (r : ℕ) (d : Bool) : (Rd m).payload ((c : Thread nD τ), sm) r d = pay m c (kd sm) r d := rfl

end Cert.KernelIdeal.Run

end
-- ==== Proof.Rules.lean ====
module

public import proofs.«01_k».proof.Proof.Common

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The cells and their records -/

/-- The kernel's own semaphores: the transfer semaphores after the two of the staging. -/
def osem (k : Fin 160) : SemLoc sig := .dma ⟨2 + k.val, Nat.add_lt_add_left k.isLt 2⟩
/-- Every semaphore of the protocol. -/
def csem : Option (Fin 160) → SemLoc sig
  | none => .reg barS
  | some k => osem k
/-- Every cell of the protocol. -/
def kcell (ck : Dev nD × Option (Fin 160)) : GSem nD τ sig := ((ck.1 : Thread nD τ), csem ck.2)

theorem osem_injective : Function.Injective osem := fun a b h => by
  have h' := SemLoc.dma.inj h
  have := congrArg Fin.val h'
  exact Fin.ext (Nat.add_left_cancel this)
theorem csem_injective : Function.Injective csem := fun a b h => by
  cases a <;> cases b
  · rfl
  · exact absurd h (fun h => by cases h)
  · exact absurd h (fun h => by cases h)
  · exact congrArg some (osem_injective h)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- The cells of the protocol. -/
def ringCells : Finset (GSem nD τ sig) := Finset.univ.map ⟨kcell, kcell_injective⟩

/-- A transfer semaphore that is not one of the staging's is one of the protocol's. -/
theorem dma_mem (i : DmaSem sig) (h : 2 ≤ i.val) : ∃ o, csem o = .dma i :=
  ⟨some ⟨i.val - 2, by have := i.isLt; change i.val < 162 at this; omega⟩, congrArg SemLoc.dma (Fin.ext (by show 2 + (i.val - 2) = i.val; omega))⟩
theorem kdN_other {i : ℕ} (h : kdN i ≠ .other) : 2 ≤ i := by
  by_contra hn
  exact h (by unfold kdN; rw [if_pos (by omega)])
/-- Every semaphore with a use is one of the protocol's. -/
theorem mem_csem (sm : SemLoc sig) (h : kd sm ≠ .other) : ∃ o, csem o = sm := by
  cases sm with
  | reg i => exact ⟨none, congrArg SemLoc.reg (Subsingleton.elim (α := Fin 1) _ _)⟩
  | dma i => exact dma_mem i (kdN_other h)
theorem mem_ringCells (c : Dev nD) (sm : SemLoc sig) (h : kd sm ≠ .other) : ((c : Thread nD τ), sm) ∈ ringCells := by
  obtain ⟨o, ho⟩ := mem_csem sm h
  exact Finset.mem_map.mpr ⟨(c, o), Finset.mem_univ _, by show ((c : Thread nD τ), csem o) = _; rw [ho]⟩

/-- Every cell's invariant, and that its first round is open. -/
def recs (K : GSem nD τ sig → ℕ) : sProp 𝕄 :=
  bigSep ringCells fun g => iprop(cellInv ER (Rd m) (K g) g ∗ reached ER g 0)

instance recs_persistent (K : GSem nD τ sig → ℕ) : BI.Persistent (recs m K) := by unfold recs; infer_instance

theorem recs_at (K : GSem nD τ sig → ℕ) (c : Dev nD) (sm : SemLoc sig) (h : kd sm ≠ .other) :
    recs m K ⊢ iprop(cellInv ER (Rd m) (K ((c : Thread nD τ), sm)) ((c : Thread nD τ), sm) ∗ reached ER ((c : Thread nD τ), sm) 0) := by
  unfold recs
  exact bigSep_elim (mem_ringCells c sm h)

/-! ## What is owed, and the levels -/

/-- The `i`-th payment device `c` makes: the two barrier signals, the sends of the hops, the maxima, the quantised halves. -/
def pays (c : Dev nD) (i : ℕ) : CellTallies nD τ sig Unit :=
  if i = 0 then tallyAt (cl (prv c) .bar) () 1
  else if i = 1 then tallyAt (cl (nxt c) .bar) () 1
  else if i < 32 then
    if i % 2 = 0 then tallyAt (cl (nxt c) (.rR (Fin.ofNat 15 ((i - 2) / 2)))) () NS
    else tallyAt (cl (prv c) (.rL (Fin.ofNat 15 ((i - 2) / 2)))) () NS
  else if i < 48 then
    if (Fin.ofNat 16 (i - 32) : Dev nD) = c then 0 else tallyAt (cl (Fin.ofNat 16 (i - 32) : Dev nD) (.amR c)) () NA
  else
    if (Fin.ofNat 16 ((i - 48) / 2) : Dev nD) = c then 0
    else tallyAt (cl (Fin.ofNat 16 ((i - 48) / 2) : Dev nD) (.agR c (Fin.ofNat 2 i))) () NG

/-- What device `c` still owes after its first `n` payments. -/
def ow (c : Dev nD) (n : ℕ) : CellTallies nD τ sig Unit := ∑ i ∈ Finset.Ico n 80, pays c i

theorem ow_succ (c : Dev nD) {n : ℕ} (h : n < 80) : ow c n = ow c (n + 1) + pays c n := by
  have e : Finset.Ico n 80 = insert n (Finset.Ico (n + 1) 80) := by
    ext x; simp only [Finset.mem_insert, Finset.mem_Ico]; omega
  unfold ow; rw [e, Finset.sum_insert (by simp only [Finset.mem_Ico]; omega), add_comm]
theorem ow_last (c : Dev nD) : ow c 80 = 0 := by unfold ow; rw [Finset.Ico_self, Finset.sum_empty]
theorem ow_skip (c : Dev nD) {n : ℕ} (h : n < 80) (h0 : pays c n = 0) : ow c n = ow c (n + 1) := by
  rw [ow_succ c h, h0, add_zero]

/-- The level of a use. -/
def lvK : Kd → ℕ
  | .bar => 1
  | .rR s | .rL s => 2 + s.val
  | .amR _ => 20
  | .agR _ _ => 21
  | _ => 0
def L (g : GSem nD τ sig) : Finset Unit := if g.1.2 = .tc then {()} else ∅
def lv (g : GSem nD τ sig) (_ : Unit) : ℕ := lvK (kd g.2)
theorem L_of_ne (g : GSem nD τ sig) (h : g.1.2 ≠ .tc) : L g = ∅ := if_neg h
theorem L_tc (c : Dev nD) (sm : SemLoc sig) : L ((c : Thread nD τ), sm) = {()} := if_pos rfl

/-- The least level of the payments from the `n`-th on. -/
def lvi (n : ℕ) : ℕ := if n < 2 then 1 else if n < 32 then 2 + (n - 2) / 2 else if n < 48 then 20 else 21

theorem lvi_mono {a b : ℕ} (h : a ≤ b) : lvi a ≤ lvi b := by unfold lvi; (repeat' split) <;> omega

theorem tallyAt_pos {g g' : GSem nD τ sig} {u u' : Unit} {k : ℕ} (h : 0 < tallyAt g u k g' u') : g' = g := by
  rw [tallyAt_apply] at h
  by_contra hn
  rw [if_neg (fun h' => hn h'.1)] at h
  exact Nat.lt_irrefl 0 h

theorem pays_pos {c : Dev nD} {i : ℕ} (hi : i < 80) {g : GSem nD τ sig} {u : Unit} (h : 0 < pays c i g u) :
    g.1.2 = .tc ∧ lvi i ≤ lv g u := by
  unfold pays at h
  split at h
  · next e => subst e; rw [tallyAt_pos h]; exact ⟨rfl, le_refl 1⟩
  split at h
  · next _ e => subst e; rw [tallyAt_pos h]; exact ⟨rfl, le_refl 1⟩
  split at h
  · next h0 h1 h2 =>
    have hs : (Fin.ofNat 15 ((i - 2) / 2)).val = (i - 2) / 2 := Nat.mod_eq_of_lt (by omega)
    have hl : lvi i = 2 + (i - 2) / 2 := by unfold lvi; rw [if_neg (by omega), if_pos h2]
    split at h
    · rw [tallyAt_pos h]; refine ⟨rfl, ?_⟩
      show lvi i ≤ lvK (kd (sem (.rR _))); rw [kd_rR, hl]; show _ ≤ 2 + (Fin.ofNat 15 ((i - 2) / 2)).val; rw [hs]
    · rw [tallyAt_pos h]; refine ⟨rfl, ?_⟩
      show lvi i ≤ lvK (kd (sem (.rL _))); rw [kd_rL, hl]; show _ ≤ 2 + (Fin.ofNat 15 ((i - 2) / 2)).val; rw [hs]
  split at h
  · next h0 h1 h2 h3 =>
    split at h
    · exact absurd h (Nat.lt_irrefl 0)
    · rw [tallyAt_pos h]; refine ⟨rfl, ?_⟩
      show lvi i ≤ lvK (kd (sem (.amR _))); rw [kd_amR]
      unfold lvi; rw [if_neg (by omega), if_neg h2, if_pos h3]; exact le_refl 20
  · next h0 h1 h2 h3 =>
    split at h
    · exact absurd h (Nat.lt_irrefl 0)
    · rw [tallyAt_pos h]; refine ⟨rfl, ?_⟩
      show lvi i ≤ lvK (kd (sem (.agR _ _))); rw [kd_agR]
      unfold lvi; rw [if_neg (by omega), if_neg h2, if_neg h3]; exact le_refl 21

theorem ow_pos {c : Dev nD} {n : ℕ} {g : GSem nD τ sig} {u : Unit} (h : 0 < ow c n g u) : g.1.2 = .tc ∧ lvi n ≤ lv g u := by
  unfold ow at h
  rw [Finset.sum_apply, Finsupp.finset_sum_apply] at h
  obtain ⟨i, hi, hp⟩ := Finset.exists_ne_zero_of_sum_ne_zero (Nat.pos_iff_ne_zero.mp h)
  rw [Finset.mem_Ico] at hi
  have := pays_pos hi.2 (Nat.pos_of_ne_zero hp)
  exact ⟨this.1, (lvi_mono hi.1).trans this.2⟩

omit [FloatOps F] in
/-- A wait at a level below everything still owed is allowed. -/
theorem mayWait (c : Dev nD) (sm : SemLoc sig) (n : ℕ) (h : lvK (kd sm) < lvi n ∨ n = 80) :
    (levAts L lv : sProp 𝕄) ⊢ MayWait (c : Thread nD τ) sm () (ow c n) := by
  rcases h with h | rfl
  · exact MayOwe.of_cut (L := L) (lev := lv) (lvK (kd sm))
      (fun p hp => by rw [Finset.mem_singleton.mp hp, L_tc]; exact Finset.mem_singleton_self _)
      (fun g u hg => by unfold L; rw [if_pos (ow_pos hg).1]; exact Finset.mem_singleton_self _)
      (fun p hp => by rw [Finset.mem_singleton.mp hp]; exact le_refl _)
      (fun g u hg => lt_of_lt_of_le h (ow_pos hg).2)
  · rw [ow_last, MayWait_zero]; iintro -; iempintro

/-- Device `c` owes what is left after `n` payments. -/
def owesE (c : Dev nD) (n : ℕ) : sProp 𝕄 := iprop(∃ W, owes (c : Thread nD τ) (ow c n) W)

/-! ## Reading and writing slices -/

omit [FloatOps F] in
theorem set_squeeze {sp : Space} {sh : Shape} {e : EltTy} (M : Memref sig .tc sp sh e) (s' : Shape) (h : Shape.Squeezes sh s') :
    (M.squeeze s' h).view.set = M.view.set := View.set_reshape (v := M.view) h.numel_eq

omit [FloatOps F] in
/-- A whole view's slice, read as `X`, is the squeezed slice read as `X` reshaped. -/
theorem has_squeeze (c : Dev nD) {sp : Space} {sh : Shape} {e : EltTy} (M : Memref sig .tc sp sh e) (s' : Shape)
    (h : Shape.Squeezes sh s') (q : PosShare TreeShare) (X : sh.Idx → Elt F e) (hc : s'.numel = sh.numel) :
    has (F := F) c M q X ⊢ has c (M.squeeze s' h) q (fun j => X (Shape.reshapeEquiv hc j)) := by
  unfold has owns
  iintro ⟨%f, %hf, H⟩
  iexists f
  isplitr
  · ipureintro; rw [← hf]; rfl
  · rw [set_squeeze]; iexact H

omit [FloatOps F] in
/-- The converse. -/
theorem has_unsqueeze (c : Dev nD) {sp : Space} {sh : Shape} {e : EltTy} (M : Memref sig .tc sp sh e) (s' : Shape)
    (h : Shape.Squeezes sh s') (q : PosShare TreeShare) (X : sh.Idx → Elt F e) (hc : s'.numel = sh.numel) :
    has (F := F) c (M.squeeze s' h) q (fun j => X (Shape.reshapeEquiv hc j)) ⊢ has c M q X := by
  unfold has owns
  iintro ⟨%f, %hf, H⟩
  iexists f
  isplitr
  · ipureintro
    funext y
    have := congrFun hf ((Shape.reshapeEquiv hc).symm y)
    rw [Equiv.apply_symm_apply] at this
    rw [← this]
    exact congrArg (M.view.read (Elt F) f) (Equiv.apply_symm_apply (Shape.reshapeEquiv hc) y).symm
  · rw [set_squeeze]; iexact H

omit [FloatOps F] in
/-- A squeezed slice at any contents. -/
theorem any_squeeze (c : Dev nD) {sp : Space} {sh : Shape} {e : EltTy} (M : Memref sig .tc sp sh e) (s' : Shape)
    (h : Shape.Squeezes sh s') : any (F := F) c (M.squeeze s' h) = any c M := by
  unfold any
  rw [set_squeeze]

omit [FloatOps F] in
theorem any_of_has (c : Dev nD) {sp : Space} {sh : Shape} {e : EltTy} (M : Memref sig .tc sp sh e) (X : sh.Idx → Elt F e) :
    has (F := F) c M fullShare X ⊢ any c M := by
  unfold has owns any
  iintro ⟨%f, %hf, H⟩
  iexists f; iexact H

/-! ## One instruction at a time -/

omit [FloatOps F] in
theorem sepR {R P Q : sProp 𝕄} (h : P ⊢ Q) : iprop(R ∗ P) ⊢ iprop(R ∗ Q) := by
  iintro ⟨HR, HP⟩
  isplitl [HR]; · iexact HR
  iapply h $$ HP
omit [FloatOps F] in
theorem sepL {R P Q : sProp 𝕄} (h : P ⊢ Q) : iprop(P ∗ R) ⊢ iprop(Q ∗ R) := by
  iintro ⟨HP, HR⟩
  isplitl [HP]; · iapply h $$ HP
  iexact HR

theorem ofNat_val {n : ℕ} [NeZero n] (s : Fin n) : Fin.ofNat n s.val = s := Fin.ext (Nat.mod_eq_of_lt s.isLt)

/-- What every step may use: the records and the levels. -/
def ctx (K : GSem nD τ sig → ℕ) : sProp 𝕄 := iprop(recs m K ∗ levAts L lv)
instance ctx_persistent (K : GSem nD τ sig → ℕ) : BI.Persistent (ctx m K) := by unfold ctx; infer_instance

section
variable {m}

/-- Two programs one after the other. -/
theorem seq {α β : Type} {K : GSem nD τ sig → ℕ} {c : Dev nD} {p : PR F α} {k : α → PR F β} {A : sProp 𝕄} (B : α → sProp 𝕄) {Q : β → sProp 𝕄}
    (h1 : iprop(ctx m K ∗ A) ⊢ Wp c p B) (h2 : ∀ v, iprop(ctx m K ∗ B v) ⊢ Wp c (k v) Q) :
    iprop(ctx m K ∗ A) ⊢ Wp c (p >>= k) Q := by
  unfold Wp
  rw [wp_bind]
  iintro ⟨#HC, HA⟩
  ihave H := h1 $$ [HA]
  · isplitr; · iexact HC
    iexact HA
  unfold Wp
  iapply (wp_wand) $$ H
  iintro %v HB
  ihave H2 := h2 v $$ [HB]
  · isplitr; · iexact HC
    iexact HB
  iexact H2

/-- The end of a program. -/
theorem fin {α : Type} {K : GSem nD τ sig → ℕ} {c : Dev nD} {a : α} {A : sProp 𝕄} {Q : α → sProp 𝕄} (h : A ⊢ Q a) :
    iprop(ctx m K ∗ A) ⊢ Wp c (pure a) Q := by
  unfold Wp
  rw [Prog.pure_eq_ret, wp_ret]
  iintro ⟨-, HA⟩
  imodintro
  iapply h $$ HA

/-- A wait on a semaphore whose one duty of the open round hands over `P`. -/
theorem wait_spec {K : GSem nD τ sig → ℕ} {c : Dev nD} {n r N : ℕ} {sm : SemLoc sig} {w : TpuEff nD τ sig (Elt F) Λ₀ .tc PUnit} {d : Bool}
    (hw : ∀ K : PUnit → sProp 𝕄, wpE' defs₀ 𝒱₀ (c : Thread nD τ) none ∅ Set.univ w K = waitSpec (c : Thread nD τ) Set.univ sm N K)
    (hk : kd sm ≠ .other) (hd : dut c (kd sm) r = {d}) (hN : amt (kd sm) = N) (hl : lvK (kd sm) < lvi n ∨ n = 80) :
    iprop(ctx m K ∗ (owesE c n ∗ atPos ER ((c : Thread nD τ), sm) r ∅ 0 ∗ cred (tallyAt ((c : Thread nD τ), sm) () N)))
      ⊢ Wp c (Prog.lift w) (fun _ => iprop(owesE c n ∗ atPos ER ((c : Thread nD τ), sm) (r + 1) ∅ 0 ∗ reached ER ((c : Thread nD τ), sm) (r + 1)
        ∗ pay m c (kd sm) r d)) := by
  unfold ctx owesE
  iintro ⟨⟨#HR, #HL⟩, ⟨%W, HO⟩, Hat, Hc⟩
  ihave #Hi := (recs_at m K c sm hk) $$ HR
  icases Hi with ⟨#Hi, #Hr⟩
  unfold Wp Prog.lift
  iapply (Rounds.wp_wait_rest_token 𝒱₀ ER (Rd m) (c : Thread nD τ) none (κ := K ((c : Thread nD τ), sm))
      hw (Set.mem_univ _) () (O := ow c n) (W := W) (R := r) (m := 0) (T := ∅)
      (by rw [Nat.zero_add]; unfold Rounds.Schedule.expect; rw [Rd_duties, hd]; unfold Rounds.Schedule.amountOf; rw [Finset.sum_singleton, Rd_amount, hN])) $$ [HO Hat Hc]
  · isplitr; · iexact Hi
    isplitl [Hc]; · iexact Hc
    isplitl [HO]; · iexact HO
    isplitr; · iapply (mayWait c sm n hl) $$ HL
    iexact Hat
  iintro ⟨HO, Hat, Hre, Hp⟩
  ihave Hp := (Entails.of_eq (show bigSep ((Rd m).duties ((c : Thread nD τ), sm) r \ ∅) (fun d => (Rd m).payload ((c : Thread nD τ), sm) r d)
      = pay m c (kd sm) r d by rw [Rd_duties, hd, Finset.sdiff_empty, bigSep_singleton]; rfl)) $$ Hp
  rw [wp_ret]
  imodintro
  isplitl [HO]; · iexists _; iexact HO
  isplitl [Hat]; · iexact Hat
  isplitl [Hre]; · iexact Hre
  iexact Hp

/-- A copy to another device. -/
theorem send_spec {K : GSem nD τ sig → ℕ} {c c' : Dev nD} {n N : ℕ} {sp sp' : Space} {s : Shape} {e : EltTy}
    {src : Memref sig .tc sp s e} {dst : Memref sig .tc sp' s e} {hsc : dst.view.ref.isScScratch = false} {sS sR : SemLoc sig}
    {hsrc : src.view.WordExact} {hdst : dst.view.WordExact} {hsem : DmaTarget.Typed sp sR (.remote (c' : Thread nD τ) dst sS hsc)}
    {q : PosShare TreeShare} {X : s.Idx → Elt F e} {Fx : sProp 𝕄}
    (h1 : kd sS ≠ .other) (h2 : kd sR ≠ .other) (hd1 : dut c (kd sS) 0 = {false}) (hd2 : dut c' (kd sR) 0 = {false})
    (hN : dst.view.amount sR = N) (hN1 : amt (kd sS) = N) (hN2 : amt (kd sR) = N)
    (hn : n < 80) (hO : pays c n = tallyAt ((c' : Thread nD τ), sR) () N)
    (hp1 : has c src q X ⊢ pay m c (kd sS) 0 false) (hp2 : iprop(has c' dst fullShare X ∗ Fx) ⊢ pay m c' (kd sR) 0 false)
    (hr : τ.routes (c : Thread nD τ) (c' : Thread nD τ) = true := by routes) :
    iprop(ctx m K ∗ (owesE c n ∗ has c src q X ∗ (any c' dst ∗ Fx) ∗ dutyTok ER ((c : Thread nD τ), sS) 0 false ∗ dutyTok ER ((c' : Thread nD τ), sR) 0 false))
      ⊢ Wp c (Prog.lift (.enqueueDma src (.remote (c' : Thread nD τ) dst sS hsc) sR hsrc hdst hsem))
          (fun _ => iprop(owesE c (n + 1) ∗ cred (tallyAt ((c : Thread nD τ), sS) () N))) := by
  unfold ctx owesE any
  iintro ⟨⟨#HR, -⟩, ⟨%W, HO⟩, Hs, ⟨⟨%fd, Hd⟩, Hf⟩, Ht1, Ht2⟩
  unfold has owns
  icases Hs with ⟨%fs, %hfs, Hs⟩
  ihave #Hi := (recs_at m K c sS h1) $$ HR
  ihave #Hj := (recs_at m K c' sR h2) $$ HR
  icases Hi with ⟨#Hi1, #Hi2⟩
  icases Hj with ⟨#Hj1, #Hj2⟩
  unfold Wp Prog.lift
  iapply (Rounds.wp_send_pointsTo_with 𝒱₀ ER (Rd m) (c : Thread nD τ) none (c' := (c' : Thread nD τ)) (src := src) (dst := dst)
      (sS := sS) (sem := sR) (q := q) (fs := fs) (fd := fd) (F := Fx) (r₁ := 0) (r₂ := 0) (d₁ := false) (d₂ := false)
      (κ₁ := K ((c : Thread nD τ), sS)) (κ₂ := K ((c' : Thread nD τ), sR))
      (by rw [Rd_duties, hd1]; exact Finset.mem_singleton_self _) (by rw [Rd_duties, hd2]; exact Finset.mem_singleton_self _)
      () () N hN hN1 hN2 (O₀ := ow c n) (ow c (n + 1)) (by rw [ow_succ c hn, hO]) (W := W)
      (by rw [Rd_payload]; exact (owns_intro (c : Thread nD τ) src q fs).trans (by rw [hfs]; exact hp1))
      (by rw [Rd_payload]
          refine (sep_mono_left ?_).trans hp2
          refine (owns_intro (c' : Thread nD τ) dst fullShare _).trans ?_
          rw [View.read_write_univ, hfs]) hr) $$ [HO Hs Hd Hf Ht1 Ht2]
  · isplitr; · iexact Hi1
    isplitr; · iexact Hj1
    isplitl [Hs]; · iexact Hs
    isplitl [Hd Hf]
    · isplitl [Hd]; · iexact Hd
      iexact Hf
    isplitl [HO]; · iexact HO
    isplitl [Ht1]; · iexact Ht1
    isplitr; · iexact Hi2
    isplitl [Ht2]; · iexact Ht2
    iexact Hj2
  iintro ⟨Hc, HO⟩
  rw [wp_ret]
  imodintro
  isplitl [HO]; · iexists _; iexact HO
  iexact Hc

/-- A local copy. -/
theorem copy_spec {K : GSem nD τ sig → ℕ} {c : Dev nD} {r N : ℕ} {sp sp' : Space} {s : Shape} {e : EltTy}
    {src : Memref sig .tc sp s e} {dst : Memref sig .tc sp' s e} {sR : SemLoc sig}
    {hsrc : src.view.WordExact} {hdst : dst.view.WordExact} {hsem : DmaTarget.Typed (nD := nD) (p := (.tc : Proc τ)) sp sR (.here dst)}
    {q : PosShare TreeShare} {X : s.Idx → Elt F e}
    (h2 : kd sR ≠ .other) (hd2 : dut c (kd sR) r = {false})
    (hN : dst.view.amount sR = N) (hN2 : amt (kd sR) = N)
    (hp2 : iprop(has c dst fullShare X ∗ has c src q X) ⊢ pay m c (kd sR) r false) :
    iprop(ctx m K ∗ (has c src q X ∗ any c dst ∗ dutyTok ER ((c : Thread nD τ), sR) r false ∗ reached ER ((c : Thread nD τ), sR) r))
      ⊢ Wp c (Prog.lift (.enqueueDma src (.here dst) sR hsrc hdst hsem))
          (fun _ => cred (tallyAt ((c : Thread nD τ), sR) () N)) := by
  unfold ctx any
  iintro ⟨⟨#HR, -⟩, Hs, ⟨%fd, Hd⟩, Ht2, Hre⟩
  unfold has owns
  icases Hs with ⟨%fs, %hfs, Hs⟩
  ihave #Hj := (recs_at m K c sR h2) $$ HR
  icases Hj with ⟨#Hj1, #Hj2⟩
  unfold Wp Prog.lift
  iapply (Rounds.wp_copy_pointsTo 𝒱₀ ER (Rd m) (c : Thread nD τ) none (src := src) (dst := dst)
      (sem := sR) (q := q) (fs := fs) (fd := fd) (r := r) (d := false) (κ := K ((c : Thread nD τ), sR))
      (by rw [Rd_duties, hd2]; exact Finset.mem_singleton_self _)
      () N hN hN2
      (by rw [Rd_payload]
          refine (BI.sep_mono ?_ ?_).trans hp2
          · refine (owns_intro (c : Thread nD τ) dst fullShare _).trans ?_
            rw [View.read_write_univ, hfs]
          · refine (owns_intro (c : Thread nD τ) src q fs).trans ?_
            rw [hfs])) $$ [Hs Hd Ht2 Hre]
  · isplitr; · iexact Hj1
    isplitl [Hs]; · iexact Hs
    isplitl [Hd]; · iexact Hd
    isplitl [Ht2]; · iexact Ht2
    iexact Hre
  iintro Hc
  rw [wp_ret]
  imodintro
  iexact Hc

/-- A program continued: its triple at the head of a sequence. -/
theorem cps {α β : Type} {K : GSem nD τ sig → ℕ} {c : Dev nD} {p : PR F α} {k : α → PR F β} {A : sProp 𝕄} {B : α → sProp 𝕄} {Q : β → sProp 𝕄}
    (h1 : iprop(ctx m K ∗ A) ⊢ Wp c p B) :
    iprop(ctx m K ∗ A) ⊢ iprop((∀ v, B v -∗ Wp c (k v) Q) -∗ Wp c (p >>= k) Q) := by
  unfold Wp
  rw [wp_bind]
  iintro HA Hk
  ihave H := h1 $$ HA
  unfold Wp
  iapply (wp_wand) $$ H
  iexact Hk

/-- A wait for a payload of two duties. -/
theorem wait2_spec {K : GSem nD τ sig → ℕ} {c : Dev nD} {n r N : ℕ} {sm : SemLoc sig} {w : TpuEff nD τ sig (Elt F) Λ₀ .tc PUnit}
    (hw : ∀ K : PUnit → sProp 𝕄, wpE' defs₀ 𝒱₀ (c : Thread nD τ) none ∅ Set.univ w K = waitSpec (c : Thread nD τ) Set.univ sm N K)
    (hk : kd sm ≠ .other) (hd : dut c (kd sm) r = {false, true}) (hN : amt (kd sm) + amt (kd sm) = N) (hl : lvK (kd sm) < lvi n ∨ n = 80) :
    iprop(ctx m K ∗ (owesE c n ∗ atPos ER ((c : Thread nD τ), sm) r ∅ 0 ∗ cred (tallyAt ((c : Thread nD τ), sm) () N)))
      ⊢ Wp c (Prog.lift w) (fun _ => iprop(owesE c n ∗ atPos ER ((c : Thread nD τ), sm) (r + 1) ∅ 0
        ∗ pay m c (kd sm) r false ∗ pay m c (kd sm) r true)) := by
  unfold ctx owesE
  iintro ⟨⟨#HR, #HL⟩, ⟨%W, HO⟩, Hat, Hc⟩
  ihave #Hi := (recs_at m K c sm hk) $$ HR
  icases Hi with ⟨#Hi, #Hr⟩
  unfold Wp Prog.lift
  iapply (Rounds.wp_wait_rest_token 𝒱₀ ER (Rd m) (c : Thread nD τ) none (κ := K ((c : Thread nD τ), sm))
      hw (Set.mem_univ _) () (O := ow c n) (W := W) (R := r) (m := 0) (T := ∅)
      (by rw [Nat.zero_add]; unfold Rounds.Schedule.expect; rw [Rd_duties, hd]; unfold Rounds.Schedule.amountOf
          rw [Finset.sum_insert (by decide), Finset.sum_singleton, Rd_amount, Rd_amount, hN])) $$ [HO Hat Hc]
  · isplitr; · iexact Hi
    isplitl [Hc]; · iexact Hc
    isplitl [HO]; · iexact HO
    isplitr; · iapply (mayWait c sm n hl) $$ HL
    iexact Hat
  iintro ⟨HO, Hat, Hre, Hp⟩
  ihave Hp := (Entails.of_eq (show bigSep ((Rd m).duties ((c : Thread nD τ), sm) r \ ∅) (fun d => (Rd m).payload ((c : Thread nD τ), sm) r d)
      = iprop(pay m c (kd sm) r false ∗ pay m c (kd sm) r true) by
        rw [Rd_duties, hd, Finset.sdiff_empty, BI.bigSep_insert (by decide), bigSep_singleton]; rfl)) $$ Hp
  rw [wp_ret]
  imodintro
  isplitl [HO]; · iexists _; iexact HO
  isplitl [Hat]; · iexact Hat
  iexact Hp

/-- A signal of another device's barrier. -/
theorem signal_spec {K : GSem nD τ sig → ℕ} {c c' : Dev nD} {n : ℕ} {s : Sem sig} {d : Bool} {P : sProp 𝕄}
    (hd : d ∈ dut c' .bar 0) (hn : n < 80) (hO : pays c n = tallyAt ((c' : Thread nD τ), .reg s) () 1) (hP : P ⊢ pay m c' .bar 0 d)
    (hr : τ.routes (c : Thread nD τ) (c' : Thread nD τ) = true := by routes) :
    iprop(ctx m K ∗ (owesE c n ∗ dutyTok ER ((c' : Thread nD τ), .reg s) 0 d ∗ P))
      ⊢ Wp c (Prog.lift (.semSignal (c' : Thread nD τ) s 1)) (fun _ => owesE c (n + 1)) := by
  unfold ctx owesE
  iintro ⟨⟨#HR, -⟩, ⟨%W, HO⟩, Ht, HP⟩
  ihave #Hi := (recs_at m K c' (.reg s) (fun h => by cases h)) $$ HR
  icases Hi with ⟨#Hi, #Hr⟩
  ihave HP := (hP.trans (Entails.of_eq (Rd_payload m c' (.reg s) 0 d).symm)) $$ HP
  unfold Wp Prog.lift
  iapply (Rounds.wp_signal 𝒱₀ ER (Rd m) (c : Thread nD τ) none (dst := (c' : Thread nD τ)) (κ := K ((c' : Thread nD τ), .reg s)) (r := 0) (d := d)
      (by rw [Rd_duties]; exact hd) (by rw [Rd_amount]; rfl) () (O₀ := ow c n) (ow c (n + 1)) (by rw [ow_succ c hn, hO]) (W := W) (hr := hr)) $$ [HO Ht HP]
  · isplitr; · iexact Hi
    isplitl [HO]; · iexact HO
    isplitl [Ht]; · iexact Ht
    isplitl [HP]; · iexact HP
    iexact Hr
  iintro HO
  rw [wp_ret]
  imodintro
  iexists _; iexact HO

/-- A load from elements held. -/
theorem load_spec {K : GSem nD τ sig → ℕ} {c : Dev nD} {cs : CoreSpace} {sh : Shape} {e : EltTy} {M : Memref sig .tc cs sh e} {r : LoadRect sh} {hl : M.view.LoadsAt r}
    {S : Finset (Idx (M.view.loc (c : Thread nD τ)))} {q : PosShare TreeShare} {f : Buf (Elt F) (M.view.loc (c : Thread nD τ))} (hS : M.view.setOn r.set ⊆ S) :
    iprop(ctx m K ∗ (M.view.loc (c : Thread nD τ) ↦[S]{q} f))
      ⊢ Wp c (Prog.lift (.load M r hl)) (fun v => iprop(⌜v = M.view.readAt (Elt F) r f⌝ ∗ (M.view.loc (c : Thread nD τ) ↦[S]{q} f))) := by
  iintro ⟨-, H⟩
  unfold Wp Prog.lift
  iapply (wp_load 𝒱₀ (c : Thread nD τ) none Set.univ (m := M) hS) $$ H
  iintro H
  rw [wp_ret]
  imodintro
  isplitr; · ipureintro; rfl
  iexact H

/-- A load of a slice held. -/
theorem load_has {K : GSem nD τ sig → ℕ} {c : Dev nD} {cs : CoreSpace} {sh : Shape} {e : EltTy} {M : Memref sig .tc cs sh e} {r : Rect sh} {hl : M.view.LoadsAt r.toLoadRect}
    {hr : ∀ a, r.stride a = 1} {q : PosShare TreeShare} {X : r.shape.Idx → Elt F e} :
    iprop(ctx m K ∗ has c (M.slice r hr) q X)
      ⊢ Wp c (Prog.lift (.load M r.toLoadRect hl)) (fun v => iprop(⌜v = X⌝ ∗ has c (M.slice r hr) q X)) := by
  unfold has owns
  iintro ⟨HC, %f, %hf, H⟩
  unfold Wp Prog.lift
  iapply (wp_load 𝒱₀ (c : Thread nD τ) none Set.univ (m := M) (S := (M.slice r hr).view.set) (by
    show M.view.setOn r.set ⊆ (M.view.slice r).set
    rw [View.set_slice]; exact Finset.Subset.refl _)) $$ H
  iintro H
  rw [wp_ret]
  imodintro
  isplitr; · ipureintro; exact hf
  iexists f
  isplitr; · ipureintro; exact hf
  iexact H

/-- A load of a slice at any contents. -/
theorem load_any {K : GSem nD τ sig → ℕ} {c : Dev nD} {cs : CoreSpace} {sh : Shape} {e : EltTy} {M : Memref sig .tc cs sh e} {r : Rect sh} {hl : M.view.LoadsAt r.toLoadRect}
    {hr : ∀ a, r.stride a = 1} :
    iprop(ctx m K ∗ any (F := F) c (M.slice r hr))
      ⊢ Wp c (Prog.lift (.load M r.toLoadRect hl)) (fun _ => any (F := F) c (M.slice r hr)) := by
  unfold any
  iintro ⟨HC, %f, H⟩
  unfold Wp Prog.lift
  iapply (wp_load 𝒱₀ (c : Thread nD τ) none Set.univ (m := M) (S := (M.slice r hr).view.set) (by
    show M.view.setOn r.set ⊆ (M.view.slice r).set
    rw [View.set_slice]; exact Finset.Subset.refl _)) $$ H
  iintro H
  rw [wp_ret]
  imodintro
  iexists f
  iexact H

/-- A store of a slice. -/
theorem store_any {K : GSem nD τ sig → ℕ} {c : Dev nD} {cs : CoreSpace} {sh : Shape} {e : EltTy} {M : Memref sig .tc cs sh e} {r : Rect sh}
    {w : r.shape.Idx → Elt F e} {hx : (M.access r).Stores Finset.univ} {hm : (Finset.univ : Finset r.shape.Idx) = Finset.univ ∨ ∀ a, r.stride a = 1}
    {hr : ∀ a, r.stride a = 1} :
    iprop(ctx m K ∗ any (F := F) c (M.slice r hr))
      ⊢ Wp c (Prog.lift (.store M r w Finset.univ hx hm)) (fun _ => has c (M.slice r hr) fullShare w) := by
  unfold any
  iintro ⟨HC, %f, H⟩
  unfold Wp Prog.lift
  iapply (wp_store 𝒱₀ (c : Thread nD τ) none Set.univ (m := M) (r := r) (S := (M.slice r hr).view.set) (by
    show (M.view.slice r).setOn Finset.univ ⊆ (M.view.slice r).set
    rw [View.setOn_univ])) $$ H
  iintro H
  rw [wp_ret]
  imodintro
  unfold has owns
  iexists ((M.slice r hr).view.write (Elt F) f w Finset.univ)
  isplitr
  · ipureintro; exact View.read_write_univ _ _
  iexact H

end

/-! ## Families over an initial or a final segment -/

omit [FloatOps F] in
theorem bigSep_head {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, BI.bigSep_insert (by simp only [Finset.mem_Ico]; omega)]; rfl

omit [FloatOps F] in
theorem bigSep_imp {I : Type} {s : Finset I} {Φ Ψ : I → sProp 𝕄} (h : ∀ i ∈ s, Φ i ⊢ Ψ i) : bigSep s Φ ⊢ (bigSep s Ψ : sProp 𝕄) :=
  bigSep_mono h
omit [FloatOps F] in
theorem bigSep_zip {I : Type} (s : Finset I) (Φ Ψ : I → sProp 𝕄) : iprop(bigSep s Φ ∗ bigSep s Ψ) ⊢ bigSep s (fun i => iprop(Φ i ∗ Ψ i)) :=
  Entails.of_eq (BI.bigSep_sep s Φ Ψ).symm
omit [FloatOps F] in
theorem bigSep_unzip {I : Type} (s : Finset I) (Φ Ψ : I → sProp 𝕄) : bigSep s (fun i => iprop(Φ i ∗ Ψ i)) ⊢ iprop(bigSep s Φ ∗ bigSep s Ψ) :=
  Entails.of_eq (BI.bigSep_sep s Φ Ψ)

omit [FloatOps F] in
theorem bigSep_tail (a : ℕ) (Φ : ℕ → sProp 𝕄) :
    bigSep (Finset.range (a + 1)) Φ = iprop(Φ a ∗ bigSep (Finset.range a) Φ) := by
  rw [Finset.range_add_one, BI.bigSep_insert Finset.notMem_range_self]; rfl

omit [FloatOps F] in
/-- A family over `Fin n` by its numbers. -/
theorem bigSep_fin {n : ℕ} [NeZero n] (Φ : Fin n → sProp 𝕄) :
    bigSep Finset.univ Φ = bigSep (Finset.range n) (fun t => Φ (Fin.ofNat n t)) := by
  have e : Finset.range n = (Finset.univ : Finset (Fin n)).map Fin.valEmbedding := by
    ext x; simp only [Finset.mem_range, Finset.mem_map, Finset.mem_univ, true_and, Fin.valEmbedding_apply]
    exact ⟨fun h => ⟨⟨x, h⟩, rfl⟩, fun ⟨y, hy⟩ => hy ▸ y.isLt⟩
  rw [e, bigSep_map]
  refine bigSep_congr fun i _ => ?_
  show Φ i = Φ (Fin.ofNat n i.val)
  congr 1
  exact Fin.ext (Nat.mod_eq_of_lt i.isLt).symm

omit [FloatOps F] in
theorem bigSep_range_Ico (n : ℕ) (Φ : ℕ → sProp 𝕄) : bigSep (Finset.range n) Φ = bigSep (Finset.Ico 0 n) Φ := by
  rw [Finset.range_eq_Ico]

end Cert.KernelIdeal.Run

end
-- ==== Proof.Ring.lean ====
module

public import proofs.«01_k».proof.Proof.Rules

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The state of the ring phase -/

/-- Slot `s` of a buffer of fifteen. -/
abbrev sl (M : Memref sig .tc .vmem S15x256x1024 .bf16) (s : Fin 15) : Memref sig .tc .vmem S1x256x1024 .bf16 := M.slice (rS s) (fun _ => rfl)

/-- What hop `t` uses besides the two slots sent: the neighbours' landing slots, the four semaphores. -/
def SlotR (c : Dev nD) (t : Fin 15) : sProp 𝕄 :=
  iprop(any (F := F) (nxt c) (sl lrM t) ∗ any (F := F) (prv c) (sl llM t)
    ∗ (atPos ER (cl c (.sR t)) 0 ∅ 0 ∗ atPos ER (cl c (.rR t)) 0 ∅ 0 ∗ atPos ER (cl c (.sL t)) 0 ∅ 0 ∗ atPos ER (cl c (.rL t)) 0 ∅ 0)
    ∗ (cred (tallyAt (cl c (.rR t)) () NS) ∗ cred (tallyAt (cl c (.rL t)) () NS))
    ∗ dutyTok ER (cl c (.sR t)) 0 false ∗ dutyTok ER (cl (nxt c) (.rR t)) 0 false
    ∗ dutyTok ER (cl c (.sL t)) 0 false ∗ dutyTok ER (cl (prv c) (.rL t)) 0 false)
/-- Before hop `t`. -/
def Slot0 (c : Dev nD) (t : Fin 15) : sProp 𝕄 := iprop(any (F := F) c (sl srM t) ∗ any (F := F) c (sl slM t) ∗ SlotR c t)
/-- After hop `t`. -/
def Slot1 (c : Dev nD) (t : Fin 15) : sProp 𝕄 :=
  iprop((any (F := F) c (sl srM t) ∗ any (F := F) c (sl slM t) ∗ any (F := F) c (sl lrM t) ∗ any (F := F) c (sl llM t))
    ∗ atPos ER (cl c (.sR t)) 1 ∅ 0 ∗ atPos ER (cl c (.rR t)) 1 ∅ 0 ∗ atPos ER (cl c (.sL t)) 1 ∅ 0 ∗ atPos ER (cl c (.rL t)) 1 ∅ 0)

/-- The staged shards. -/
def xw (c : Dev nD) : sProp 𝕄 :=
  iprop((xM.view.loc (c : Thread nD τ) ↦[Finset.univ]{fullShare} xs m c) ∗ (wM.view.loc (c : Thread nD τ) ↦[Finset.univ]{fullShare} ws m c))

/-- The permits that came with the first `n` hops. -/
def Kept (c : Dev nD) (n : ℕ) : sProp 𝕄 := bigSep (Finset.range n) fun t => permit (F := F) (org c t) c

/-- After `n` hops, slot `n` not yet filled. -/
def RSm (c : Dev nD) (n : ℕ) : sProp 𝕄 :=
  iprop(owesE c (2 + 2 * n) ∗ xw m c ∗ bigSep (Finset.range n) (fun t => Slot1 (F := F) c (Fin.ofNat 15 t))
    ∗ bigSep (Finset.Ico n 15) (fun t => Slot0 (F := F) c (Fin.ofNat 15 t)) ∗ permits (F := F) (org (nxt c) n) (nxt c) (15 - n) ∗ Kept (F := F) c n)

/-- After `n` hops, slot `n` filled. -/
def RS (c : Dev nD) (n : ℕ) : sProp 𝕄 :=
  iprop(owesE c (2 + 2 * n) ∗ xw m c ∗ bigSep (Finset.range n) (fun t => Slot1 (F := F) c (Fin.ofNat 15 t))
    ∗ (has c (sl srM (Fin.ofNat 15 n)) fullShare (sbR m n c) ∗ has c (sl slM (Fin.ofNat 15 n)) fullShare (sbL m n c) ∗ SlotR (F := F) c (Fin.ofNat 15 n))
    ∗ bigSep (Finset.Ico (n + 1) 15) (fun t => Slot0 (F := F) c (Fin.ofNat 15 t)) ∗ permits (F := F) (org (nxt c) n) (nxt c) (15 - n) ∗ Kept (F := F) c n)

section
variable {m}

/-! ## The operations of a hop -/

theorem amount_lr (s : Fin 15) (sm : DmaSem sig) : (slotS lrM s).view.amount (.dma sm) = NS := rfl

theorem pays_R (c : Dev nD) (s : Fin 15) : pays c (2 + 2 * s.val) = tallyAt (cl (nxt c) (.rR s)) () NS := by
  have h : (2 + 2 * s.val - 2) / 2 = s.val := by omega
  have hs := s.isLt
  unfold pays
  rw [if_neg (by omega), if_neg (by omega), if_pos (by omega), if_pos (by omega), h, ofNat_val]
theorem pays_L (c : Dev nD) (s : Fin 15) : pays c (2 + 2 * s.val + 1) = tallyAt (cl (prv c) (.rL s)) () NS := by
  have h : (2 + 2 * s.val + 1 - 2) / 2 = s.val := by omega
  have hs := s.isLt
  unfold pays
  rw [if_neg (by omega), if_neg (by omega), if_pos (by omega), if_neg (by omega), h, ofNat_val]

variable {K : GSem nD τ sig → ℕ} {c : Dev nD}

theorem sendR_spec (s : Fin 15) (d : Dev nD) (hd : d = nxt c) :
    iprop(ctx m K ∗ (owesE c (2 + 2 * s.val) ∗ has c (sl srM s) fullShare (sbR m s c)
        ∗ (any (F := F) (nxt c) (sl lrM s) ∗ permits (F := F) (org (nxt c) s) (nxt c) (15 - s))
        ∗ dutyTok ER (cl c (.sR s)) 0 false ∗ dutyTok ER (cl (nxt c) (.rR s)) 0 false))
      ⊢ Wp c (Prog.lift (.enqueueDma (slotS srM s) (.remote (Dev.tc d) (slotS lrM s) (.dma (semS cc0_scratch9 s))) (.dma (semS cc0_scratch10 s)) (wxS isW s) (wxS isW s) ⟨⟨rfl, Or.inl rfl⟩, trivial⟩))
          (fun _ => iprop(owesE c (2 + 2 * s.val + 1) ∗ cred (tallyAt (cl c (.sR s)) () NS))) := by
  subst hd
  refine (sepR (sepR (BI.sep_mono (has_squeeze c (sl srM s) S256x1024 squeezes_S1x256x1024_S256x1024 fullShare (sbR m s c) rfl)
    (sepL (sepL (Entails.of_eq (any_squeeze (nxt c) (sl lrM s) S256x1024 squeezes_S1x256x1024_S256x1024).symm)))))).trans ?_
  refine send_spec (sS := sem (.sR s)) (sR := sem (.rR s)) (N := NS) ?_ ?_ ?_ ?_ ?_ ?_ ?_ ?_ ?_ ?_ ?_
  · rw [kd_sR]; exact fun h => by cases h
  · rw [kd_rR]; exact fun h => by cases h
  · rw [kd_sR]; rfl
  · rw [kd_rR]; rfl
  · rfl
  · rw [kd_sR]; rfl
  · rw [kd_rR]; rfl
  · have := s.isLt; omega
  · exact pays_R c s
  · rw [kd_sR]; exact has_unsqueeze c (sl srM s) S256x1024 squeezes_S1x256x1024_S256x1024 fullShare (sbR m s c) rfl
  · rw [kd_rR]
    unfold pay
    dsimp only
    rw [prv_nxt]
    iintro ⟨H, Hf⟩
    isplitr [Hf]
    · iapply (has_unsqueeze (nxt c) (sl lrM s) S256x1024 squeezes_S1x256x1024_S256x1024 fullShare (sbR m s c) rfl) $$ H
    iexact Hf

theorem sendL_spec (s : Fin 15) (d : Dev nD) (hd : d = prv c) :
    iprop(ctx m K ∗ (owesE c (2 + 2 * s.val + 1) ∗ has c (sl slM s) fullShare (sbL m s c)
        ∗ (any (F := F) (prv c) (sl llM s) ∗ emp)
        ∗ dutyTok ER (cl c (.sL s)) 0 false ∗ dutyTok ER (cl (prv c) (.rL s)) 0 false))
      ⊢ Wp c (Prog.lift (.enqueueDma (slotS slM s) (.remote (Dev.tc d) (slotS llM s) (.dma (semS cc0_scratch11 s))) (.dma (semS cc0_scratch12 s)) (wxS isW s) (wxS isW s) ⟨⟨rfl, Or.inl rfl⟩, trivial⟩))
          (fun _ => iprop(owesE c (2 + 2 * (s.val + 1)) ∗ cred (tallyAt (cl c (.sL s)) () NS))) := by
  subst hd
  refine (sepR (sepR (BI.sep_mono (has_squeeze c (sl slM s) S256x1024 squeezes_S1x256x1024_S256x1024 fullShare (sbL m s c) rfl)
    (sepL (sepL (Entails.of_eq (any_squeeze (prv c) (sl llM s) S256x1024 squeezes_S1x256x1024_S256x1024).symm)))))).trans ?_
  refine send_spec (sS := sem (.sL s)) (sR := sem (.rL s)) (N := NS) ?_ ?_ ?_ ?_ ?_ ?_ ?_ ?_ ?_ ?_ ?_
  · rw [kd_sL]; exact fun h => by cases h
  · rw [kd_rL]; exact fun h => by cases h
  · rw [kd_sL]; rfl
  · rw [kd_rL]; rfl
  · rfl
  · rw [kd_sL]; rfl
  · rw [kd_rL]; rfl
  · have := s.isLt; omega
  · exact pays_L c s
  · rw [kd_sL]; exact has_unsqueeze c (sl slM s) S256x1024 squeezes_S1x256x1024_S256x1024 fullShare (sbL m s c) rfl
  · rw [kd_rL]
    unfold pay
    dsimp only
    rw [nxt_prv]
    iintro ⟨H, -⟩
    iapply (has_unsqueeze (prv c) (sl llM s) S256x1024 squeezes_S1x256x1024_S256x1024 fullShare (sbL m s c) rfl) $$ H

theorem lvi_ring {s : ℕ} (hs : s < 15) : 2 + s < lvi (2 + 2 * (s + 1)) := by unfold lvi; (repeat' split) <;> omega

theorem waitSR_spec (s : Fin 15) :
    iprop(ctx m K ∗ (owesE c (2 + 2 * (s.val + 1)) ∗ atPos ER (cl c (.sR s)) 0 ∅ 0 ∗ cred (tallyAt (cl c (.sR s)) () NS)))
      ⊢ Wp c (Prog.lift (.waitDma2 (semS cc0_scratch9 s) (slotS lrM s) (slotS srM s) (wxS isW s) (wxS isW s)))
          (fun _ => iprop(owesE c (2 + 2 * (s.val + 1)) ∗ atPos ER (cl c (.sR s)) 1 ∅ 0 ∗ reached ER (cl c (.sR s)) 1 ∗ has c (sl srM s) fullShare (sbR m s c))) := by
  have h := wait_spec (m := m) (K := K) (c := c) (n := 2 + 2 * (s.val + 1)) (r := 0) (N := NS) (sm := sem (.sR s)) (d := false)
    (wpE_waitDma2_eq (sem := semS cc0_scratch9 s) (src := slotS lrM s) (dst := slotS srM s) (hsrc := wxS isW s) (hdst := wxS isW s) 𝒱₀ (c : Thread nD τ) none Set.univ)
    (by rw [kd_sR]; exact fun h => by cases h) (by rw [kd_sR]; rfl) (by rw [kd_sR]; rfl)
    (.inl (by rw [kd_sR]; exact lt_of_le_of_lt (Nat.zero_le _) (lvi_ring s.isLt)))
  rw [kd_sR] at h
  exact h
theorem waitSL_spec (s : Fin 15) :
    iprop(ctx m K ∗ (owesE c (2 + 2 * (s.val + 1)) ∗ atPos ER (cl c (.sL s)) 0 ∅ 0 ∗ cred (tallyAt (cl c (.sL s)) () NS)))
      ⊢ Wp c (Prog.lift (.waitDma2 (semS cc0_scratch11 s) (slotS llM s) (slotS slM s) (wxS isW s) (wxS isW s)))
          (fun _ => iprop(owesE c (2 + 2 * (s.val + 1)) ∗ atPos ER (cl c (.sL s)) 1 ∅ 0 ∗ reached ER (cl c (.sL s)) 1 ∗ has c (sl slM s) fullShare (sbL m s c))) := by
  have h := wait_spec (m := m) (K := K) (c := c) (n := 2 + 2 * (s.val + 1)) (r := 0) (N := NS) (sm := sem (.sL s)) (d := false)
    (wpE_waitDma2_eq (sem := semS cc0_scratch11 s) (src := slotS llM s) (dst := slotS slM s) (hsrc := wxS isW s) (hdst := wxS isW s) 𝒱₀ (c : Thread nD τ) none Set.univ)
    (by rw [kd_sL]; exact fun h => by cases h) (by rw [kd_sL]; rfl) (by rw [kd_sL]; rfl)
    (.inl (by rw [kd_sL]; exact lt_of_le_of_lt (Nat.zero_le _) (lvi_ring s.isLt)))
  rw [kd_sL] at h
  exact h
theorem waitRR_spec (s : Fin 15) :
    iprop(ctx m K ∗ (owesE c (2 + 2 * (s.val + 1)) ∗ atPos ER (cl c (.rR s)) 0 ∅ 0 ∗ cred (tallyAt (cl c (.rR s)) () NS)))
      ⊢ Wp c (Prog.lift (.waitDma2 (semS cc0_scratch10 s) (slotS srM s) (slotS lrM s) (wxS isW s) (wxS isW s)))
          (fun _ => iprop(owesE c (2 + 2 * (s.val + 1)) ∗ atPos ER (cl c (.rR s)) 1 ∅ 0 ∗ reached ER (cl c (.rR s)) 1
            ∗ has c (sl lrM s) fullShare (sbR m s (prv c)) ∗ permits (F := F) (org c s) c (15 - s))) := by
  have h := wait_spec (m := m) (K := K) (c := c) (n := 2 + 2 * (s.val + 1)) (r := 0) (N := NS) (sm := sem (.rR s)) (d := false)
    (wpE_waitDma2_eq (sem := semS cc0_scratch10 s) (src := slotS srM s) (dst := slotS lrM s) (hsrc := wxS isW s) (hdst := wxS isW s) 𝒱₀ (c : Thread nD τ) none Set.univ)
    (by rw [kd_rR]; exact fun h => by cases h) (by rw [kd_rR]; rfl) (by rw [kd_rR]; rfl)
    (.inl (by rw [kd_rR]; exact lvi_ring s.isLt))
  rw [kd_rR] at h
  exact h
theorem waitRL_spec (s : Fin 15) :
    iprop(ctx m K ∗ (owesE c (2 + 2 * (s.val + 1)) ∗ atPos ER (cl c (.rL s)) 0 ∅ 0 ∗ cred (tallyAt (cl c (.rL s)) () NS)))
      ⊢ Wp c (Prog.lift (.waitDma2 (semS cc0_scratch12 s) (slotS slM s) (slotS llM s) (wxS isW s) (wxS isW s)))
          (fun _ => iprop(owesE c (2 + 2 * (s.val + 1)) ∗ atPos ER (cl c (.rL s)) 1 ∅ 0 ∗ reached ER (cl c (.rL s)) 1
            ∗ has c (sl llM s) fullShare (sbL m s (nxt c)))) := by
  have h := wait_spec (m := m) (K := K) (c := c) (n := 2 + 2 * (s.val + 1)) (r := 0) (N := NS) (sm := sem (.rL s)) (d := false)
    (wpE_waitDma2_eq (sem := semS cc0_scratch12 s) (src := slotS slM s) (dst := slotS llM s) (hsrc := wxS isW s) (hdst := wxS isW s) 𝒱₀ (c : Thread nD τ) none Set.univ)
    (by rw [kd_rL]; exact fun h => by cases h) (by rw [kd_rL]; rfl) (by rw [kd_rL]; rfl)
    (.inl (by rw [kd_rL]; exact lvi_ring s.isLt))
  rw [kd_rL] at h
  exact h

theorem org_nxt (c : Dev nD) {s : ℕ} (h : s < 15) : org (nxt c) (s + 1) = org c s := by
  have hc := c.isLt
  change c.val < 16 at hc
  refine Fin.ext ?_
  show ((c.val + 1) % 16 + (15 - (s + 1))) % 16 = (c.val + (15 - s)) % 16
  omega

/-- One hop: the sums sent, the next local products formed, the neighbours' sums arrived. -/
theorem hop_spec (s : Fin 15) :
    iprop(ctx m K ∗ RS m c s) ⊢ Wp c (hop c s)
      (fun v => iprop(⌜v = ⟨X2 m c s, WL m c, X3 m c s, WR m c, sbR m s (prv c), sbL m s (nxt c)⟩⌝ ∗ RSm m c (s + 1))) := by
  have es : Fin.ofNat 15 s.val = s := ofNat_val s
  have hs := s.isLt
  unfold hop RS SlotR xw
  rw [es]
  iintro ⟨#HC, HO, ⟨Hx, Hw⟩, HS1, ⟨Hsr, Hsl, Hlr, Hll, ⟨A1, A2, A3, A4⟩, ⟨C2, C4⟩, T1, T2, T3, T4⟩, HS0, Hp, Hk⟩
  iapply (cps (m := m) (K := K) (sendR_spec (m := m) (K := K) s _ (dev3_eq c))) $$ [HO Hsr Hlr Hp T1 T2]
  · isplitr; · iexact HC
    isplitl [HO]; · iexact HO
    isplitl [Hsr]; · iexact Hsr
    isplitl [Hlr Hp]
    · isplitl [Hlr]; · iexact Hlr
      iexact Hp
    isplitl [T1]; · iexact T1
    iexact T2
  iintro %v ⟨HO, C1⟩
  iapply (cps (m := m) (K := K) (sendL_spec (m := m) (K := K) s _ (dev4_eq c))) $$ [HO Hsl Hll T3 T4]
  · isplitr; · iexact HC
    isplitl [HO]; · iexact HO
    isplitl [Hsl]; · iexact Hsl
    isplitl [Hll]
    · isplitl [Hll]; · iexact Hll
      iempintro
    isplitl [T3]; · iexact T3
    iexact T4
  iintro %v ⟨HO, C3⟩
  iapply (cps (m := m) (K := K) (load_spec (m := m) (K := K) (M := xM) (Finset.subset_univ _))) $$ [Hx]
  · isplitr; · iexact HC
    iexact Hx
  iintro %v1 ⟨%e1, Hx⟩
  iapply (cps (m := m) (K := K) (load_spec (m := m) (K := K) (M := wM) (Finset.subset_univ _))) $$ [Hw]
  · isplitr; · iexact HC
    iexact Hw
  iintro %v2 ⟨%e2, Hw⟩
  iapply (cps (m := m) (K := K) (load_spec (m := m) (K := K) (M := xM) (Finset.subset_univ _))) $$ [Hx]
  · isplitr; · iexact HC
    iexact Hx
  iintro %v3 ⟨%e3, Hx⟩
  iapply (cps (m := m) (K := K) (load_spec (m := m) (K := K) (M := wM) (Finset.subset_univ _))) $$ [Hw]
  · isplitr; · iexact HC
    iexact Hw
  iintro %v4 ⟨%e4, Hw⟩
  iapply (cps (m := m) (K := K) (waitSR_spec (m := m) (K := K) s)) $$ [HO A1 C1]
  · isplitr; · iexact HC
    isplitl [HO]; · iexact HO
    isplitl [A1]; · iexact A1
    iexact C1
  iintro %v ⟨HO, A1, -, Hsr⟩
  iapply (cps (m := m) (K := K) (waitRR_spec (m := m) (K := K) s)) $$ [HO A2 C2]
  · isplitr; · iexact HC
    isplitl [HO]; · iexact HO
    isplitl [A2]; · iexact A2
    iexact C2
  iintro %v ⟨HO, A2, -, Hlr, Hp⟩
  iapply (cps (m := m) (K := K) (waitSL_spec (m := m) (K := K) s)) $$ [HO A3 C3]
  · isplitr; · iexact HC
    isplitl [HO]; · iexact HO
    isplitl [A3]; · iexact A3
    iexact C3
  iintro %v ⟨HO, A3, -, Hsl⟩
  iapply (cps (m := m) (K := K) (waitRL_spec (m := m) (K := K) s)) $$ [HO A4 C4]
  · isplitr; · iexact HC
    isplitl [HO]; · iexact HO
    isplitl [A4]; · iexact A4
    iexact C4
  iintro %v ⟨HO, A4, -, Hll⟩
  iapply (cps (m := m) (K := K) (load_has (m := m) (K := K) (M := lrM) (hr := fun _ => rfl))) $$ [Hlr]
  · isplitr; · iexact HC
    iexact Hlr
  iintro %v5 ⟨%e5, Hlr⟩
  iapply (cps (m := m) (K := K) (load_has (m := m) (K := K) (M := llM) (hr := fun _ => rfl))) $$ [Hll]
  · isplitr; · iexact HC
    iexact Hll
  iintro %v6 ⟨%e6, Hll⟩
  iapply (fin (m := m) (K := K) (A := RSm m c (s + 1)))
  · iintro H
    isplitr
    · ipureintro; rw [e1, e2, e3, e4, e5, e6]; rfl
    iexact H
  isplitr; · iexact HC
  unfold RSm xw Kept
  rw [bigSep_tail, bigSep_tail, es, org_nxt c hs]
  unfold Slot1
  ihave Hp := (Entails.of_eq (show permits (F := F) (org c s) c (15 - s) = iprop(permit (F := F) (org c s) c ∗ permits (F := F) (org c s) (nxt c) (15 - (s + 1))) by
    have e : 15 - s.val = (15 - (s.val + 1)) + 1 := by omega
    rw [e]; rfl)) $$ Hp
  icases Hp with ⟨Hp0, Hp⟩
  isplitl [HO]; · iexact HO
  isplitl [Hx Hw]
  · isplitl [Hx]; · iexact Hx
    iexact Hw
  isplitl [Hsr Hsl Hlr Hll A1 A2 A3 A4 HS1]
  · isplitr [HS1]
    · isplitl [Hsr Hsl Hlr Hll]
      · isplitl [Hsr]; · iapply (any_of_has c (sl srM s) _) $$ Hsr
        isplitl [Hsl]; · iapply (any_of_has c (sl slM s) _) $$ Hsl
        isplitl [Hlr]; · iapply (any_of_has c (sl lrM s) _) $$ Hlr
        iapply (any_of_has c (sl llM s) _) $$ Hll
      isplitl [A1]; · iexact A1
      isplitl [A2]; · iexact A2
      isplitl [A3]; · iexact A3
      iexact A4
    iexact HS1
  isplitl [HS0]; · iexact HS0
  isplitl [Hp]; · iexact Hp
  isplitl [Hp0]; · iexact Hp0
  iexact Hk

end

end Cert.KernelIdeal.Run

end
-- ==== Proof.RingRun.lean ====
module

public import proofs.«01_k».proof.Proof.Ring

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-- What hop `t` uses, before the barrier has handed over the neighbours' slots. -/
def SlotB (c : Dev nD) (t : Fin 15) : sProp 𝕄 :=
  iprop(any (F := F) c (sl srM t) ∗ any (F := F) c (sl slM t)
    ∗ (atPos ER (cl c (.sR t)) 0 ∅ 0 ∗ atPos ER (cl c (.rR t)) 0 ∅ 0 ∗ atPos ER (cl c (.sL t)) 0 ∅ 0 ∗ atPos ER (cl c (.rL t)) 0 ∅ 0)
    ∗ (cred (tallyAt (cl c (.rR t)) () NS) ∗ cred (tallyAt (cl c (.rL t)) () NS))
    ∗ dutyTok ER (cl c (.sR t)) 0 false ∗ dutyTok ER (cl (nxt c) (.rR t)) 0 false
    ∗ dutyTok ER (cl c (.sL t)) 0 false ∗ dutyTok ER (cl (prv c) (.rL t)) 0 false)

/-- The state before the barrier. -/
def St0 (c : Dev nD) : sProp 𝕄 :=
  iprop(owesE c 0 ∗ xw m c ∗ bigSep Finset.univ (fun t : Fin 15 => any (F := F) c (sl lrM t)) ∗ bigSep Finset.univ (fun t : Fin 15 => any (F := F) c (sl llM t))
    ∗ (dutyTok ER (cl (prv c) .bar) 0 true ∗ dutyTok ER (cl (nxt c) .bar) 0 false)
    ∗ atPos ER (cl c .bar) 0 ∅ 0 ∗ cred (tallyAt (cl c .bar) () 2)
    ∗ bigSep Finset.univ (fun t : Fin 15 => SlotB (F := F) c t) ∗ permits (F := F) c (nxt c) 15)

section
variable {m}
variable {K : GSem nD τ sig → ℕ} {c : Dev nD}

theorem signalP_spec (d : Dev nD) (hd : d = prv c) :
    iprop(ctx m K ∗ (owesE c 0 ∗ dutyTok ER (cl (prv c) .bar) 0 true ∗ bigSep Finset.univ (fun t : Fin 15 => any (F := F) c (sl lrM t))))
      ⊢ Wp c (semSignalWord d barS 1#32) (fun _ => owesE c 1) := by
  subst hd
  exact signal_spec (c' := prv c) (n := 0) (s := barS) (d := true) (by show _ ∈ ({false, true} : Finset Bool); decide) (by decide) rfl
    (by unfold pay; dsimp only; rw [if_pos rfl, nxt_prv])
theorem signalN_spec (d : Dev nD) (hd : d = nxt c) :
    iprop(ctx m K ∗ (owesE c 1 ∗ dutyTok ER (cl (nxt c) .bar) 0 false ∗ bigSep Finset.univ (fun t : Fin 15 => any (F := F) c (sl llM t))))
      ⊢ Wp c (semSignalWord d barS 1#32) (fun _ => owesE c 2) := by
  subst hd
  exact signal_spec (c' := nxt c) (n := 1) (s := barS) (d := false) (by show _ ∈ ({false, true} : Finset Bool); decide) (by decide) rfl
    (by unfold pay; dsimp only; rw [if_neg (by decide), prv_nxt])
theorem waitB_spec :
    iprop(ctx m K ∗ (owesE c 2 ∗ atPos ER (cl c .bar) 0 ∅ 0 ∗ cred (tallyAt (cl c .bar) () 2)))
      ⊢ Wp c (semWaitWord barS 2#32) (fun _ => iprop(owesE c 2 ∗ atPos ER (cl c .bar) 1 ∅ 0
        ∗ bigSep Finset.univ (fun t : Fin 15 => any (F := F) (prv c) (sl llM t)) ∗ bigSep Finset.univ (fun t : Fin 15 => any (F := F) (nxt c) (sl lrM t)))) :=
  wait2_spec (m := m) (K := K) (c := c) (n := 2) (r := 0) (N := 2) (sm := sem .bar) (w := .semWait barS 2)
    (wpE_semWait_eq 𝒱₀ (c : Thread nD τ) none Set.univ) (fun h => by cases h) rfl rfl (.inl (by decide))

/-- Two stores fill slot `n`. -/
theorem fill_spec {n : ℕ} (hn : n < 15) {w1 w2 : Vec F S1x256x1024 .bf16} (h1 : w1 = sbR m n c) (h2 : w2 = sbL m n c) :
    iprop(ctx m K ∗ RSm m c n) ⊢ Wp c (do
      let _ ← ldS srM (Fin.ofNat 15 n)
      Prog.lift (.store srM (rS (Fin.ofNat 15 n)) w1 Finset.univ (View.stores_vmem h_S1x256x1024 (sxS isW (Fin.ofNat 15 n)) (fun _ => rfl)) (.inl rfl))
      let _ ← ldS slM (Fin.ofNat 15 n)
      Prog.lift (.store slM (rS (Fin.ofNat 15 n)) w2 Finset.univ (View.stores_vmem h_S1x256x1024 (sxS isW (Fin.ofNat 15 n)) (fun _ => rfl)) (.inl rfl)))
      (fun _ => RS m c n) := by
  unfold RSm RS
  rw [bigSep_head hn]
  unfold Slot0
  iintro ⟨#HC, HO, Hx, HS1, ⟨⟨Hsr, Hsl, HR⟩, HS0⟩, Hp, Hk⟩
  iapply (cps (m := m) (K := K) (load_any (m := m) (K := K) (M := srM) (hr := fun _ => rfl))) $$ [Hsr]
  · isplitr; · iexact HC
    iexact Hsr
  iintro %v Hsr
  iapply (cps (m := m) (K := K) (store_any (m := m) (K := K) (M := srM) (hr := fun _ => rfl))) $$ [Hsr]
  · isplitr; · iexact HC
    iexact Hsr
  iintro %v Hsr
  iapply (cps (m := m) (K := K) (load_any (m := m) (K := K) (M := slM) (hr := fun _ => rfl))) $$ [Hsl]
  · isplitr; · iexact HC
    iexact Hsl
  iintro %v Hsl
  ihave H := (store_any (m := m) (K := K) (M := slM) (r := rS (Fin.ofNat 15 n)) (w := w2)
    (hx := View.stores_vmem h_S1x256x1024 (sxS isW (Fin.ofNat 15 n)) (fun _ => rfl)) (hm := .inl rfl) (hr := fun _ => rfl)) $$ [Hsl]
  · isplitr; · iexact HC
    iexact Hsl
  unfold Wp
  iapply (wp_wand) $$ H
  iintro %v Hsl
  subst h1 h2
  isplitl [HO]; · iexact HO
  isplitl [Hx]; · iexact Hx
  isplitl [HS1]; · iexact HS1
  isplitl [Hsr Hsl HR]
  · isplitl [Hsr]; · iexact Hsr
    isplitl [Hsl]; · iexact Hsl
    iexact HR
  isplitl [HS0]; · iexact HS0
  isplitl [Hp]; · iexact Hp
  iexact Hk

/-- A hop and the next slots filled. -/
theorem step_spec (s : ℕ) (hs : s < 14) :
    iprop(ctx m K ∗ RS m c s) ⊢ Wp c (step c (Fin.ofNat 15 s) (Fin.ofNat 15 (s + 1))) (fun _ => RS m c (s + 1)) := by
  have es : (Fin.ofNat 15 s).val = s := Nat.mod_eq_of_lt (by omega)
  unfold step
  refine seq (m := m) (K := K) _ (?_ : _ ⊢ Wp c (hop c (Fin.ofNat 15 s)) (fun v => iprop(⌜v = ⟨X2 m c (Fin.ofNat 15 s), WL m c, X3 m c (Fin.ofNat 15 s), WR m c, sbR m s (prv c), sbL m s (nxt c)⟩⌝ ∗ RSm m c (s + 1)))) ?_
  · have h := hop_spec (m := m) (K := K) (c := c) (Fin.ofNat 15 s)
    rw [es] at h
    exact h
  · intro v
    iintro ⟨#HC, %e, H⟩
    subst e
    ihave H := (fill_spec (m := m) (K := K) (c := c) (n := s + 1) (by omega) rfl rfl) $$ [H]
    · isplitr; · iexact HC
      iexact H
    iexact H

/-- The barrier and slot 0. -/
theorem start_spec :
    iprop(ctx m K ∗ St0 m c) ⊢ Wp c (start c) (fun _ => iprop(atPos ER (cl c .bar) 1 ∅ 0 ∗ RS m c 0)) := by
  unfold start St0 xw
  iintro ⟨#HC, HO, ⟨Hx, Hw⟩, Hlr, Hll, ⟨T1, T2⟩, HA, HCr, HS, Hp⟩
  iapply (cps (m := m) (K := K) (signalP_spec (m := m) (K := K) _ (dev1_eq c))) $$ [HO T1 Hlr]
  · isplitr; · iexact HC
    isplitl [HO]; · iexact HO
    isplitl [T1]; · iexact T1
    iexact Hlr
  iintro %v HO
  iapply (cps (m := m) (K := K) (signalN_spec (m := m) (K := K) _ (dev2_eq c))) $$ [HO T2 Hll]
  · isplitr; · iexact HC
    isplitl [HO]; · iexact HO
    isplitl [T2]; · iexact T2
    iexact Hll
  iintro %v HO
  iapply (cps (m := m) (K := K) (waitB_spec (m := m) (K := K))) $$ [HO HA HCr]
  · isplitr; · iexact HC
    isplitl [HO]; · iexact HO
    isplitl [HA]; · iexact HA
    iexact HCr
  iintro %v ⟨HO, HA, Hll, Hlr⟩
  iapply (cps (m := m) (K := K) (load_spec (m := m) (K := K) (M := xM) (Finset.subset_univ _))) $$ [Hx]
  · isplitr; · iexact HC
    iexact Hx
  iintro %v1 ⟨%e1, Hx⟩
  iapply (cps (m := m) (K := K) (load_spec (m := m) (K := K) (M := wM) (Finset.subset_univ _))) $$ [Hw]
  · isplitr; · iexact HC
    iexact Hw
  iintro %v2 ⟨%e2, Hw⟩
  iapply (cps (m := m) (K := K) (load_spec (m := m) (K := K) (M := wM) (Finset.subset_univ _))) $$ [Hw]
  · isplitr; · iexact HC
    iexact Hw
  iintro %v3 ⟨%e3, Hw⟩
  ihave H := (fill_spec (m := m) (K := K) (c := c) (n := 0) (w1 := k0_pay2 v1 v2) (w2 := k0_pay3 v1 v3) (by decide) (by rw [e1, e2]; rfl) (by rw [e1, e3]; rfl)) $$ [HO Hx Hw Hll Hlr HS Hp]
  · isplitr; · iexact HC
    unfold RSm xw Kept
    isplitl [HO]; · iexact HO
    isplitl [Hx Hw]
    · isplitl [Hx]; · iexact Hx
      iexact Hw
    isplitr; · rw [Finset.range_zero, bigSep_empty]; iempintro
    isplitl [Hll Hlr HS]
    · rw [← bigSep_range_Ico, ← bigSep_fin (fun t => Slot0 (F := F) c t)]
      ihave H := (bigSep_zip Finset.univ (fun t : Fin 15 => any (F := F) (nxt c) (sl lrM t)) _) $$ [Hlr Hll]
      · isplitl [Hlr]; · iexact Hlr
        iexact Hll
      ihave H := (bigSep_zip Finset.univ _ (fun t : Fin 15 => SlotB (F := F) c t)) $$ [H HS]
      · isplitl [H]; · iexact H
        iexact HS
      iapply (bigSep_imp (Ψ := fun t : Fin 15 => Slot0 (F := F) c t) ?_) $$ H
      intro t _
      unfold Slot0 SlotR SlotB
      iintro ⟨⟨H1, H2⟩, H3, H4, H5⟩
      isplitl [H3]; · iexact H3
      isplitl [H4]; · iexact H4
      isplitl [H1]; · iexact H1
      isplitl [H2]; · iexact H2
      iexact H5
    isplitl [Hp]
    · have e : org (nxt c) 0 = c := by
        have hc := c.isLt; change c.val < 16 at hc
        refine Fin.ext ?_
        show ((c.val + 1) % 16 + 15) % 16 = c.val
        omega
      rw [e]; iexact Hp
    rw [Finset.range_zero, bigSep_empty]; iempintro
  unfold Wp
  iapply (wp_wand) $$ H
  iintro %v H
  isplitl [HA]; · iexact HA
  iexact H

/-- The last hop. -/
theorem lastStep_spec :
    iprop(ctx m K ∗ (RS m c 14 ∗ any (F := F) c (ownM.slice rO0 (fun _ => rfl)) ∗ any (F := F) c (ownM.slice rO1 (fun _ => rfl)))) ⊢ Wp c (lastStep c)
      (fun v => iprop(⌜v = k0_pay76 (ownR m c) (ownL m c)⌝ ∗ RSm m c 15 ∗ has c (ownM.slice rO0 (fun _ => rfl)) fullShare (ownR m c)
        ∗ has c (ownM.slice rO1 (fun _ => rfl)) fullShare (ownL m c))) := by
  unfold lastStep
  iintro ⟨#HC, HR, H0, H1⟩
  iapply (cps (m := m) (K := K) (hop_spec (m := m) (K := K) (c := c) 14)) $$ [HR]
  · isplitr; · iexact HC
    iexact HR
  iintro %v ⟨%e, HR⟩
  subst e
  iapply (cps (m := m) (K := K) (load_any (m := m) (K := K) (M := ownM) (r := rO0) (hr := fun _ => rfl))) $$ [H0]
  · isplitr; · iexact HC
    iexact H0
  iintro %v H0
  iapply (cps (m := m) (K := K) (store_any (m := m) (K := K) (M := ownM) (r := rO0) (hr := fun _ => rfl))) $$ [H0]
  · isplitr; · iexact HC
    iexact H0
  iintro %v H0
  iapply (cps (m := m) (K := K) (load_any (m := m) (K := K) (M := ownM) (r := rO1) (hr := fun _ => rfl))) $$ [H1]
  · isplitr; · iexact HC
    iexact H1
  iintro %v H1
  iapply (cps (m := m) (K := K) (store_any (m := m) (K := K) (M := ownM) (r := rO1) (hr := fun _ => rfl))) $$ [H1]
  · isplitr; · iexact HC
    iexact H1
  iintro %v H1
  iapply (cps (m := m) (K := K) (load_has (m := m) (K := K) (M := ownM) (r := rO0) (hr := fun _ => rfl))) $$ [H0]
  · isplitr; · iexact HC
    iexact H0
  iintro %v1 ⟨%e1, H0⟩
  iapply (cps (m := m) (K := K) (load_has (m := m) (K := K) (M := ownM) (r := rO1) (hr := fun _ => rfl))) $$ [H1]
  · isplitr; · iexact HC
    iexact H1
  iintro %v2 ⟨%e2, H1⟩
  iapply (fin (m := m) (K := K) (A := iprop(RSm m c 15 ∗ has c (ownM.slice rO0 (fun _ => rfl)) fullShare (ownR m c)
        ∗ has c (ownM.slice rO1 (fun _ => rfl)) fullShare (ownL m c))))
  · iintro H
    isplitr
    · ipureintro; rw [e1, e2]; rfl
    iexact H
  isplitr; · iexact HC
  isplitl [HR]; · iexact HR
  isplitl [H0]; · iexact H0
  iexact H1

end

end Cert.KernelIdeal.Run

end
-- ==== Proof.Exch.lean ====
module

public import proofs.«01_k».proof.Proof.RingRun

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## Programs with a condition -/

section
variable {m}
variable {K : GSem nD τ sig → ℕ} {c : Dev nD}

/-- A conditional operation and what follows. -/
theorem cond_spec {β : Type} {P : Prop} [Decidable P] {op : P → PR F PUnit} {k : PR F β} {A B Fr : sProp 𝕄} {Q : β → sProp 𝕄}
    (hs : ∀ h, iprop(ctx m K ∗ A) ⊢ Wp c (op h) (fun _ => B)) (hn : ¬P → A ⊢ B)
    (h2 : iprop(ctx m K ∗ (B ∗ Fr)) ⊢ Wp c k Q) :
    iprop(ctx m K ∗ (A ∗ Fr)) ⊢ Wp c (if h : P then (op h >>= fun _ => k) else k) Q := by
  by_cases h : P
  · rw [dif_pos h]
    iintro ⟨#HC, HA, HF⟩
    iapply (cps (m := m) (K := K) (hs h)) $$ [HA]
    · isplitr; · iexact HC
      iexact HA
    iintro %v HB
    iapply h2
    isplitr; · iexact HC
    isplitl [HB]; · iexact HB
    iexact HF
  · rw [dif_neg h]
    iintro ⟨#HC, HA, HF⟩
    iapply h2
    isplitr; · iexact HC
    isplitl [HA]; · iapply (hn h) $$ HA
    iexact HF

/-- A part that ends with a value, continued. -/
theorem fin_bind {α β : Type} {k : α → PR F β} {a : α} {A : sProp 𝕄} {Q : β → sProp 𝕄} (h : iprop(ctx m K ∗ A) ⊢ Wp c (k a) Q) :
    iprop(ctx m K ∗ A) ⊢ Wp c (pure a >>= k) Q := by
  rw [show (pure a >>= k) = k a from rfl]
  exact h

end

/-! ## The exchange of the maxima -/

/-- The row of device `j`. -/
abbrev amRow (j : Dev nD) : Memref sig .tc .vmem S1x128 .f32 := amM.slice (rAm j) (fun _ => rfl)

/-- Before the send to device `d`. -/
def AM0 (c d : Dev nD) : sProp 𝕄 :=
  iprop(has c (amRow c) (shr d) (amv m c)
    ∗ (if d = c then emp else iprop(any (F := F) d (amRow c) ∗ dutyTok ER (cl c (.amS d)) 0 false ∗ dutyTok ER (cl d (.amR c)) 0 false)))
/-- After it. -/
def AM1 (c d : Dev nD) : sProp 𝕄 :=
  if d = c then has c (amRow c) (shr d) (amv m c) else cred (tallyAt (cl c (.amS d)) () NA)
/-- After the wait for it. -/
def AM2 (c d : Dev nD) : sProp 𝕄 :=
  iprop(has c (amRow c) (shr d) (amv m c) ∗ atPos ER (cl c (.amS d)) (if d = c then 0 else 1) ∅ 0)
/-- Before the arrival of device `d`'s row. -/
def AR0 (c d : Dev nD) : sProp 𝕄 :=
  iprop(atPos ER (cl c (.amR d)) 0 ∅ 0 ∗ (if d = c then emp else cred (tallyAt (cl c (.amR d)) () NA)))
/-- After it. -/
def AR1 (c d : Dev nD) : sProp 𝕄 :=
  iprop(atPos ER (cl c (.amR d)) (if d = c then 0 else 1) ∅ 0 ∗ (if d = c then emp else has c (amRow d) fullShare (amv m d)))

/-- `n` sends done. -/
def AMs (c : Dev nD) (n : ℕ) : sProp 𝕄 :=
  iprop(owesE c (32 + n) ∗ bigSep (Finset.range n) (fun t => AM1 m c (Fin.ofNat 16 t)) ∗ bigSep (Finset.Ico n 16) (fun t => AM0 m c (Fin.ofNat 16 t)))
/-- `n` waits for the sends done. -/
def AMw (c : Dev nD) (n : ℕ) : sProp 𝕄 :=
  iprop(owesE c 48 ∗ bigSep (Finset.range n) (fun t => AM2 m c (Fin.ofNat 16 t))
    ∗ bigSep (Finset.Ico n 16) (fun t => iprop(AM1 m c (Fin.ofNat 16 t) ∗ atPos ER (cl c (.amS (Fin.ofNat 16 t))) 0 ∅ 0)))
/-- `n` arrivals waited for. -/
def AMr (c : Dev nD) (n : ℕ) : sProp 𝕄 :=
  iprop(owesE c 48 ∗ bigSep (Finset.range n) (fun t => AR1 m c (Fin.ofNat 16 t)) ∗ bigSep (Finset.Ico n 16) (fun t => AR0 (F := F) c (Fin.ofNat 16 t)))

section
variable {m}
variable {K : GSem nD τ sig → ℕ} {c : Dev nD}

theorem pays_am (c : Dev nD) {n : ℕ} (hn : n < 16) :
    pays c (32 + n) = if (Fin.ofNat 16 n : Dev nD) = c then 0 else tallyAt (cl (Fin.ofNat 16 n : Dev nD) (.amR c)) () NA := by
  have h : 32 + n - 32 = n := by omega
  unfold pays
  rw [if_neg (by omega), if_neg (by omega), if_neg (by omega), if_pos (by omega), h]

theorem amSend_op {n : ℕ} (hn : n < 16) {d : Dev nD} (hd : d = Fin.ofNat 16 n) (hne : d ≠ c)
    {hsrc : (amRow c).view.WordExact} {hdst : (amRow c).view.WordExact}
    {hsem : DmaTarget.Typed .vmem (.dma (semA cc0_scratch16 c)) (.remote (d : Thread nD τ) (amRow c) (.dma (semA cc0_scratch15 d)) rfl)} :
    iprop(ctx m K ∗ AMs m c n) ⊢ Wp c (Prog.lift (.enqueueDma (amRow c) (.remote (d : Thread nD τ) (amRow c) (.dma (semA cc0_scratch15 d)) rfl) (.dma (semA cc0_scratch16 c)) hsrc hdst hsem))
      (fun _ => AMs m c (n + 1)) := by
  have hp := pays_am c hn
  rw [← hd, if_neg hne] at hp
  unfold AMs
  rw [bigSep_head hn, bigSep_tail, ← hd]
  unfold AM0 AM1
  rw [if_neg hne, if_neg hne]
  iintro ⟨#HC, HO, H1, ⟨Hr, Ha, T1, T2⟩, H0⟩
  ihave H := (send_spec (m := m) (K := K) (c := c) (c' := d) (n := 32 + n) (sS := sem (.amS d)) (sR := sem (.amR c)) (N := NA) (Fx := iprop(emp))
    (q := shr d) (X := amv m c) (src := amRow c) (dst := amRow c) (hsrc := hsrc) (hdst := hdst) (hsem := hsem) (hsc := rfl)
    (by rw [kd_amS]; exact fun h => by cases h) (by rw [kd_amR]; exact fun h => by cases h)
    (by rw [kd_amS]; exact if_pos ⟨rfl, hne⟩) (by rw [kd_amR]; exact if_pos ⟨rfl, hne.symm⟩) rfl (by rw [kd_amS]; rfl) (by rw [kd_amR]; rfl)
    (by omega) hp (by rw [kd_amS]; exact .rfl) (by
      rw [kd_amR]
      show iprop(has d (amRow c) fullShare (amv m c) ∗ emp) ⊢ has d (amRow c) fullShare (amv m c)
      iintro ⟨H, -⟩
      iexact H)) $$ [HO Hr Ha T1 T2]
  · isplitr; · iexact HC
    isplitl [HO]; · iexact HO
    isplitl [Hr]; · iexact Hr
    isplitl [Ha]
    · isplitl [Ha]; · iexact Ha
      iempintro
    isplitl [T1]; · iexact T1
    iexact T2
  unfold Wp
  iapply (wp_wand) $$ H
  iintro %v ⟨HO, Hc⟩
  isplitl [HO]; · iexact HO
  isplitr [H0]
  · isplitl [Hc]; · iexact Hc
    iexact H1
  iexact H0

theorem amSend_skip {n : ℕ} (hn : n < 16) (he : (Fin.ofNat 16 n : Dev nD) = c) : AMs m c n ⊢ AMs m c (n + 1) := by
  have hp := pays_am c hn
  rw [if_pos he] at hp
  unfold AMs owesE
  rw [bigSep_head hn, bigSep_tail, ow_skip c (by omega) hp]
  unfold AM0 AM1
  rw [if_pos he, if_pos he]
  iintro ⟨HO, H1, ⟨Hr, -⟩, H0⟩
  isplitl [HO]; · iexact HO
  isplitr [H0]
  · isplitl [Hr]; · iexact Hr
    iexact H1
  iexact H0

/-- The send of the row to device `n`. -/
theorem amSend_item {β : Type} {n : ℕ} (hn : n < 16) {P : Prop} [Decidable P] {k : PR F β} {Fr : sProp 𝕄} {Q : β → sProp 𝕄}
    {o0 : Fin 1 → ℕ} {i0 : P → ∀ a, o0 a + S1.size a ≤ S16.size a} {o1 : Fin 1 → ℕ} {i1 : P → ∀ a, o1 a + S1.size a ≤ S16.size a}
    {o2 : Fin 2 → ℕ} {i2 : P → ∀ a, o2 a + S1x128.size a ≤ S16x128.size a} {dev : P → Dev nD}
    {hsrc hdst : ∀ h : P, (amM.slice (Rect.unit (s := S16x128) o2 S1x128.size (i2 h)) (fun _ => rfl)).view.WordExact}
    {hsem : ∀ h : P, DmaTarget.Typed .vmem (.dma ((cc0_scratch16.slice (Rect.unit (s := S16) o1 S1.size (i1 h))).squeeze S_ squeezes_S1_S_).sem)
      (.remote (dev h : Thread nD τ) (amM.slice (Rect.unit (s := S16x128) o2 S1x128.size (i2 h)) (fun _ => rfl))
        (.dma ((cc0_scratch15.slice (Rect.unit (s := S16) o0 S1.size (i0 h))).squeeze S_ squeezes_S1_S_).sem) rfl)}
    (hP : P ↔ (Fin.ofNat 16 n : Dev nD) ≠ c) (h0 : o0 = ![(Fin.ofNat 16 n).val]) (h1 : o1 = ![c.val]) (h2 : o2 = ![c.val, 0])
    (hd : ∀ h, dev h = Fin.ofNat 16 n)
    (hk : iprop(ctx m K ∗ (AMs m c (n + 1) ∗ Fr)) ⊢ Wp c k Q) :
    iprop(ctx m K ∗ (AMs m c n ∗ Fr)) ⊢ Wp c (if h : P then
        (Prog.lift (.enqueueDma (amM.slice (Rect.unit (s := S16x128) o2 S1x128.size (i2 h)) (fun _ => rfl))
          (.remote (dev h : Thread nD τ) (amM.slice (Rect.unit (s := S16x128) o2 S1x128.size (i2 h)) (fun _ => rfl))
            (.dma ((cc0_scratch15.slice (Rect.unit (s := S16) o0 S1.size (i0 h))).squeeze S_ squeezes_S1_S_).sem) rfl)
          (.dma ((cc0_scratch16.slice (Rect.unit (s := S16) o1 S1.size (i1 h))).squeeze S_ squeezes_S1_S_).sem) (hsrc h) (hdst h) (hsem h)) >>= fun _ => k)
        else k) Q := by
  subst h0 h1 h2
  refine cond_spec (m := m) (K := K) (op := fun h => Prog.lift (.enqueueDma _ (.remote (dev h : Thread nD τ) _ _ rfl) _ (hsrc h) (hdst h) (hsem h)))
    (fun h => ?_) (fun h => amSend_skip hn (by by_contra hne; exact h (hP.mpr hne))) hk
  have hc := hP.mp h
  have e := hd h
  generalize hsem h = hs
  revert hs
  generalize dev h = d at e ⊢
  subst e
  intro hs
  exact amSend_op hn rfl hc

/-- A conditional wait that leaves nothing to do when the condition fails. -/
theorem wait_am_op {n : ℕ} (hn : n < 16) (hne : (Fin.ofNat 16 n : Dev nD) ≠ c) {sp sp' : Space} {src : Memref sig .tc sp S1x128 .f32} {dst : Memref sig .tc sp' S1x128 .f32}
    {hsrc : src.view.WordExact} {hdst : dst.view.WordExact} (hN : dst.view.dmaCredit = NA) :
    iprop(ctx m K ∗ AMw m c n) ⊢ Wp c (Prog.lift (.waitDma2 (semA cc0_scratch15 (Fin.ofNat 16 n)) src dst hsrc hdst)) (fun _ => AMw m c (n + 1)) := by
  have h := wait_spec (m := m) (K := K) (c := c) (n := 48) (r := 0) (N := NA) (sm := sem (.amS (Fin.ofNat 16 n))) (d := false)
    (fun K => (wpE_waitDma2_eq (sem := semA cc0_scratch15 (Fin.ofNat 16 n)) (src := src) (dst := dst) (hsrc := hsrc) (hdst := hdst) 𝒱₀ (c : Thread nD τ) none Set.univ K).trans (by rw [hN]; rfl))
    (by rw [kd_amS]; exact fun h => by cases h) (by rw [kd_amS]; exact if_pos ⟨rfl, hne⟩) (by rw [kd_amS]; rfl)
    (.inl (by rw [kd_amS]; show 0 < lvi 48; decide))
  rw [kd_amS] at h
  unfold AMw
  rw [bigSep_head hn, bigSep_tail]
  unfold AM1 AM2
  rw [if_neg hne, if_neg hne]
  iintro ⟨#HC, HO, H1, ⟨Hc, Ha⟩, H0⟩
  ihave H := h $$ [HO Ha Hc]
  · isplitr; · iexact HC
    isplitl [HO]; · iexact HO
    isplitl [Ha]; · iexact Ha
    iexact Hc
  unfold Wp
  iapply (wp_wand) $$ H
  iintro %v ⟨HO, Ha, -, Hp⟩
  unfold pay
  isplitl [HO]; · iexact HO
  isplitr [H0]
  · isplitl [Hp Ha]
    · isplitl [Hp]; · iexact Hp
      iexact Ha
    iexact H1
  iexact H0

theorem wait_am_skip {n : ℕ} (hn : n < 16) (he : (Fin.ofNat 16 n : Dev nD) = c) : AMw m c n ⊢ AMw m c (n + 1) := by
  unfold AMw
  rw [bigSep_head hn, bigSep_tail]
  unfold AM1 AM2
  rw [if_pos he, if_pos he]
  iintro ⟨HO, H1, H, H0⟩
  isplitl [HO]; · iexact HO
  isplitr [H0]
  · isplitl [H]; · iexact H
    iexact H1
  iexact H0

/-- The wait for the send of the row to device `n`. -/
theorem amWait_item {β : Type} {n : ℕ} (hn : n < 16) {P : Prop} [Decidable P] {k : PR F β} {Fr : sProp 𝕄} {Q : β → sProp 𝕄}
    {o0 : Fin 1 → ℕ} {i0 : P → ∀ a, o0 a + S1.size a ≤ S16.size a}
    {sp sp' : Space} {src : P → Memref sig .tc sp S1x128 .f32} {dst : P → Memref sig .tc sp' S1x128 .f32}
    {hsrc : ∀ h, (src h).view.WordExact} {hdst : ∀ h, (dst h).view.WordExact}
    (hP : P ↔ (Fin.ofNat 16 n : Dev nD) ≠ c) (h0 : o0 = ![(Fin.ofNat 16 n).val]) (hN : ∀ h, (dst h).view.dmaCredit = NA)
    (hk : iprop(ctx m K ∗ (AMw m c (n + 1) ∗ Fr)) ⊢ Wp c k Q) :
    iprop(ctx m K ∗ (AMw m c n ∗ Fr)) ⊢ Wp c (if h : P then
        (Prog.lift (.waitDma2 ((cc0_scratch15.slice (Rect.unit (s := S16) o0 S1.size (i0 h))).squeeze S_ squeezes_S1_S_).sem (src h) (dst h) (hsrc h) (hdst h)) >>= fun _ => k)
        else k) Q := by
  subst h0
  exact cond_spec (m := m) (K := K) (op := fun h => Prog.lift (.waitDma2 _ (src h) (dst h) (hsrc h) (hdst h)))
    (fun h => wait_am_op hn (hP.mp h) (hN h)) (fun h => wait_am_skip hn (by by_contra hne; exact h (hP.mpr hne))) hk

theorem recv_am_op {n : ℕ} (hn : n < 16) (hne : (Fin.ofNat 16 n : Dev nD) ≠ c) {sp sp' : Space} {src : Memref sig .tc sp S1x128 .f32} {dst : Memref sig .tc sp' S1x128 .f32}
    {hsrc : src.view.WordExact} {hdst : dst.view.WordExact} (hN : dst.view.dmaCredit = NA) :
    iprop(ctx m K ∗ AMr m c n) ⊢ Wp c (Prog.lift (.waitDma2 (semA cc0_scratch16 (Fin.ofNat 16 n)) src dst hsrc hdst)) (fun _ => AMr m c (n + 1)) := by
  have h := wait_spec (m := m) (K := K) (c := c) (n := 48) (r := 0) (N := NA) (sm := sem (.amR (Fin.ofNat 16 n))) (d := false)
    (fun K => (wpE_waitDma2_eq (sem := semA cc0_scratch16 (Fin.ofNat 16 n)) (src := src) (dst := dst) (hsrc := hsrc) (hdst := hdst) 𝒱₀ (c : Thread nD τ) none Set.univ K).trans (by rw [hN]; rfl))
    (by rw [kd_amR]; exact fun h => by cases h) (by rw [kd_amR]; exact if_pos ⟨rfl, hne⟩) (by rw [kd_amR]; rfl)
    (.inl (by rw [kd_amR]; show 20 < lvi 48; decide))
  rw [kd_amR] at h
  unfold AMr
  rw [bigSep_head hn, bigSep_tail]
  unfold AR0 AR1
  rw [if_neg hne, if_neg hne, if_neg hne]
  iintro ⟨#HC, HO, H1, ⟨Ha, Hc⟩, H0⟩
  ihave H := h $$ [HO Ha Hc]
  · isplitr; · iexact HC
    isplitl [HO]; · iexact HO
    isplitl [Ha]; · iexact Ha
    iexact Hc
  unfold Wp
  iapply (wp_wand) $$ H
  iintro %v ⟨HO, Ha, -, Hp⟩
  unfold pay
  isplitl [HO]; · iexact HO
  isplitr [H0]
  · isplitl [Hp Ha]
    · isplitl [Ha]; · iexact Ha
      iexact Hp
    iexact H1
  iexact H0

theorem recv_am_skip {n : ℕ} (hn : n < 16) (he : (Fin.ofNat 16 n : Dev nD) = c) : AMr m c n ⊢ AMr m c (n + 1) := by
  unfold AMr
  rw [bigSep_head hn, bigSep_tail]
  unfold AR0 AR1
  rw [if_pos he, if_pos he, if_pos he]
  iintro ⟨HO, H1, H, H0⟩
  isplitl [HO]; · iexact HO
  isplitr [H0]
  · isplitl [H]; · iexact H
    iexact H1
  iexact H0

/-- The wait for the row of device `n`. -/
theorem amRecv_item {β : Type} {n : ℕ} (hn : n < 16) {P : Prop} [Decidable P] {k : PR F β} {Fr : sProp 𝕄} {Q : β → sProp 𝕄}
    {o0 : Fin 1 → ℕ} {i0 : P → ∀ a, o0 a + S1.size a ≤ S16.size a}
    {sp sp' : Space} {src : P → Memref sig .tc sp S1x128 .f32} {dst : P → Memref sig .tc sp' S1x128 .f32}
    {hsrc : ∀ h, (src h).view.WordExact} {hdst : ∀ h, (dst h).view.WordExact}
    (hP : P ↔ (Fin.ofNat 16 n : Dev nD) ≠ c) (h0 : o0 = ![(Fin.ofNat 16 n).val]) (hN : ∀ h, (dst h).view.dmaCredit = NA)
    (hk : iprop(ctx m K ∗ (AMr m c (n + 1) ∗ Fr)) ⊢ Wp c k Q) :
    iprop(ctx m K ∗ (AMr m c n ∗ Fr)) ⊢ Wp c (if h : P then
        (Prog.lift (.waitDma2 ((cc0_scratch16.slice (Rect.unit (s := S16) o0 S1.size (i0 h))).squeeze S_ squeezes_S1_S_).sem (src h) (dst h) (hsrc h) (hdst h)) >>= fun _ => k)
        else k) Q := by
  subst h0
  exact cond_spec (m := m) (K := K) (op := fun h => Prog.lift (.waitDma2 _ (src h) (dst h) (hsrc h) (hdst h)))
    (fun h => recv_am_op hn (hP.mp h) (hN h)) (fun h => recv_am_skip hn (by by_contra hne; exact h (hP.mpr hne))) hk

end

end Cert.KernelIdeal.Run

end
-- ==== Proof.Gather.lean ====
module

public import proofs.«01_k».proof.Proof.Exch

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The exchange of the quantised blocks -/

/-- Half `h` of the device's own quantised blocks. -/
abbrev qH (h : Fin 2) : Memref sig .tc .vmem S1x256x1024 .fp8e4m3 := qM.slice (rQ h) (fun _ => rfl)
/-- Half `h` of the place of device `j`'s blocks. -/
abbrev agH (j : Dev nD) (h : Fin 2) : Memref sig .tc .vmem S1x1x256x1024 .fp8e4m3 := agM.slice (rAg j h) (fun _ => rfl)

/-- What the send of half `h` to device `d` needs. -/
def AGt (c d : Dev nD) (h : Fin 2) : sProp 𝕄 :=
  iprop(any (F := F) d (agH c h) ∗ dutyTok ER (cl c (.agS d h)) 0 false ∗ dutyTok ER (cl d (.agR c h)) 0 false)
/-- The share of both halves for device `d`. -/
def QQ (c d : Dev nD) : sProp 𝕄 := iprop(has c (qH 0) (shr d) (qv m c 0) ∗ has c (qH 1) (shr d) (qv m c 1))
/-- Before the sends to device `d`. -/
def AG0 (c d : Dev nD) : sProp 𝕄 := iprop(QQ m c d ∗ (if d = c then emp else iprop(AGt (F := F) c d 0 ∗ AGt (F := F) c d 1)))
/-- After them. -/
def AG1 (c d : Dev nD) : sProp 𝕄 :=
  if d = c then QQ m c d else iprop(cred (tallyAt (cl c (.agS d 0)) () NG) ∗ cred (tallyAt (cl c (.agS d 1)) () NG))
/-- After the waits for them. -/
def AG2 (c d : Dev nD) : sProp 𝕄 :=
  iprop(QQ m c d ∗ atPos ER (cl c (.agS d 0)) (if d = c then 0 else 1) ∅ 0 ∗ atPos ER (cl c (.agS d 1)) (if d = c then 0 else 1) ∅ 0)

/-- The sends to `n` devices done. -/
def AGs (c : Dev nD) (n : ℕ) : sProp 𝕄 :=
  iprop(owesE c (48 + 2 * n) ∗ bigSep (Finset.range n) (fun t => AG1 m c (Fin.ofNat 16 t)) ∗ bigSep (Finset.Ico n 16) (fun t => AG0 m c (Fin.ofNat 16 t)))
/-- The waits for the sends to `n` devices done. -/
def AGw (c : Dev nD) (n : ℕ) : sProp 𝕄 :=
  iprop(owesE c 80 ∗ bigSep (Finset.range n) (fun t => AG2 m c (Fin.ofNat 16 t))
    ∗ bigSep (Finset.Ico n 16) (fun t => iprop(AG1 m c (Fin.ofNat 16 t) ∗ atPos ER (cl c (.agS (Fin.ofNat 16 t) 0)) 0 ∅ 0 ∗ atPos ER (cl c (.agS (Fin.ofNat 16 t) 1)) 0 ∅ 0)))

section
variable {m}
variable {K : GSem nD τ sig → ℕ} {c : Dev nD}

/-- Two operations under a condition, and what follows. -/
theorem cond_spec2 {β : Type} {P : Prop} [Decidable P] {op1 op2 : P → PR F PUnit} {k : PR F β} {A B C Fr : sProp 𝕄} {Q : β → sProp 𝕄}
    (hs : ∀ h, iprop(ctx m K ∗ A) ⊢ Wp c (op1 h) (fun _ => C)) (hs' : ∀ h, iprop(ctx m K ∗ C) ⊢ Wp c (op2 h) (fun _ => B)) (hn : ¬P → A ⊢ B)
    (h2 : iprop(ctx m K ∗ (B ∗ Fr)) ⊢ Wp c k Q) :
    iprop(ctx m K ∗ (A ∗ Fr)) ⊢ Wp c (if h : P then (op1 h >>= fun _ => op2 h >>= fun _ => k) else k) Q := by
  by_cases h : P
  · rw [dif_pos h]
    iintro ⟨#HC, HA, HF⟩
    iapply (cps (m := m) (K := K) (hs h)) $$ [HA]
    · isplitr; · iexact HC
      iexact HA
    iintro %v HB
    iapply (cps (m := m) (K := K) (hs' h)) $$ [HB]
    · isplitr; · iexact HC
      iexact HB
    iintro %v HB
    iapply h2
    isplitr; · iexact HC
    isplitl [HB]; · iexact HB
    iexact HF
  · rw [dif_neg h]
    iintro ⟨#HC, HA, HF⟩
    iapply h2
    isplitr; · iexact HC
    isplitl [HA]; · iapply (hn h) $$ HA
    iexact HF

theorem pays_ag (c : Dev nD) {n : ℕ} (hn : n < 16) (h : Fin 2) :
    pays c (48 + 2 * n + h.val) = if (Fin.ofNat 16 n : Dev nD) = c then 0 else tallyAt (cl (Fin.ofNat 16 n : Dev nD) (.agR c h)) () NG := by
  have hl := h.isLt
  have e : (48 + 2 * n + h.val - 48) / 2 = n := by omega
  have e2 : Fin.ofNat 2 (48 + 2 * n + h.val) = h := by
    apply Fin.ext
    show (48 + 2 * n + h.val) % 2 = h.val
    omega
  unfold pays
  rw [if_neg (by omega), if_neg (by omega), if_neg (by omega), if_neg (by omega), e, e2]

/-- One half sent. -/
theorem agSend_op {n : ℕ} (hn : n < 16) {h : Fin 2} {d : Dev nD} (hd : d = Fin.ofNat 16 n) (hne : d ≠ c)
    {hsrc : ((qH h).squeeze S256x1024 squeezes_S1x256x1024_S256x1024).view.WordExact} {hdst : (agB c h).view.WordExact}
    {hsem : DmaTarget.Typed .vmem (.dma (semG cc0_scratch14 c h)) (.remote (d : Thread nD τ) (agB c h) (.dma (semG cc0_scratch13 d h)) rfl)} :
    iprop(ctx m K ∗ (owesE c (48 + 2 * n + h.val) ∗ has c (qH h) (shr d) (qv m c h) ∗ AGt (F := F) c d h))
      ⊢ Wp c (Prog.lift (.enqueueDma ((qH h).squeeze S256x1024 squeezes_S1x256x1024_S256x1024) (.remote (d : Thread nD τ) (agB c h) (.dma (semG cc0_scratch13 d h)) rfl)
        (.dma (semG cc0_scratch14 c h)) hsrc hdst hsem))
      (fun _ => iprop(owesE c (48 + 2 * n + h.val + 1) ∗ cred (tallyAt (cl c (.agS d h)) () NG))) := by
  have hl := h.isLt
  have hp := pays_ag c hn h
  rw [← hd, if_neg hne] at hp
  unfold AGt
  rw [← any_squeeze d (agH c h) S256x1024 squeezes_S1x1x256x1024_S256x1024]
  iintro ⟨#HC, HO, Hr, Ha, T1, T2⟩
  ihave Hr := (has_squeeze c (qH h) S256x1024 squeezes_S1x256x1024_S256x1024 (shr d) (qv m c h) shapeCasts_S1x256x1024_S256x1024) $$ Hr
  iapply (send_spec (m := m) (K := K) (c := c) (c' := d) (n := 48 + 2 * n + h.val) (sS := sem (.agS d h)) (sR := sem (.agR c h)) (N := NG) (Fx := iprop(emp))
    (q := shr d) (X := qv2 m c h) (src := (qH h).squeeze S256x1024 squeezes_S1x256x1024_S256x1024) (dst := agB c h) (hsrc := hsrc) (hdst := hdst) (hsem := hsem) (hsc := rfl)
    (by rw [kd_agS]; exact fun h => by cases h) (by rw [kd_agR]; exact fun h => by cases h)
    (by rw [kd_agS]; exact if_pos ⟨rfl, hne⟩) (by rw [kd_agR]; exact if_pos ⟨rfl, hne.symm⟩) rfl (by rw [kd_agS]; rfl) (by rw [kd_agR]; rfl)
    (by omega) hp (by
      rw [kd_agS]
      exact has_unsqueeze c (qH h) S256x1024 squeezes_S1x256x1024_S256x1024 (shr d) (qv m c h) shapeCasts_S1x256x1024_S256x1024) (by
      rw [kd_agR]
      show iprop(has d (agB c h) fullShare (qv2 m c h) ∗ emp) ⊢ has d (agB c h) fullShare (qv2 m c h)
      iintro ⟨H, -⟩
      iexact H)) $$ [HO Hr Ha T1 T2]
  isplitr; · iexact HC
  isplitl [HO]; · iexact HO
  isplitl [Hr]; · iexact Hr
  isplitl [Ha]
  · isplitl [Ha]; · iexact Ha
    iempintro
  isplitl [T1]; · iexact T1
  iexact T2

theorem agSend_skip {n : ℕ} (hn : n < 16) (he : (Fin.ofNat 16 n : Dev nD) = c) : AGs m c n ⊢ AGs m c (n + 1) := by
  have hp := pays_ag c hn 0
  have hq := pays_ag c hn 1
  rw [if_pos he] at hp hq
  unfold AGs owesE
  rw [bigSep_head hn, bigSep_tail, ow_skip c (n := 48 + 2 * n) (by omega) hp, ow_skip c (n := 48 + 2 * n + 1) (by omega) hq]
  unfold AG0 AG1
  rw [if_pos he, if_pos he]
  iintro ⟨HO, H1, ⟨Hr, -⟩, H0⟩
  isplitl [HO]; · iexact HO
  isplitr [H0]
  · isplitl [Hr]; · iexact Hr
    iexact H1
  iexact H0

/-- Between the two sends to device `n`. -/
def AGm (m : (ℓ : Loc nD τ sig) → Buf (Elt F) ℓ) (c : Dev nD) (n : ℕ) : sProp 𝕄 :=
  iprop(owesE c (48 + 2 * n + 1) ∗ (cred (tallyAt (cl c (.agS (Fin.ofNat 16 n) 0)) () NG) ∗ has c (qH 1) (shr (Fin.ofNat 16 n)) (qv m c 1) ∗ AGt (F := F) c (Fin.ofNat 16 n) 1)
    ∗ bigSep (Finset.range n) (fun t => AG1 m c (Fin.ofNat 16 t)) ∗ bigSep (Finset.Ico (n + 1) 16) (fun t => AG0 m c (Fin.ofNat 16 t)))

theorem agSend_op0 {n : ℕ} (hn : n < 16) {d : Dev nD} (hd : d = Fin.ofNat 16 n) (hne : d ≠ c)
    {hsrc : ((qH 0).squeeze S256x1024 squeezes_S1x256x1024_S256x1024).view.WordExact} {hdst : (agB c 0).view.WordExact}
    {hsem : DmaTarget.Typed .vmem (.dma (semG cc0_scratch14 c 0)) (.remote (d : Thread nD τ) (agB c 0) (.dma (semG cc0_scratch13 d 0)) rfl)} :
    iprop(ctx m K ∗ AGs m c n)
      ⊢ Wp c (Prog.lift (.enqueueDma ((qH 0).squeeze S256x1024 squeezes_S1x256x1024_S256x1024) (.remote (d : Thread nD τ) (agB c 0) (.dma (semG cc0_scratch13 d 0)) rfl)
        (.dma (semG cc0_scratch14 c 0)) hsrc hdst hsem)) (fun _ => AGm m c n) := by
  unfold AGs AGm
  rw [bigSep_head hn, ← hd]
  unfold AG0 QQ
  rw [if_neg hne]
  iintro ⟨#HC, HO, H1, ⟨⟨Hq, Hq1⟩, Ht, Ht1⟩, H0⟩
  ihave H := (agSend_op (m := m) (K := K) hn (h := 0) hd hne (hsrc := hsrc) (hdst := hdst) (hsem := hsem)) $$ [HO Hq Ht]
  · isplitr; · iexact HC
    isplitl [HO]; · iexact HO
    isplitl [Hq]; · iexact Hq
    iexact Ht
  unfold Wp
  iapply (wp_wand) $$ H
  iintro %v ⟨HO, Hc⟩
  isplitl [HO]; · iexact HO
  isplitl [Hc Hq1 Ht1]
  · isplitl [Hc]; · iexact Hc
    isplitl [Hq1]; · iexact Hq1
    iexact Ht1
  isplitl [H1]; · iexact H1
  iexact H0

theorem agSend_op1 {n : ℕ} (hn : n < 16) {d : Dev nD} (hd : d = Fin.ofNat 16 n) (hne : d ≠ c)
    {hsrc : ((qH 1).squeeze S256x1024 squeezes_S1x256x1024_S256x1024).view.WordExact} {hdst : (agB c 1).view.WordExact}
    {hsem : DmaTarget.Typed .vmem (.dma (semG cc0_scratch14 c 1)) (.remote (d : Thread nD τ) (agB c 1) (.dma (semG cc0_scratch13 d 1)) rfl)} :
    iprop(ctx m K ∗ AGm m c n)
      ⊢ Wp c (Prog.lift (.enqueueDma ((qH 1).squeeze S256x1024 squeezes_S1x256x1024_S256x1024) (.remote (d : Thread nD τ) (agB c 1) (.dma (semG cc0_scratch13 d 1)) rfl)
        (.dma (semG cc0_scratch14 c 1)) hsrc hdst hsem)) (fun _ => AGs m c (n + 1)) := by
  unfold AGs AGm
  rw [bigSep_tail, ← hd]
  unfold AG1
  rw [if_neg hne]
  iintro ⟨#HC, HO, ⟨Hc0, Hq, Ht⟩, H1, H0⟩
  ihave H := (agSend_op (m := m) (K := K) hn (h := 1) hd hne (hsrc := hsrc) (hdst := hdst) (hsem := hsem)) $$ [HO Hq Ht]
  · isplitr; · iexact HC
    isplitl [HO]; · iexact HO
    isplitl [Hq]; · iexact Hq
    iexact Ht
  unfold Wp
  iapply (wp_wand) $$ H
  iintro %v ⟨HO, Hc⟩
  isplitl [HO]; · iexact HO
  isplitr [H0]
  · isplitl [Hc Hc0]
    · isplitl [Hc0]; · iexact Hc0
      iexact Hc
    iexact H1
  iexact H0

/-- The two sends to device `n`. -/
theorem agSend_item {β : Type} {n : ℕ} (hn : n < 16) {P : Prop} [Decidable P] {k : PR F β} {Fr : sProp 𝕄} {Q : β → sProp 𝕄}
    {o0 o0' : Fin 2 → ℕ} {i0 : P → ∀ a, o0 a + S1x1.size a ≤ S16x2.size a} {i0' : P → ∀ a, o0' a + S1x1.size a ≤ S16x2.size a}
    {o1 o1' : Fin 2 → ℕ} {i1 : P → ∀ a, o1 a + S1x1.size a ≤ S16x2.size a} {i1' : P → ∀ a, o1' a + S1x1.size a ≤ S16x2.size a}
    {o2 o2' : Fin 4 → ℕ} {i2 : P → ∀ a, o2 a + S1x1x256x1024.size a ≤ S16x2x256x1024.size a} {i2' : P → ∀ a, o2' a + S1x1x256x1024.size a ≤ S16x2x256x1024.size a}
    {dev dev' : P → Dev nD}
    {hsrc : P → ((qH 0).squeeze S256x1024 squeezes_S1x256x1024_S256x1024).view.WordExact} {hsrc' : P → ((qH 1).squeeze S256x1024 squeezes_S1x256x1024_S256x1024).view.WordExact}
    {hdst : ∀ h : P, ((agM.slice (Rect.unit (s := S16x2x256x1024) o2 S1x1x256x1024.size (i2 h)) (fun _ => rfl)).squeeze S256x1024 squeezes_S1x1x256x1024_S256x1024).view.WordExact}
    {hdst' : ∀ h : P, ((agM.slice (Rect.unit (s := S16x2x256x1024) o2' S1x1x256x1024.size (i2' h)) (fun _ => rfl)).squeeze S256x1024 squeezes_S1x1x256x1024_S256x1024).view.WordExact}
    {hsem : ∀ h : P, DmaTarget.Typed .vmem (.dma ((cc0_scratch14.slice (Rect.unit (s := S16x2) o1 S1x1.size (i1 h))).squeeze S_ squeezes_S1x1_S_).sem)
      (.remote (dev h : Thread nD τ) ((agM.slice (Rect.unit (s := S16x2x256x1024) o2 S1x1x256x1024.size (i2 h)) (fun _ => rfl)).squeeze S256x1024 squeezes_S1x1x256x1024_S256x1024)
        (.dma ((cc0_scratch13.slice (Rect.unit (s := S16x2) o0 S1x1.size (i0 h))).squeeze S_ squeezes_S1x1_S_).sem) rfl)}
    {hsem' : ∀ h : P, DmaTarget.Typed .vmem (.dma ((cc0_scratch14.slice (Rect.unit (s := S16x2) o1' S1x1.size (i1' h))).squeeze S_ squeezes_S1x1_S_).sem)
      (.remote (dev' h : Thread nD τ) ((agM.slice (Rect.unit (s := S16x2x256x1024) o2' S1x1x256x1024.size (i2' h)) (fun _ => rfl)).squeeze S256x1024 squeezes_S1x1x256x1024_S256x1024)
        (.dma ((cc0_scratch13.slice (Rect.unit (s := S16x2) o0' S1x1.size (i0' h))).squeeze S_ squeezes_S1x1_S_).sem) rfl)}
    (hP : P ↔ (Fin.ofNat 16 n : Dev nD) ≠ c) (h0 : o0 = ![(Fin.ofNat 16 n).val, (0 : Fin 2).val]) (h0' : o0' = ![(Fin.ofNat 16 n).val, (1 : Fin 2).val])
    (h1 : o1 = ![c.val, (0 : Fin 2).val]) (h1' : o1' = ![c.val, (1 : Fin 2).val])
    (h2 : o2 = ![c.val, (0 : Fin 2).val, 0, 0]) (h2' : o2' = ![c.val, (1 : Fin 2).val, 0, 0])
    (hd : ∀ h, dev h = Fin.ofNat 16 n) (hd' : ∀ h, dev' h = Fin.ofNat 16 n)
    (hk : iprop(ctx m K ∗ (AGs m c (n + 1) ∗ Fr)) ⊢ Wp c k Q) :
    iprop(ctx m K ∗ (AGs m c n ∗ Fr)) ⊢ Wp c (if h : P then
        (Prog.lift (.enqueueDma ((qH 0).squeeze S256x1024 squeezes_S1x256x1024_S256x1024)
          (.remote (dev h : Thread nD τ) ((agM.slice (Rect.unit (s := S16x2x256x1024) o2 S1x1x256x1024.size (i2 h)) (fun _ => rfl)).squeeze S256x1024 squeezes_S1x1x256x1024_S256x1024)
            (.dma ((cc0_scratch13.slice (Rect.unit (s := S16x2) o0 S1x1.size (i0 h))).squeeze S_ squeezes_S1x1_S_).sem) rfl)
          (.dma ((cc0_scratch14.slice (Rect.unit (s := S16x2) o1 S1x1.size (i1 h))).squeeze S_ squeezes_S1x1_S_).sem) (hsrc h) (hdst h) (hsem h)) >>= fun _ =>
         Prog.lift (.enqueueDma ((qH 1).squeeze S256x1024 squeezes_S1x256x1024_S256x1024)
          (.remote (dev' h : Thread nD τ) ((agM.slice (Rect.unit (s := S16x2x256x1024) o2' S1x1x256x1024.size (i2' h)) (fun _ => rfl)).squeeze S256x1024 squeezes_S1x1x256x1024_S256x1024)
            (.dma ((cc0_scratch13.slice (Rect.unit (s := S16x2) o0' S1x1.size (i0' h))).squeeze S_ squeezes_S1x1_S_).sem) rfl)
          (.dma ((cc0_scratch14.slice (Rect.unit (s := S16x2) o1' S1x1.size (i1' h))).squeeze S_ squeezes_S1x1_S_).sem) (hsrc' h) (hdst' h) (hsem' h)) >>= fun _ => k)
        else k) Q := by
  subst h0 h1 h2 h0' h1' h2'
  refine cond_spec2 (m := m) (K := K) (C := AGm m c n) (op1 := fun h => Prog.lift (.enqueueDma _ (.remote (dev h : Thread nD τ) _ _ rfl) _ (hsrc h) (hdst h) (hsem h)))
    (op2 := fun h => Prog.lift (.enqueueDma _ (.remote (dev' h : Thread nD τ) _ _ rfl) _ (hsrc' h) (hdst' h) (hsem' h)))
    (fun h => ?_) (fun h => ?_) (fun h => agSend_skip hn (by by_contra hne; exact h (hP.mpr hne))) hk
  · have hc := hP.mp h
    have e := hd h
    generalize hsem h = hs
    revert hs
    generalize dev h = d at e ⊢
    subst e
    intro hs
    exact agSend_op0 hn rfl hc
  · have hc := hP.mp h
    have e := hd' h
    generalize hsem' h = hs
    revert hs
    generalize dev' h = d at e ⊢
    subst e
    intro hs
    exact agSend_op1 hn rfl hc

/-! ### The waits for the sends -/

theorem agWait_op {n : ℕ} {h : Fin 2} (hne : (Fin.ofNat 16 n : Dev nD) ≠ c) {sp sp' : Space} {src : Memref sig .tc sp S256x1024 .fp8e4m3} {dst : Memref sig .tc sp' S256x1024 .fp8e4m3}
    {hsrc : src.view.WordExact} {hdst : dst.view.WordExact} (hN : dst.view.dmaCredit = NG) :
    iprop(ctx m K ∗ (owesE c 80 ∗ atPos ER (cl c (.agS (Fin.ofNat 16 n) h)) 0 ∅ 0 ∗ cred (tallyAt (cl c (.agS (Fin.ofNat 16 n) h)) () NG)))
      ⊢ Wp c (Prog.lift (.waitDma2 (semG cc0_scratch13 (Fin.ofNat 16 n) h) src dst hsrc hdst))
        (fun _ => iprop(owesE c 80 ∗ atPos ER (cl c (.agS (Fin.ofNat 16 n) h)) 1 ∅ 0 ∗ reached ER (cl c (.agS (Fin.ofNat 16 n) h)) 1
          ∗ has c (qH h) (shr (Fin.ofNat 16 n)) (qv m c h))) := by
  have hw := wait_spec (m := m) (K := K) (c := c) (n := 80) (r := 0) (N := NG) (sm := sem (.agS (Fin.ofNat 16 n) h)) (d := false)
    (fun K => (wpE_waitDma2_eq (sem := semG cc0_scratch13 (Fin.ofNat 16 n) h) (src := src) (dst := dst) (hsrc := hsrc) (hdst := hdst) 𝒱₀ (c : Thread nD τ) none Set.univ K).trans (by rw [hN]; rfl))
    (by rw [kd_agS]; exact fun h => by cases h) (by rw [kd_agS]; exact if_pos ⟨rfl, hne⟩) (by rw [kd_agS]; rfl) (.inr rfl)
  rw [kd_agS] at hw
  exact hw

theorem agWait_skip {n : ℕ} (hn : n < 16) (he : (Fin.ofNat 16 n : Dev nD) = c) : AGw m c n ⊢ AGw m c (n + 1) := by
  unfold AGw
  rw [bigSep_head hn, bigSep_tail]
  unfold AG1 AG2
  rw [if_pos he, if_pos he]
  iintro ⟨HO, H1, H, H0⟩
  isplitl [HO]; · iexact HO
  isplitr [H0]
  · isplitl [H]; · iexact H
    iexact H1
  iexact H0

/-- Between the two waits. -/
def AGx (m : (ℓ : Loc nD τ sig) → Buf (Elt F) ℓ) (c : Dev nD) (n : ℕ) : sProp 𝕄 :=
  iprop(owesE c 80 ∗ (has c (qH 0) (shr (Fin.ofNat 16 n)) (qv m c 0) ∗ atPos ER (cl c (.agS (Fin.ofNat 16 n) 0)) 1 ∅ 0
      ∗ atPos ER (cl c (.agS (Fin.ofNat 16 n) 1)) 0 ∅ 0 ∗ cred (tallyAt (cl c (.agS (Fin.ofNat 16 n) 1)) () NG))
    ∗ bigSep (Finset.range n) (fun t => AG2 m c (Fin.ofNat 16 t))
    ∗ bigSep (Finset.Ico (n + 1) 16) (fun t => iprop(AG1 m c (Fin.ofNat 16 t) ∗ atPos ER (cl c (.agS (Fin.ofNat 16 t) 0)) 0 ∅ 0 ∗ atPos ER (cl c (.agS (Fin.ofNat 16 t) 1)) 0 ∅ 0)))

/-- The two waits for the sends to device `n`. -/
theorem agWait_item {β : Type} {n : ℕ} (hn : n < 16) {P : Prop} [Decidable P] {k : PR F β} {Fr : sProp 𝕄} {Q : β → sProp 𝕄}
    {o0 o0' : Fin 2 → ℕ} {i0 : P → ∀ a, o0 a + S1x1.size a ≤ S16x2.size a} {i0' : P → ∀ a, o0' a + S1x1.size a ≤ S16x2.size a}
    {sp sp' : Space} {src src' : P → Memref sig .tc sp S256x1024 .fp8e4m3} {dst dst' : P → Memref sig .tc sp' S256x1024 .fp8e4m3}
    {hsrc : ∀ h, (src h).view.WordExact} {hdst : ∀ h, (dst h).view.WordExact} {hsrc' : ∀ h, (src' h).view.WordExact} {hdst' : ∀ h, (dst' h).view.WordExact}
    (hP : P ↔ (Fin.ofNat 16 n : Dev nD) ≠ c) (h0 : o0 = ![(Fin.ofNat 16 n).val, (0 : Fin 2).val]) (h0' : o0' = ![(Fin.ofNat 16 n).val, (1 : Fin 2).val])
    (hN : ∀ h, (dst h).view.dmaCredit = NG) (hN' : ∀ h, (dst' h).view.dmaCredit = NG)
    (hk : iprop(ctx m K ∗ (AGw m c (n + 1) ∗ Fr)) ⊢ Wp c k Q) :
    iprop(ctx m K ∗ (AGw m c n ∗ Fr)) ⊢ Wp c (if h : P then
        (Prog.lift (.waitDma2 ((cc0_scratch13.slice (Rect.unit (s := S16x2) o0 S1x1.size (i0 h))).squeeze S_ squeezes_S1x1_S_).sem (src h) (dst h) (hsrc h) (hdst h)) >>= fun _ =>
         Prog.lift (.waitDma2 ((cc0_scratch13.slice (Rect.unit (s := S16x2) o0' S1x1.size (i0' h))).squeeze S_ squeezes_S1x1_S_).sem (src' h) (dst' h) (hsrc' h) (hdst' h)) >>= fun _ => k)
        else k) Q := by
  subst h0 h0'
  refine cond_spec2 (m := m) (K := K) (C := AGx m c n) (op1 := fun h => Prog.lift (.waitDma2 _ (src h) (dst h) (hsrc h) (hdst h)))
    (op2 := fun h => Prog.lift (.waitDma2 _ (src' h) (dst' h) (hsrc' h) (hdst' h)))
    (fun h => ?_) (fun h => ?_) (fun h => agWait_skip hn (by by_contra hne; exact h (hP.mpr hne))) hk
  · have hne := hP.mp h
    unfold AGw AGx
    rw [bigSep_head hn]
    unfold AG1
    rw [if_neg hne]
    iintro ⟨#HC, HO, H1, ⟨⟨Hc, Hc1⟩, Ha, Ha1⟩, H0⟩
    ihave H := (agWait_op (m := m) (K := K) (h := 0) hne (hN h)) $$ [HO Ha Hc]
    · isplitr; · iexact HC
      isplitl [HO]; · iexact HO
      isplitl [Ha]; · iexact Ha
      iexact Hc
    unfold Wp
    iapply (wp_wand) $$ H
    iintro %v ⟨HO, Ha, -, Hp⟩
    isplitl [HO]; · iexact HO
    isplitl [Hp Ha Ha1 Hc1]
    · isplitl [Hp]; · iexact Hp
      isplitl [Ha]; · iexact Ha
      isplitl [Ha1]; · iexact Ha1
      iexact Hc1
    isplitl [H1]; · iexact H1
    iexact H0
  · have hne := hP.mp h
    unfold AGw AGx
    rw [bigSep_tail]
    unfold AG2 QQ
    rw [if_neg hne]
    iintro ⟨#HC, HO, ⟨Hp0, Ha0, Ha, Hc⟩, H1, H0⟩
    ihave H := (agWait_op (m := m) (K := K) (h := 1) hne (hN' h)) $$ [HO Ha Hc]
    · isplitr; · iexact HC
      isplitl [HO]; · iexact HO
      isplitl [Ha]; · iexact Ha
      iexact Hc
    unfold Wp
    iapply (wp_wand) $$ H
    iintro %v ⟨HO, Ha, -, Hp⟩
    isplitl [HO]; · iexact HO
    isplitr [H0]
    · isplitl [Hp Ha Hp0 Ha0]
      · isplitl [Hp Hp0]
        · isplitl [Hp0]; · iexact Hp0
          iexact Hp
        isplitl [Ha0]; · iexact Ha0
        iexact Ha
      iexact H1
    iexact H0

end

end Cert.KernelIdeal.Run

end
-- ==== Proof.Deq.lean ====
module

public import proofs.«01_k».proof.Proof.Gather

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The last phase: the blocks multiplied by the scale and copied out -/

/-- Device `j`'s half `h` as it lies among the gathered blocks. -/
def qw (j : Dev nD) (h : Fin 2) : Vec F S1x1x256x1024 .fp8e4m3 :=
  shapeCast S1x1x256x1024 (qv2 m j h) shapeCasts_S1x1x256x1024_S256x1024.symm

/-- The device and half of block `t`. -/
abbrev jt (t : ℕ) : Dev nD := Fin.ofNat 16 (t / 2)
abbrev ht (t : ℕ) : Fin 2 := Fin.ofNat 2 t
/-- The slot of block `t`, and the semaphore of its copy. -/
abbrev kt (t : ℕ) : Fin 4 := Fin.ofNat 4 t
/-- The slot, and the block of the result. -/
abbrev dS (t : ℕ) : Memref sig .tc .vmem S1x256x1024 .f32 := dqM.slice (rD (kt t)) (fun _ => rfl)
abbrev oS (t : ℕ) : Memref sig .tc .hbm S1x256x1024 .f32 := oM.slice (rOut (Fin.ofNat 32 t)) (fun _ => rfl)

/-- Before the arrival of block `t`. -/
def GR0 (c : Dev nD) (t : ℕ) : sProp 𝕄 :=
  iprop(atPos ER (cl c (.agR (jt t) (ht t))) 0 ∅ 0 ∗ (if jt t = c then any (F := F) c (agH (jt t) (ht t)) else cred (tallyAt (cl c (.agR (jt t) (ht t))) () NG)))
/-- After it: the own place holds anything. -/
def GR1 (c : Dev nD) (t : ℕ) : sProp 𝕄 :=
  iprop(atPos ER (cl c (.agR (jt t) (ht t))) (if jt t = c then 0 else 1) ∅ 0
    ∗ ∃ X, ⌜jt t ≠ c → X = qw m (jt t) (ht t)⌝ ∗ has c (agH (jt t) (ht t)) fullShare X)
/-- `n` arrivals waited for. -/
def GR (c : Dev nD) (n : ℕ) : sProp 𝕄 :=
  iprop(bigSep (Finset.range n) (GR1 m c) ∗ bigSep (Finset.Ico n 32) (GR0 (F := F) c))
/-- The kept share of the own blocks. -/
def QK (c : Dev nD) : sProp 𝕄 := iprop(has c (qH 0) shr0 (qv m c 0) ∗ has c (qH 1) shr0 (qv m c 1))

/-- `w` copies waited for, `p` started. -/
def DQ (c : Dev nD) (w p : ℕ) : sProp 𝕄 :=
  iprop((bigSep (Finset.range w) (fun t => has c (oS t) fullShare (ob m (Fin.ofNat 32 t)))
      ∗ bigSep (Finset.Ico w p) (fun t => cred (tallyAt (cl c (.dq (kt t))) () ND))
      ∗ bigSep (Finset.Ico p 32) (fun t => iprop(any (F := F) c (oS t) ∗ dutyTok ER (cl c (.dq (kt t))) (t / 4) false)))
    ∗ (bigSep (Finset.Ico p (w + 4)) (fun t => iprop(any (F := F) c (dS t) ∗ reached ER (cl c (.dq (kt t))) (t / 4)))
      ∗ bigSep (Finset.Ico w (w + 4)) (fun t => atPos ER (cl c (.dq (kt t))) (t / 4) ∅ 0)))
/-- The same with the next block stored in its slot. -/
def DQs (c : Dev nD) (w p : ℕ) : sProp 𝕄 :=
  iprop((bigSep (Finset.range w) (fun t => has c (oS t) fullShare (ob m (Fin.ofNat 32 t)))
      ∗ bigSep (Finset.Ico w p) (fun t => cred (tallyAt (cl c (.dq (kt t))) () ND))
      ∗ bigSep (Finset.Ico p 32) (fun t => iprop(any (F := F) c (oS t) ∗ dutyTok ER (cl c (.dq (kt t))) (t / 4) false)))
    ∗ ((has c (dS p) fullShare (ob m (Fin.ofNat 32 p)) ∗ reached ER (cl c (.dq (kt p))) (p / 4))
      ∗ bigSep (Finset.Ico (p + 1) (w + 4)) (fun t => iprop(any (F := F) c (dS t) ∗ reached ER (cl c (.dq (kt t))) (t / 4)))
      ∗ bigSep (Finset.Ico w (w + 4)) (fun t => atPos ER (cl c (.dq (kt t))) (t / 4) ∅ 0)))

/-- The state of the last phase: `n` arrivals, `w` copies waited for, `p` started. -/
def DS (c : Dev nD) (n w p : ℕ) : sProp 𝕄 := iprop(owesE c 80 ∗ QK m c ∗ GR m c n ∗ DQ m c w p)
def DSs (c : Dev nD) (n w p : ℕ) : sProp 𝕄 := iprop(owesE c 80 ∗ QK m c ∗ GR m c n ∗ DQs m c w p)

section
variable {m}
variable {K : GSem nD τ sig → ℕ} {c : Dev nD}

omit [FloatOps F] in
/-- One more at the far end of an interval. -/
theorem bigSep_far {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_Ico, Finset.mem_insert]; omega
  rw [e, BI.bigSep_insert (by simp)]
  rfl

/-- The same block without its leading unit axes. -/
theorem qw_cast (j : Dev nD) (h : Fin 2) : shapeCast S256x1024 (qw m j h) shapeCasts_S1x1x256x1024_S256x1024 = qv2 m j h := by
  unfold qw
  generalize qv2 m j h = X
  funext y
  exact congrArg X ((Shape.reshapeEquiv_reshapeEquiv _ _ y).trans (Shape.reshapeEquiv_self _ y))

theorem qw_squeeze (j : Dev nD) (h : Fin 2) :
    has (F := F) c (agB j h) fullShare (qv2 m j h) ⊢ has c (agH j h) fullShare (qw m j h) := by
  rw [← qw_cast]
  exact has_unsqueeze c (agH j h) S256x1024 squeezes_S1x1x256x1024_S256x1024 fullShare (qw m j h) shapeCasts_S1x1x256x1024_S256x1024

theorem recv_ag_op {n : ℕ} (hn : n < 32) (hne : jt n ≠ c) {sp sp' : Space} {src : Memref sig .tc sp S256x1024 .fp8e4m3} {dst : Memref sig .tc sp' S256x1024 .fp8e4m3}
    {hsrc : src.view.WordExact} {hdst : dst.view.WordExact} (hN : dst.view.dmaCredit = NG) :
    iprop(ctx m K ∗ iprop(owesE c 80 ∗ GR m c n)) ⊢ Wp c (Prog.lift (.waitDma2 (semG cc0_scratch14 (jt n) (ht n)) src dst hsrc hdst))
      (fun _ => iprop(owesE c 80 ∗ GR m c (n + 1))) := by
  have h := wait_spec (m := m) (K := K) (c := c) (n := 80) (r := 0) (N := NG) (sm := sem (.agR (jt n) (ht n))) (d := false)
    (fun K => (wpE_waitDma2_eq (sem := semG cc0_scratch14 (jt n) (ht n)) (src := src) (dst := dst) (hsrc := hsrc) (hdst := hdst) 𝒱₀ (c : Thread nD τ) none Set.univ K).trans (by rw [hN]; rfl))
    (by rw [kd_agR]; exact fun h => by cases h) (by rw [kd_agR]; exact if_pos ⟨rfl, hne⟩) (by rw [kd_agR]; rfl) (.inr rfl)
  rw [kd_agR] at h
  unfold GR
  rw [bigSep_head hn, bigSep_tail]
  unfold GR0 GR1
  rw [if_neg hne, if_neg hne]
  iintro ⟨#HC, HO, H1, ⟨Ha, Hc⟩, H0⟩
  ihave H := h $$ [HO Ha Hc]
  · isplitr; · iexact HC
    isplitl [HO]; · iexact HO
    isplitl [Ha]; · iexact Ha
    iexact Hc
  unfold Wp
  iapply (wp_wand) $$ H
  iintro %v ⟨HO, Ha, -, Hp⟩
  unfold pay
  isplitl [HO]; · iexact HO
  isplitr [H0]
  · isplitl [Hp Ha]
    · isplitl [Ha]; · iexact Ha
      iexists (qw m (jt n) (ht n))
      isplitr; · ipureintro; exact fun _ => rfl
      iapply (qw_squeeze (m := m) (jt n) (ht n)) $$ Hp
    iexact H1
  iexact H0

theorem recv_ag_skip {n : ℕ} (hn : n < 32) (he : jt n = c) : iprop(owesE c 80 ∗ GR m c n) ⊢ iprop(owesE c 80 ∗ GR m c (n + 1)) := by
  unfold GR
  rw [bigSep_head hn, bigSep_tail]
  unfold GR0 GR1
  rw [if_pos he, if_pos he]
  unfold any has owns
  iintro ⟨HO, H1, ⟨Ha, %f, H⟩, H0⟩
  isplitl [HO]; · iexact HO
  isplitr [H0]
  · isplitl [H Ha]
    · isplitl [Ha]; · iexact Ha
      iexists ((agH (jt n) (ht n)).view.read (Elt F) f)
      isplitr; · ipureintro; exact fun h => absurd he h
      iexists f
      isplitr; · ipureintro; rfl
      iexact H
    iexact H1
  iexact H0

omit [FloatOps F] in
/-- Two factors moved to the front and back. -/
theorem to_front {A B C D E : sProp 𝕄} : iprop((A ∗ B ∗ C ∗ D) ∗ E) ⊣⊢ iprop((A ∗ C) ∗ (B ∗ D ∗ E)) := by
  constructor
  · iintro ⟨⟨HA, HB, HC, HD⟩, HE⟩
    isplitl [HA HC]
    · isplitl [HA]; · iexact HA
      iexact HC
    isplitl [HB]; · iexact HB
    isplitl [HD]; · iexact HD
    iexact HE
  · iintro ⟨⟨HA, HC⟩, HB, HD, HE⟩
    isplitr [HE]
    · isplitl [HA]; · iexact HA
      isplitl [HB]; · iexact HB
      isplitl [HC]; · iexact HC
      iexact HD
    iexact HE

/-- The wait for the arrival of block `n`. -/
theorem agRecv_item {β : Type} {n w p : ℕ} (hn : n < 32) {P : Prop} [Decidable P] {k : PR F β} {Fr : sProp 𝕄} {Q : β → sProp 𝕄}
    {o0 : Fin 2 → ℕ} {i0 : P → ∀ a, o0 a + S1x1.size a ≤ S16x2.size a}
    {sp sp' : Space} {src : P → Memref sig .tc sp S256x1024 .fp8e4m3} {dst : P → Memref sig .tc sp' S256x1024 .fp8e4m3}
    {hsrc : ∀ h, (src h).view.WordExact} {hdst : ∀ h, (dst h).view.WordExact}
    (hP : P ↔ jt n ≠ c) (h0 : o0 = ![(jt n).val, (ht n).val]) (hN : ∀ h, (dst h).view.dmaCredit = NG)
    (hk : iprop(ctx m K ∗ (DS m c (n + 1) w p ∗ Fr)) ⊢ Wp c k Q) :
    iprop(ctx m K ∗ (DS m c n w p ∗ Fr)) ⊢ Wp c (if h : P then
        (Prog.lift (.waitDma2 ((cc0_scratch14.slice (Rect.unit (s := S16x2) o0 S1x1.size (i0 h))).squeeze S_ squeezes_S1x1_S_).sem (src h) (dst h) (hsrc h) (hdst h)) >>= fun _ => k)
        else k) Q := by
  subst h0
  unfold DS at hk ⊢
  exact (sepR to_front.1).trans (cond_spec (m := m) (K := K) (op := fun h => Prog.lift (.waitDma2 _ (src h) (dst h) (hsrc h) (hdst h)))
    (fun h => recv_ag_op hn (hP.mp h) (hN h)) (fun h => recv_ag_skip hn (by by_contra hne; exact h (hP.mpr hne)))
    ((sepR to_front.2).trans hk))

/-- The load of the own half `h`. -/
theorem ldQ_item {β : Type} {n w p : ℕ} (h : Fin 2) {k : Vec F S1x256x1024 .fp8e4m3 → PR F β} {Fr : sProp 𝕄} {Q : β → sProp 𝕄}
    {o : Fin 3 → ℕ} {i : ∀ a, o a + S1x256x1024.size a ≤ S2x256x1024.size a} {hl : qM.view.LoadsAt (Rect.unit (s := S2x256x1024) o S1x256x1024.size i).toLoadRect}
    (h0 : o = ![h.val, 0, 0]) (hk : iprop(ctx m K ∗ (DS m c n w p ∗ Fr)) ⊢ Wp c (k (qv m c h)) Q) :
    iprop(ctx m K ∗ (DS m c n w p ∗ Fr)) ⊢ Wp c (Prog.lift (.load qM (Rect.unit (s := S2x256x1024) o S1x256x1024.size i).toLoadRect hl) >>= k) Q := by
  subst h0
  unfold DS QK at hk ⊢
  match h with
  | 0 =>
    iintro ⟨#HC, ⟨HO, ⟨Hq, Hq1⟩, HR⟩, HF⟩
    iapply (cps (m := m) (K := K) (load_has (m := m) (K := K) (c := c) (M := qM) (r := rQ 0) (hr := fun _ => rfl) (q := shr0) (X := qv m c 0))) $$ [Hq]
    · isplitr; · iexact HC
      iexact Hq
    iintro %v ⟨%hv, Hq⟩
    subst hv
    iapply hk
    isplitr; · iexact HC
    isplitr [HF]
    · isplitl [HO]; · iexact HO
      isplitl [Hq Hq1]
      · isplitl [Hq]; · iexact Hq
        iexact Hq1
      iexact HR
    iexact HF
  | 1 =>
    iintro ⟨#HC, ⟨HO, ⟨Hq1, Hq⟩, HR⟩, HF⟩
    iapply (cps (m := m) (K := K) (load_has (m := m) (K := K) (c := c) (M := qM) (r := rQ 1) (hr := fun _ => rfl) (q := shr0) (X := qv m c 1))) $$ [Hq]
    · isplitr; · iexact HC
      iexact Hq
    iintro %v ⟨%hv, Hq⟩
    subst hv
    iapply hk
    isplitr; · iexact HC
    isplitr [HF]
    · isplitl [HO]; · iexact HO
      isplitl [Hq Hq1]
      · isplitl [Hq1]; · iexact Hq1
        iexact Hq
      iexact HR
    iexact HF

/-- The same, for the half that block `p` is of. -/
theorem ldQ_at {β : Type} {n w p : ℕ} {k : Vec F S1x256x1024 .fp8e4m3 → PR F β} {Fr : sProp 𝕄} {Q : β → sProp 𝕄}
    {o : Fin 3 → ℕ} {i : ∀ a, o a + S1x256x1024.size a ≤ S2x256x1024.size a} {hl : qM.view.LoadsAt (Rect.unit (s := S2x256x1024) o S1x256x1024.size i).toLoadRect}
    (h0 : o = ![(ht p).val, 0, 0]) (hk : iprop(ctx m K ∗ (DS m c n w p ∗ Fr)) ⊢ Wp c (k (qv m c (ht p))) Q) :
    iprop(ctx m K ∗ (DS m c n w p ∗ Fr)) ⊢ Wp c (Prog.lift (.load qM (Rect.unit (s := S2x256x1024) o S1x256x1024.size i).toLoadRect hl) >>= k) Q :=
  ldQ_item (ht p) h0 hk

/-- The load of the place of block `n`, the last that arrived. -/
theorem ldA_item {β : Type} {n w p : ℕ} {k : Vec F S1x1x256x1024 .fp8e4m3 → PR F β} {Fr : sProp 𝕄} {Q : β → sProp 𝕄}
    {o : Fin 4 → ℕ} {i : ∀ a, o a + S1x1x256x1024.size a ≤ S16x2x256x1024.size a} {hl : agM.view.LoadsAt (Rect.unit (s := S16x2x256x1024) o S1x1x256x1024.size i).toLoadRect}
    (h0 : o = ![(jt n).val, (ht n).val, 0, 0])
    (hk : ∀ X, (jt n ≠ c → X = qw m (jt n) (ht n)) → iprop(ctx m K ∗ (DS m c (n + 1) w p ∗ Fr)) ⊢ Wp c (k X) Q) :
    iprop(ctx m K ∗ (DS m c (n + 1) w p ∗ Fr)) ⊢ Wp c (Prog.lift (.load agM (Rect.unit (s := S16x2x256x1024) o S1x1x256x1024.size i).toLoadRect hl) >>= k) Q := by
  subst h0
  unfold DS GR at hk ⊢
  rw [bigSep_tail] at hk ⊢
  rw [show GR1 m c n = iprop(atPos ER (cl c (.agR (jt n) (ht n))) (if jt n = c then 0 else 1) ∅ 0
    ∗ ∃ X, ⌜jt n ≠ c → X = qw m (jt n) (ht n)⌝ ∗ has c (agH (jt n) (ht n)) fullShare X) from rfl] at hk ⊢
  iintro ⟨#HC, ⟨HO, HQ, ⟨⟨⟨Ha, %X, %hX, Hx⟩, H1⟩, H0⟩, HD⟩, HF⟩
  iapply (cps (m := m) (K := K) (load_has (m := m) (K := K) (c := c) (M := agM) (r := rAg (jt n) (ht n)) (hr := fun _ => rfl) (q := fullShare) (X := X))) $$ [Hx]
  · isplitr; · iexact HC
    iexact Hx
  iintro %v ⟨%hv, Hx⟩
  subst hv
  iapply (hk v hX)
  isplitr; · iexact HC
  isplitr [HF]
  · isplitl [HO]; · iexact HO
    isplitl [HQ]; · iexact HQ
    isplitr [HD]
    · isplitr [H0]
      · isplitl [Ha Hx]
        · isplitl [Ha]; · iexact Ha
          iexists v
          isplitr; · ipureintro; exact hX
          iexact Hx
        iexact H1
      iexact H0
    iexact HD
  iexact HF

/-- The load of the slot of block `p`, whose contents do not matter. -/
theorem ldD_item {β : Type} {n w p : ℕ} (hp : p < w + 4) {k : Vec F S1x256x1024 .f32 → PR F β} {Fr : sProp 𝕄} {Q : β → sProp 𝕄}
    {o : Fin 3 → ℕ} {i : ∀ a, o a + S1x256x1024.size a ≤ S4x256x1024.size a} {hl : dqM.view.LoadsAt (Rect.unit (s := S4x256x1024) o S1x256x1024.size i).toLoadRect}
    (h0 : o = ![(kt p).val, 0, 0]) (hk : ∀ v, iprop(ctx m K ∗ (DS m c n w p ∗ Fr)) ⊢ Wp c (k v) Q) :
    iprop(ctx m K ∗ (DS m c n w p ∗ Fr)) ⊢ Wp c (Prog.lift (.load dqM (Rect.unit (s := S4x256x1024) o S1x256x1024.size i).toLoadRect hl) >>= k) Q := by
  subst h0
  unfold DS DQ at hk ⊢
  rw [bigSep_head hp] at hk ⊢
  iintro ⟨#HC, ⟨HO, HQ, HG, HA, ⟨⟨Hx, Hr⟩, HB⟩, HP⟩, HF⟩
  iapply (cps (m := m) (K := K) (load_any (m := m) (K := K) (c := c) (M := dqM) (r := rD (kt p)) (hr := fun _ => rfl))) $$ [Hx]
  · isplitr; · iexact HC
    iexact Hx
  iintro %v Hx
  iapply (hk v)
  isplitr; · iexact HC
  isplitr [HF]
  · isplitl [HO]; · iexact HO
    isplitl [HQ]; · iexact HQ
    isplitl [HG]; · iexact HG
    isplitl [HA]; · iexact HA
    isplitr [HP]
    · isplitl [Hx Hr]
      · isplitl [Hx]; · iexact Hx
        iexact Hr
      iexact HB
    iexact HP
  iexact HF

/-- The store of block `p` in its slot. -/
theorem stD_item {β : Type} {n w p : ℕ} (hp : p < w + 4) {k : PUnit → PR F β} {Fr : sProp 𝕄} {Q : β → sProp 𝕄}
    {o : Fin 3 → ℕ} {i : ∀ a, o a + S1x256x1024.size a ≤ S4x256x1024.size a} {V : Vec F S1x256x1024 .f32}
    {hx : (dqM.access (Rect.unit (s := S4x256x1024) o S1x256x1024.size i)).Stores Finset.univ}
    {hm : (Finset.univ : Finset (Rect.unit (s := S4x256x1024) o S1x256x1024.size i).shape.Idx) = Finset.univ ∨ ∀ a, (Rect.unit (s := S4x256x1024) o S1x256x1024.size i).stride a = 1}
    (h0 : o = ![(kt p).val, 0, 0]) (hV : V = ob m (Fin.ofNat 32 p)) (hk : iprop(ctx m K ∗ (DSs m c n w p ∗ Fr)) ⊢ Wp c (k ⟨⟩) Q) :
    iprop(ctx m K ∗ (DS m c n w p ∗ Fr)) ⊢ Wp c (Prog.lift (.store dqM (Rect.unit (s := S4x256x1024) o S1x256x1024.size i) V Finset.univ hx hm) >>= k) Q := by
  subst h0 hV
  unfold DS DQ
  unfold DSs DQs at hk
  rw [bigSep_head hp]
  iintro ⟨#HC, ⟨HO, HQ, HG, HA, ⟨⟨Hx, Hr⟩, HB⟩, HP⟩, HF⟩
  iapply (cps (m := m) (K := K) (store_any (m := m) (K := K) (c := c) (M := dqM) (r := rD (kt p)) (w := ob m (Fin.ofNat 32 p)) (hr := fun _ => rfl))) $$ [Hx]
  · isplitr; · iexact HC
    iexact Hx
  iintro %v Hx
  iapply hk
  isplitr; · iexact HC
  isplitr [HF]
  · isplitl [HO]; · iexact HO
    isplitl [HQ]; · iexact HQ
    isplitl [HG]; · iexact HG
    isplitl [HA]; · iexact HA
    isplitl [Hx Hr]
    · isplitl [Hx]; · iexact Hx
      iexact Hr
    isplitl [HB]; · iexact HB
    iexact HP
  iexact HF

theorem dut_dq (c : Dev nD) {p : ℕ} (h : p < 32) : dut c (.dq (kt p)) (p / 4) = {false} := if_pos (by omega)

theorem ofNat32 {p : ℕ} (h : p < 32) : (Fin.ofNat 32 (4 * (p / 4) + (kt p).val)) = Fin.ofNat 32 p := by
  apply Fin.ext
  show (4 * (p / 4) + p % 4) % 32 = p % 32
  omega

/-- The start of the copy of block `p`. -/
theorem cpD_item {β : Type} {n w p : ℕ} (hp : p < 32) (hwp : w ≤ p) {k : PUnit → PR F β} {Fr : sProp 𝕄} {Q : β → sProp 𝕄}
    {o0 : Fin 1 → ℕ} {i0 : ∀ a, o0 a + S1.size a ≤ S4.size a}
    {o1 : Fin 3 → ℕ} {i1 : ∀ a, o1 a + S1x256x1024.size a ≤ S4x256x1024.size a} {o2 : Fin 3 → ℕ} {i2 : ∀ a, o2 a + S1x256x1024.size a ≤ S16x256x2048.size a}
    {hsrc : ((dqM.slice (Rect.unit (s := S4x256x1024) o1 S1x256x1024.size i1) (fun _ => rfl)).squeeze S256x1024 squeezes_S1x256x1024_S256x1024).view.WordExact}
    {hdst : ((oM.slice (Rect.unit (s := S16x256x2048) o2 S1x256x1024.size i2) (fun _ => rfl)).squeeze S256x1024 squeezes_S1x256x1024_S256x1024).view.WordExact}
    {hsem : DmaTarget.Typed (nD := nD) (p := (.tc : Proc τ)) .vmem (.dma ((cc0_scratch17.slice (Rect.unit (s := S4) o0 S1.size i0)).squeeze S_ squeezes_S1_S_).sem)
      (.here ((oM.slice (Rect.unit (s := S16x256x2048) o2 S1x256x1024.size i2) (fun _ => rfl)).squeeze S256x1024 squeezes_S1x256x1024_S256x1024))}
    (h0 : o0 = ![(kt p).val]) (h1 : o1 = ![(kt p).val, 0, 0])
    (h2 : o2 = ![(chunk (Fin.ofNat 32 p)).val, 0, 1024 * ((Fin.ofNat 32 p).val % 2)]) (hk : iprop(ctx m K ∗ (DS m c n w (p + 1) ∗ Fr)) ⊢ Wp c (k ⟨⟩) Q) :
    iprop(ctx m K ∗ (DSs m c n w p ∗ Fr)) ⊢ Wp c (Prog.lift (.enqueueDma ((dqM.slice (Rect.unit (s := S4x256x1024) o1 S1x256x1024.size i1) (fun _ => rfl)).squeeze S256x1024 squeezes_S1x256x1024_S256x1024)
      (.here ((oM.slice (Rect.unit (s := S16x256x2048) o2 S1x256x1024.size i2) (fun _ => rfl)).squeeze S256x1024 squeezes_S1x256x1024_S256x1024))
      (.dma ((cc0_scratch17.slice (Rect.unit (s := S4) o0 S1.size i0)).squeeze S_ squeezes_S1_S_).sem) hsrc hdst hsem) >>= k) Q := by
  subst h0 h1 h2
  unfold DS DQ at hk
  unfold DSs DQs
  rw [bigSep_head hp]
  rw [bigSep_far hwp] at hk
  rw [← any_squeeze c (oS p) S256x1024 squeezes_S1x256x1024_S256x1024]
  iintro ⟨#HC, ⟨HO, HQ, HG, ⟨HA, HI, ⟨Ho, Ht⟩, HL⟩, ⟨Hx, #Hr⟩, HB, HP⟩, HF⟩
  ihave Hx := (has_squeeze c (dS p) S256x1024 squeezes_S1x256x1024_S256x1024 fullShare (ob m (Fin.ofNat 32 p)) shapeCasts_S1x256x1024_S256x1024) $$ Hx
  iapply (cps (m := m) (K := K) (copy_spec (m := m) (K := K) (c := c) (r := p / 4) (N := ND) (src := (dS p).squeeze S256x1024 squeezes_S1x256x1024_S256x1024)
    (dst := (oS p).squeeze S256x1024 squeezes_S1x256x1024_S256x1024) (sR := sem (.dq (kt p))) (q := fullShare)
    (X := fun j => ob m (Fin.ofNat 32 p) (Shape.reshapeEquiv shapeCasts_S1x256x1024_S256x1024 j)) (hsrc := hsrc) (hdst := hdst) (hsem := hsem)
    (by rw [kd_dq]; exact fun h => by cases h) (by rw [kd_dq]; exact dut_dq c hp) rfl (by rw [kd_dq]; rfl) (by
      rw [kd_dq]
      unfold pay
      dsimp only
      rw [ofNat32 hp]
      exact BI.sep_mono (has_unsqueeze c (oS p) S256x1024 squeezes_S1x256x1024_S256x1024 fullShare (ob m (Fin.ofNat 32 p)) shapeCasts_S1x256x1024_S256x1024)
        ((has_unsqueeze c (dS p) S256x1024 squeezes_S1x256x1024_S256x1024 fullShare (ob m (Fin.ofNat 32 p)) shapeCasts_S1x256x1024_S256x1024).trans (any_of_has c (dS p) _))))) $$ [Hx Ho Ht]
  · isplitr; · iexact HC
    isplitl [Hx]; · iexact Hx
    isplitl [Ho]; · iexact Ho
    isplitl [Ht]; · iexact Ht
    iexact Hr
  iintro %v Hc
  iapply hk
  isplitr; · iexact HC
  isplitr [HF]
  · isplitl [HO]; · iexact HO
    isplitl [HQ]; · iexact HQ
    isplitl [HG]; · iexact HG
    isplitl [HA HI Hc HL]
    · isplitl [HA]; · iexact HA
      isplitl [HI Hc]
      · isplitl [Hc]; · iexact Hc
        iexact HI
      iexact HL
    isplitl [HB]; · iexact HB
    iexact HP
  iexact HF

/-- The wait for the copy of block `w`. -/
theorem dqWait_item {β : Type} {n w p : ℕ} (hw : w < p) (hp : p ≤ 32) (hpw : p ≤ w + 4) {k : PUnit → PR F β} {Fr : sProp 𝕄} {Q : β → sProp 𝕄}
    {o0 : Fin 1 → ℕ} {i0 : ∀ a, o0 a + S1.size a ≤ S4.size a}
    {sp sp' : Space} {src : Memref sig .tc sp S256x1024 .f32} {dst : Memref sig .tc sp' S256x1024 .f32}
    {hsrc : src.view.WordExact} {hdst : dst.view.WordExact}
    (h0 : o0 = ![(kt w).val]) (hN : dst.view.dmaCredit = ND)
    (hk : iprop(ctx m K ∗ (DS m c n (w + 1) p ∗ Fr)) ⊢ Wp c (k ⟨⟩) Q) :
    iprop(ctx m K ∗ (DS m c n w p ∗ Fr)) ⊢ Wp c
        (Prog.lift (.waitDma2 ((cc0_scratch17.slice (Rect.unit (s := S4) o0 S1.size i0)).squeeze S_ squeezes_S1_S_).sem src dst hsrc hdst) >>= k) Q := by
  subst h0
  have h := wait_spec (m := m) (K := K) (c := c) (n := 80) (r := w / 4) (N := ND) (sm := sem (.dq (kt w))) (d := false)
    (fun K => (wpE_waitDma2_eq (sem := ((cc0_scratch17.slice (Rect.unit (s := S4) ![(kt w).val] S1.size i0)).squeeze S_ squeezes_S1_S_).sem) (src := src) (dst := dst) (hsrc := hsrc) (hdst := hdst) 𝒱₀ (c : Thread nD τ) none Set.univ K).trans (by rw [hN]; rfl))
    (by rw [kd_dq]; exact fun h => by cases h) (by rw [kd_dq]; exact dut_dq c (by omega)) (by rw [kd_dq]; rfl) (.inr rfl)
  rw [kd_dq] at h
  unfold pay at h
  dsimp only at h
  rw [ofNat32 (p := w) (by omega)] at h
  have e4 : (w + 4) / 4 = w / 4 + 1 := by omega
  have k4 : kt (w + 4) = kt w := by
    apply Fin.ext
    show (w + 4) % 4 = w % 4
    omega
  unfold DS DQ at hk ⊢
  rw [bigSep_head (show w < w + 4 by omega), bigSep_head hw]
  rw [bigSep_tail, show w + 1 + 4 = (w + 4) + 1 from by omega, bigSep_far hpw, bigSep_far (show w + 1 ≤ w + 4 by omega), e4, k4] at hk
  unfold dS at hk ⊢
  rw [k4] at hk
  iintro ⟨#HC, ⟨HO, HQ, HG, ⟨HA, ⟨Hc, HI⟩, HL⟩, HB, Ha, HP⟩, HF⟩
  iapply (cps (m := m) (K := K) h) $$ [HO Ha Hc]
  · isplitr; · iexact HC
    isplitl [HO]; · iexact HO
    isplitl [Ha]; · iexact Ha
    iexact Hc
  iintro %v ⟨HO, Ha, Hr, Ho, Hs⟩
  iapply hk
  isplitr; · iexact HC
  isplitr [HF]
  · isplitl [HO]; · iexact HO
    isplitl [HQ]; · iexact HQ
    isplitl [HG]; · iexact HG
    isplitl [HA HI HL Ho]
    · isplitl [HA Ho]
      · isplitl [Ho]; · iexact Ho
        iexact HA
      isplitl [HI]; · iexact HI
      iexact HL
    isplitl [HB Hs Hr]
    · isplitl [Hs Hr]
      · isplitl [Hs]; · iexact Hs
        iexact Hr
      iexact HB
    isplitl [Ha]; · iexact Ha
    iexact HP
  iexact HF

/-- What is stored for block `t` is that block of the result. -/
theorem deq_pay (t : Fin 32) (w : BitVec 32) (hw : Scalar.cmpi .eq (posWord c) w = 1#1 ↔ jt t.val = c) {X : Vec F S1x1x256x1024 .fp8e4m3}
    (hX : jt t.val ≠ c → X = qw m (jt t.val) (ht t.val)) :
    shapeCast S1x256x1024 (mulf (Scalar.select (Scalar.cmpi .eq (posWord c) w)
        (extf .f32 (shapeCast S256x1024 (qv m c (ht t.val)) shapeCasts_S1x256x1024_S256x1024 : FVec F S256x1024 .fp8e4m3) bitsLt_fp8e4m3_f32)
        (extf .f32 (shapeCast S256x1024 X shapeCasts_S1x1x256x1024_S256x1024 : FVec F S256x1024 .fp8e4m3) bitsLt_fp8e4m3_f32))
      (broadcast S256x1024 (scl m))) shapeCasts_S256x1024_S1x256x1024 = ob m t := by
  have ej : (⟨t.val / 2, by have := t.isLt; change t.val / 2 < 16; omega⟩ : Dev nD) = jt t.val := by
    apply Fin.ext
    show t.val / 2 = t.val / 2 % 16
    have := t.isLt
    omega
  have eh : (⟨t.val % 2, Nat.mod_lt _ (by decide)⟩ : Fin 2) = ht t.val := rfl
  unfold ob deq
  rw [ej, eh]
  by_cases hc : jt t.val = c
  · rw [show Scalar.select (Scalar.cmpi .eq (posWord c) w) (extf .f32 (shapeCast S256x1024 (qv m c (ht t.val)) shapeCasts_S1x256x1024_S256x1024 : FVec F S256x1024 .fp8e4m3) bitsLt_fp8e4m3_f32)
        (extf .f32 (shapeCast S256x1024 X shapeCasts_S1x1x256x1024_S256x1024 : FVec F S256x1024 .fp8e4m3) bitsLt_fp8e4m3_f32) = _ from if_pos (hw.mpr hc), hc]
    rfl
  · rw [show Scalar.select (Scalar.cmpi .eq (posWord c) w) (extf .f32 (shapeCast S256x1024 (qv m c (ht t.val)) shapeCasts_S1x256x1024_S256x1024 : FVec F S256x1024 .fp8e4m3) bitsLt_fp8e4m3_f32)
        (extf .f32 (shapeCast S256x1024 X shapeCasts_S1x1x256x1024_S256x1024 : FVec F S256x1024 .fp8e4m3) bitsLt_fp8e4m3_f32) = _ from if_neg (fun h => hc (hw.mp h)), hX hc]
    rw [qw_cast]

/-- The same, the block given by its number. -/
theorem deq_at {t : ℕ} (h : t < 32) (w : BitVec 32) {X : Vec F S1x1x256x1024 .fp8e4m3} (hX : jt t ≠ c → X = qw m (jt t) (ht t))
    (hw : Scalar.cmpi .eq (posWord c) w = 1#1 ↔ jt t = c) :
    shapeCast S1x256x1024 (mulf (Scalar.select (Scalar.cmpi .eq (posWord c) w)
        (extf .f32 (shapeCast S256x1024 (qv m c (ht t)) shapeCasts_S1x256x1024_S256x1024 : FVec F S256x1024 .fp8e4m3) bitsLt_fp8e4m3_f32)
        (extf .f32 (shapeCast S256x1024 X shapeCasts_S1x1x256x1024_S256x1024 : FVec F S256x1024 .fp8e4m3) bitsLt_fp8e4m3_f32))
      (broadcast S256x1024 (scl m))) shapeCasts_S256x1024_S1x256x1024 = ob m (Fin.ofNat 32 t) := by
  have e : (Fin.ofNat 32 t).val = t := Nat.mod_eq_of_lt h
  have g := deq_pay (m := m) (c := c) (Fin.ofNat 32 t) w
  rw [e] at g
  exact g hw hX

/-- A part of the program and the rest. -/
theorem part_seq {α β : Type} {p : PR F α} {k : α → PR F β} {A : sProp 𝕄} {Q : β → sProp 𝕄} (h : A ⊢ Wp c p (fun v => Wp c (k v) Q)) :
    A ⊢ Wp c (p >>= k) Q := by
  unfold Wp at h ⊢
  rw [wp_bind]
  exact h

/-- The end of a part. -/
theorem part_end {α : Type} {a : α} {A : sProp 𝕄} {Q : α → sProp 𝕄} (h : A ⊢ Q a) : A ⊢ Wp c (pure a) Q := by
  unfold Wp
  rw [show (pure a : PR F α) = Prog.ret a from rfl, wp_ret]
  iintro H
  imodintro
  iapply h $$ H

end

end Cert.KernelIdeal.Run

end
-- ==== Proof.Lend.lean ====
module

public import proofs.«01_k».proof.Proof.Deq

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## One device's entry of a family over the devices -/

omit [FloatOps F] in
/-- A family whose entry at `c` is another. -/
theorem bigSep_at (c : Dev nD) (Φ Ψ : Dev nD → sProp 𝕄) :
    bigSep Finset.univ (fun d => if d = c then Ψ d else Φ d) = iprop(Ψ c ∗ bigSep (Finset.univ.erase c) Φ) := by
  rw [BI.bigSep_erase (Finset.mem_univ c), if_pos rfl]
  have e : bigSep (Finset.univ.erase c) (fun d => if d = c then Ψ d else Φ d) = bigSep (Finset.univ.erase c) Φ :=
    bigSep_congr fun d hd => if_neg (Finset.ne_of_mem_erase hd)
  rw [e]; rfl

omit [FloatOps F] in
/-- An entry put into a family that has none at `c`. -/
theorem fill_at (c : Dev nD) (Φ : Dev nD → sProp 𝕄) :
    iprop(Φ c ∗ bigSep (Finset.range 16) (fun t => if (Fin.ofNat 16 t : Dev nD) = c then iprop(emp) else Φ (Fin.ofNat 16 t))) ⊢ bigSep Finset.univ Φ := by
  rw [← bigSep_fin (n := 16) (fun d : Dev nD => if d = c then iprop(emp) else Φ d), bigSep_at c Φ (fun _ => iprop(emp)), BI.bigSep_erase (Finset.mem_univ c) (Φ := Φ)]
  show iprop(Φ c ∗ iprop(emp) ∗ bigSep (Finset.univ.erase c) Φ) ⊢ iprop(Φ c ∗ bigSep (Finset.univ.erase c) Φ)
  iintro ⟨HC, -, H⟩
  isplitl [HC]; · iexact HC
  iexact H

omit [FloatOps F] in
theorem sep_rot (A B C : sProp 𝕄) : iprop(B ∗ A ∗ C) = iprop((A ∗ B) ∗ C) := by
  have h1 : iprop(B ∗ A ∗ C) ⊢ iprop((A ∗ B) ∗ C) := by
    iintro ⟨H1, H0, H⟩
    isplitl [H1 H0]
    · isplitl [H0]; · iexact H0
      iexact H1
    iexact H
  have h2 : iprop((A ∗ B) ∗ C) ⊢ iprop(B ∗ A ∗ C) := by
    iintro ⟨⟨H0, H1⟩, H⟩
    isplitl [H1]; · iexact H1
    isplitl [H0]; · iexact H0
    iexact H
  exact BI.equiv_iff.mp ⟨h1, h2⟩

omit [FloatOps F] in
/-- A family over twice as many numbers, two at a time. -/
theorem bigSep_pairs (n : ℕ) (Φ : ℕ → sProp 𝕄) :
    bigSep (Finset.range (2 * n)) Φ = bigSep (Finset.range n) (fun j => iprop(Φ (2 * j) ∗ Φ (2 * j + 1))) := by
  induction n with
  | zero => rw [Nat.mul_zero, Finset.range_zero, bigSep_empty, bigSep_empty]
  | succ n ih =>
    rw [show 2 * (n + 1) = (2 * n + 1) + 1 from rfl, bigSep_tail, bigSep_tail, bigSep_tail, ih]
    exact sep_rot _ _ _

/-- The devices whose permits have arrived at `c` are all the others. -/
theorem org_image : ∀ c : Dev nD, (Finset.range 15).image (org c) = Finset.univ.erase c := by decide +kernel
theorem org_inj : ∀ c : Dev nD, ∀ a ∈ Finset.range 15, ∀ b ∈ Finset.range 15, org c a = org c b → a = b := by decide +kernel

omit [FloatOps F] in
/-- The permits kept, by the device they are for, with something in the own device's place. -/
theorem kept_at (c : Dev nD) (P : sProp 𝕄) :
    iprop(P ∗ Kept (F := F) c 15) ⊢ bigSep (Finset.range 16) (fun t => if (Fin.ofNat 16 t : Dev nD) = c then P else permit (F := F) (Fin.ofNat 16 t) c) := by
  rw [← bigSep_fin (n := 16) (fun d : Dev nD => if d = c then P else permit (F := F) d c), bigSep_at c (fun d => permit (F := F) d c) (fun _ => P), ← org_image c,
    bigSep_image_of_injOn (fun a ha b hb => org_inj c a ha b hb)]
  exact .rfl

/-! ## Shares of a slice, one for each device and one kept -/

omit [FloatOps F] in
theorem has_split (c : Dev nD) {sp : Space} {sh : Shape} {e : EltTy} (M : Memref sig .tc sp sh e) (X : sh.Idx → Elt F e) :
    has (F := F) c M fullShare X ⊢ iprop(has c M shr0 X ∗ bigSep (Finset.range 16) (fun t => has c M (shr (Fin.ofNat 16 t)) X)) := by
  unfold has owns
  iintro ⟨%f, %hf, H⟩
  subst hf
  ihave H := (pointsTo_toks (ℓ := M.view.loc (c : Thread nD τ)) (S := M.view.set) (f := f) fullShare 16).1 $$ H
  icases H with ⟨H0, H⟩
  isplitl [H0]
  · iexists f
    isplitr; · ipureintro; rfl
    iexact H0
  rw [← bigSep_fin (n := 16) (fun d => iprop(∃ g, ⌜M.view.read (Elt F) g = M.view.read (Elt F) f⌝ ∗ (M.view.loc (c : Thread nD τ) ↦[M.view.set]{shr d} g)))]
  iapply (bigSep_imp ?_) $$ H
  intro d _
  iintro H
  iexists f
  isplitr; · ipureintro; rfl
  iexact H

omit [FloatOps F] in
/-- Elements read alike are the same. -/
theorem pts_of_read (c : Dev nD) {sp : Space} {sh : Shape} {e : EltTy} (M : Memref sig .tc sp sh e) (q : PosShare TreeShare) (f : M.view.ty.Contents (Elt F)) :
    has (F := F) c M q (M.view.read (Elt F) f) ⊢ (M.view.loc (c : Thread nD τ) ↦[M.view.set]{q} f) := by
  unfold has owns
  iintro ⟨%g, %hg, H⟩
  have e : ∀ i ∈ M.view.set, g i = f i := fun i hi => by
    obtain ⟨x, -, rfl⟩ := Finset.mem_map.mp hi
    exact (_root_.cast_inj _).mp (congrFun hg x)
  ihave H := (Entails.of_eq (pointsTo_congr (ℓ := M.view.loc (c : Thread nD τ)) (q := q) e)) $$ H
  iexact H

omit [FloatOps F] in
theorem has_join (c : Dev nD) {sp : Space} {sh : Shape} {e : EltTy} (M : Memref sig .tc sp sh e) (X : sh.Idx → Elt F e) :
    iprop(has (F := F) c M shr0 X ∗ bigSep (Finset.range 16) (fun t => has c M (shr (Fin.ofNat 16 t)) X)) ⊢ has c M fullShare X := by
  rw [← bigSep_fin (n := 16) (fun d => has (F := F) c M (shr d) X)]
  iintro ⟨H0, H⟩
  ihave H0 := (show has (F := F) c M shr0 X ⊢ iprop(∃ f, ⌜M.view.read (Elt F) f = X⌝ ∗ (M.view.loc (c : Thread nD τ) ↦[M.view.set]{shr0} f)) from .rfl) $$ H0
  icases H0 with ⟨%f, %hf, H0⟩
  subst hf
  ihave H := (bigSep_imp (fun d _ => pts_of_read c M (shr d) f)) $$ H
  iapply (owns_intro (c : Thread nD τ) M fullShare f)
  iapply (pointsTo_toks (ℓ := M.view.loc (c : Thread nD τ)) (S := M.view.set) (f := f) fullShare 16).2
  isplitl [H0]; · iexact H0
  iexact H

/-! ## The buffer of the maxima from its rows -/

theorem rAm_disj : ∀ j j' : Fin 16, j ≠ j' → Disjoint (rAm j).set (rAm j').set := fun j j' h => by
  rw [Finset.disjoint_left]
  intro x hx hx'
  rw [Rect.mem_set_unit] at hx hx'
  have h0 := hx 0
  have h1 := hx' 0
  refine h (Fin.ext ?_)
  have a0 : j.val ≤ (x 0).val ∧ (x 0).val < j.val + 1 := h0
  have a1 : j'.val ≤ (x 0).val ∧ (x 0).val < j'.val + 1 := h1
  omega
theorem rAm_cov : (Finset.univ : Finset (Fin 16)).biUnion (fun j => (rAm j).set) = Finset.univ := by
  refine Finset.eq_univ_iff_forall.mpr fun x => Finset.mem_biUnion.mpr ⟨⟨(x 0).val, (x 0).isLt⟩, Finset.mem_univ _, ?_⟩
  rw [Rect.mem_set_unit]
  intro a
  match a with
  | ⟨0, _⟩ => exact ⟨Nat.le_refl _, Nat.lt_succ_self _⟩
  | ⟨1, _⟩ => exact ⟨Nat.zero_le _, by show (x 1).val < 0 + 128; rw [Nat.zero_add]; exact (x 1).isLt⟩

theorem amBuf_emb (j : Fin 16) (y : S1x128.Idx) : amBuf m ((rAm j).emb y) = amv m j y := by
  unfold amBuf
  have e0 : ((rAm j).emb y) 0 = j := Fin.ext (show j.val + 1 * (y 0).val = j.val by have : (y 0).val < 1 := (y 0).isLt; omega)
  have e1 : (fun a : Fin 2 => match a with | ⟨0, _⟩ => (⟨0, Nat.one_pos⟩ : Fin 1) | ⟨1, _⟩ => ((rAm j).emb y) 1 : S1x128.Idx) = y := by
    funext a
    match a with
    | ⟨0, _⟩ => exact Fin.ext (show 0 = (y 0).val by have : (y 0).val < 1 := (y 0).isLt; omega)
    | ⟨1, _⟩ => exact Fin.ext (show 0 + 1 * (y 1).val = (y 1).val by omega)
  rw [e0]
  exact congrArg (amv m j) e1

/-- All the rows are the whole buffer. -/
theorem rows_join (c : Dev nD) : bigSep Finset.univ (fun d : Dev nD => has c (amRow d) fullShare (amv m d)) ⊢ has c amM fullShare (amBuf m) := by
  refine BIBase.Entails.trans (bigSep_imp fun d _ => Entails.of_eq ?_) (owns_of_rects (c : Thread nD τ) amM fullShare rAm (fun _ _ => rfl) rAm_disj rAm_cov (amBuf m))
  have e : amv m d = fun y => amBuf m ((rAm d).emb y) := funext fun y => (amBuf_emb m d y).symm
  exact congrArg (has c (amRow d) fullShare) e

end Cert.KernelIdeal.Run

end
-- ==== Proof.Deal.lean ====
module

public import proofs.«01_k».proof.Proof.Lend

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## What the two exchanges start from, dealt by device -/

/-- For the exchange of the maxima with device `d`: the positions, the tokens of the send, the credit of the arrival. -/
def AmB (c d : Dev nD) : sProp 𝕄 :=
  iprop((atPos ER (cl c (.amS d)) 0 ∅ 0 ∗ atPos ER (cl c (.amR d)) 0 ∅ 0) ∗ (dutyTok ER (cl c (.amS d)) 0 false ∗ dutyTok ER (cl d (.amR c)) 0 false)
    ∗ (if d = c then emp else cred (tallyAt (cl c (.amR d)) () NA)))
/-- The same for half `h` of the quantised blocks. -/
def AgB (c d : Dev nD) (h : Fin 2) : sProp 𝕄 :=
  iprop((atPos ER (cl c (.agS d h)) 0 ∅ 0 ∗ atPos ER (cl c (.agR d h)) 0 ∅ 0) ∗ (dutyTok ER (cl c (.agS d h)) 0 false ∗ dutyTok ER (cl d (.agR c h)) 0 false)
    ∗ (if d = c then emp else cred (tallyAt (cl c (.agR d h)) () NG)))
/-- What the send of the row to device `d` needs besides the row. -/
def AmT (c d : Dev nD) : sProp 𝕄 :=
  if d = c then iprop(emp) else iprop(any (F := F) d (amRow c) ∗ dutyTok ER (cl c (.amS d)) 0 false ∗ dutyTok ER (cl d (.amR c)) 0 false)
/-- What the sends of the blocks to device `d` need besides the blocks. -/
def AgT (c d : Dev nD) : sProp 𝕄 := if d = c then iprop(emp) else iprop(AGt (F := F) c d 0 ∗ AGt (F := F) c d 1)
/-- Before the arrival of half `h` of device `d`'s blocks. -/
def GRp (c d : Dev nD) (h : Fin 2) : sProp 𝕄 :=
  iprop(atPos ER (cl c (.agR d h)) 0 ∅ 0 ∗ (if d = c then any (F := F) c (agH d h) else cred (tallyAt (cl c (.agR d h)) () NG)))
/-- The sending sides of the gather, by device. -/
def AtG (c : Dev nD) : sProp 𝕄 :=
  bigSep (Finset.range 16) (fun t => iprop(atPos ER (cl c (.agS (Fin.ofNat 16 t) 0)) 0 ∅ 0 ∗ atPos ER (cl c (.agS (Fin.ofNat 16 t) 1)) 0 ∅ 0))

section
variable {m}
variable {K : GSem nD τ sig → ℕ} {c : Dev nD}

omit [FloatOps F] in
theorem deal_at (c d : Dev nD) :
    iprop((if d = c then iprop(any (F := F) c (agH c 0) ∗ any (F := F) c (agH c 1)) else permit (F := F) d c) ∗ AmB (F := F) c d ∗ AgB (F := F) c d 0 ∗ AgB (F := F) c d 1)
      ⊢ iprop(AmT (F := F) c d ∗ atPos ER (cl c (.amS d)) 0 ∅ 0 ∗ AR0 (F := F) c d ∗ AgT (F := F) c d
        ∗ (atPos ER (cl c (.agS d 0)) 0 ∅ 0 ∗ atPos ER (cl c (.agS d 1)) 0 ∅ 0) ∗ GRp (F := F) c d 0 ∗ GRp (F := F) c d 1) := by
  by_cases h : d = c
  · subst h
    unfold AmB AgB AmT AR0 AgT GRp
    simp only [if_true]
    iintro ⟨⟨H0, H1⟩, ⟨⟨A1, A2⟩, T, -⟩, ⟨⟨B1, B2⟩, T', -⟩, ⟨⟨D1, D2⟩, T'', -⟩⟩
    isplitr; · iempintro
    isplitl [A1]; · iexact A1
    isplitl [A2]
    · isplitl [A2]; · iexact A2
      iempintro
    isplitr; · iempintro
    isplitl [B1 D1]
    · isplitl [B1]; · iexact B1
      iexact D1
    isplitl [B2 H0]
    · isplitl [B2]; · iexact B2
      iexact H0
    isplitl [D2]; · iexact D2
    iexact H1
  · unfold AmB AgB AmT AR0 AgT GRp AGt permit
    simp only [if_neg h]
    iintro ⟨⟨Hr, H0, H1⟩, ⟨⟨A1, A2⟩, ⟨S1, S2⟩, C1⟩, ⟨⟨B1, B2⟩, ⟨S3, S4⟩, C2⟩, ⟨⟨D1, D2⟩, ⟨S5, S6⟩, C3⟩⟩
    isplitl [Hr S1 S2]
    · isplitl [Hr]; · iexact Hr
      isplitl [S1]; · iexact S1
      iexact S2
    isplitl [A1]; · iexact A1
    isplitl [A2 C1]
    · isplitl [A2]; · iexact A2
      iexact C1
    isplitl [H0 S3 S4 H1 S5 S6]
    · isplitl [H0 S3 S4]
      · isplitl [H0]; · iexact H0
        isplitl [S3]; · iexact S3
        iexact S4
      isplitl [H1]; · iexact H1
      isplitl [S5]; · iexact S5
      iexact S6
    isplitl [B1 D1]
    · isplitl [B1]; · iexact B1
      iexact D1
    isplitl [B2 C2]
    · isplitl [B2]; · iexact B2
      iexact C2
    isplitl [D2]; · iexact D2
    iexact C3

/-- The arrivals of the gather, in the order they are waited for. -/
theorem GR_start : bigSep (Finset.range 16) (fun t => iprop(GRp (F := F) c (Fin.ofNat 16 t) 0 ∗ GRp (F := F) c (Fin.ofNat 16 t) 1)) ⊢ GR m c 0 := by
  unfold GR
  rw [← bigSep_range_Ico, show (32 : ℕ) = 2 * 16 from rfl, bigSep_pairs, Finset.range_zero, bigSep_empty]
  have e : ∀ j ∈ Finset.range 16, iprop(GRp (F := F) c (Fin.ofNat 16 j) 0 ∗ GRp (F := F) c (Fin.ofNat 16 j) 1) ⊢ iprop(GR0 (F := F) c (2 * j) ∗ GR0 (F := F) c (2 * j + 1)) := fun j _ => by
    unfold GR0 GRp
    have e1 : jt (2 * j) = Fin.ofNat 16 j := by unfold jt; rw [show 2 * j / 2 = j by omega]
    have e2 : jt (2 * j + 1) = Fin.ofNat 16 j := by unfold jt; rw [show (2 * j + 1) / 2 = j by omega]
    have e3 : ht (2 * j) = 0 := Fin.ext (show 2 * j % 2 = 0 by omega)
    have e4 : ht (2 * j + 1) = 1 := Fin.ext (show (2 * j + 1) % 2 = 1 by omega)
    rw [e1, e2, e3, e4]
  iintro H
  isplitr; · iempintro
  iapply (bigSep_imp e) $$ H

/-- Everything dealt. -/
theorem deal :
    iprop((any (F := F) c (agH c 0) ∗ any (F := F) c (agH c 1)) ∗ Kept (F := F) c 15 ∗ bigSep (Finset.range 16) (fun t => AmB (F := F) c (Fin.ofNat 16 t))
        ∗ bigSep (Finset.range 16) (fun t => iprop(AgB (F := F) c (Fin.ofNat 16 t) 0 ∗ AgB (F := F) c (Fin.ofNat 16 t) 1)))
      ⊢ iprop(bigSep (Finset.range 16) (fun t => AmT (F := F) c (Fin.ofNat 16 t)) ∗ bigSep (Finset.range 16) (fun t => atPos ER (cl c (.amS (Fin.ofNat 16 t))) 0 ∅ 0)
        ∗ bigSep (Finset.range 16) (fun t => AR0 (F := F) c (Fin.ofNat 16 t)) ∗ bigSep (Finset.range 16) (fun t => AgT (F := F) c (Fin.ofNat 16 t))
        ∗ AtG (F := F) c ∗ GR m c 0) := by
  iintro ⟨HP, HK, HA, HG⟩
  ihave H := (kept_at c (iprop(any (F := F) c (agH c 0) ∗ any (F := F) c (agH c 1)))) $$ [HP HK]
  · isplitl [HP]; · iexact HP
    iexact HK
  ihave HAG := (bigSep_zip _ _ _) $$ [HA HG]
  · isplitl [HA]; · iexact HA
    iexact HG
  ihave H := (bigSep_zip _ _ _) $$ [H HAG]
  · isplitl [H]; · iexact H
    iexact HAG
  ihave H := (bigSep_imp fun t _ => deal_at c (Fin.ofNat 16 t)) $$ H
  ihave H := (bigSep_unzip _ _ _) $$ H
  icases H with ⟨H1, H⟩
  ihave H := (bigSep_unzip _ _ _) $$ H
  icases H with ⟨H2, H⟩
  ihave H := (bigSep_unzip _ _ _) $$ H
  icases H with ⟨H3, H⟩
  ihave H := (bigSep_unzip _ _ _) $$ H
  icases H with ⟨H4, H⟩
  ihave H := (bigSep_unzip _ _ _) $$ H
  icases H with ⟨H5, H⟩
  unfold AtG
  isplitl [H1]; · iexact H1
  isplitl [H2]; · iexact H2
  isplitl [H3]; · iexact H3
  isplitl [H4]; · iexact H4
  isplitl [H5]; · iexact H5
  iapply (GR_start (m := m) (c := c)) $$ H

/-! ## From one phase to the next -/

/-- The row stored, its shares lent: the sends may start. -/
theorem to_ams (Z : sProp 𝕄) :
    iprop(has c (amRow c) fullShare (amv m c) ∗ (owesE c 32 ∗ bigSep (Finset.range 16) (fun t => AmT (F := F) c (Fin.ofNat 16 t)) ∗ Z))
      ⊢ iprop(AMs m c 0 ∗ (has c (amRow c) shr0 (amv m c) ∗ Z)) := by
  unfold AMs
  rw [Finset.range_zero, bigSep_empty, ← bigSep_range_Ico]
  iintro ⟨HR, HO, HT, HZ⟩
  ihave H := (has_split c (amRow c) (amv m c)) $$ HR
  icases H with ⟨H0, H⟩
  ihave H := (bigSep_zip _ _ _) $$ [H HT]
  · isplitl [H]; · iexact H
    iexact HT
  isplitl [HO H]
  · isplitl [HO]; · iexact HO
    isplitr; · iempintro
    unfold AM0
    unfold AmT
    iexact H
  isplitl [H0]; · iexact H0
  iexact HZ

/-- The sends made: their ends may be waited for. -/
theorem to_amw (R Z : sProp 𝕄) :
    iprop(AMs m c 16 ∗ (R ∗ bigSep (Finset.range 16) (fun t => atPos ER (cl c (.amS (Fin.ofNat 16 t))) 0 ∅ 0) ∗ Z)) ⊢ iprop(AMw m c 0 ∗ (R ∗ Z)) := by
  unfold AMs AMw
  rw [Finset.range_zero, bigSep_empty, ← bigSep_range_Ico 16]
  iintro ⟨⟨HO, H, -⟩, HR, HA, HZ⟩
  isplitl [HO H HA]
  · isplitl [HO]; · iexact HO
    isplitr; · iempintro
    iapply (bigSep_zip _ _ _)
    isplitl [H]; · iexact H
    iexact HA
  isplitl [HR]; · iexact HR
  iexact HZ

/-- The ends waited for: the arrivals may be. -/
theorem to_amr (R Z : sProp 𝕄) :
    iprop(AMw m c 16 ∗ (R ∗ bigSep (Finset.range 16) (fun t => AR0 (F := F) c (Fin.ofNat 16 t)) ∗ Z))
      ⊢ iprop(AMr m c 0 ∗ (R ∗ bigSep (Finset.range 16) (fun t => AM2 m c (Fin.ofNat 16 t)) ∗ Z)) := by
  unfold AMr AMw
  rw [Finset.range_zero, bigSep_empty, ← bigSep_range_Ico 16]
  iintro ⟨⟨HO, H, -⟩, HR, HA, HZ⟩
  isplitl [HO HA]
  · isplitl [HO]; · iexact HO
    isplitr; · iempintro
    iexact HA
  isplitl [HR]; · iexact HR
  isplitl [H]; · iexact H
  iexact HZ

/-- Where the exchange of the maxima ends. -/
def AtM (c : Dev nD) : sProp 𝕄 :=
  iprop(bigSep (Finset.range 16) (fun t => atPos ER (cl c (.amS (Fin.ofNat 16 t))) (if (Fin.ofNat 16 t : Dev nD) = c then 0 else 1) ∅ 0)
    ∗ bigSep (Finset.range 16) (fun t => atPos ER (cl c (.amR (Fin.ofNat 16 t))) (if (Fin.ofNat 16 t : Dev nD) = c then 0 else 1) ∅ 0))

/-- All the rows are there. -/
theorem of_amr (Z : sProp 𝕄) :
    iprop(AMr m c 16 ∗ (has c (amRow c) shr0 (amv m c) ∗ bigSep (Finset.range 16) (fun t => AM2 m c (Fin.ofNat 16 t)) ∗ Z))
      ⊢ iprop(has c amM fullShare (amBuf m) ∗ (owesE c 48 ∗ AtM (F := F) c ∗ Z)) := by
  unfold AMr AM2 AR1 AtM
  iintro ⟨⟨HO, H1, -⟩, HR, H2, HZ⟩
  ihave H1 := (bigSep_unzip _ _ _) $$ H1
  icases H1 with ⟨A1, H1⟩
  ihave H2 := (bigSep_unzip _ _ _) $$ H2
  icases H2 with ⟨H2, A2⟩
  ihave HR := (has_join c (amRow c) (amv m c)) $$ [HR H2]
  · isplitl [HR]; · iexact HR
    iexact H2
  ihave H := (fill_at c (fun d => has c (amRow d) fullShare (amv m d))) $$ [HR H1]
  · isplitl [HR]; · iexact HR
    iexact H1
  isplitl [H]; · iapply (rows_join m c) $$ H
  isplitl [HO]; · iexact HO
  isplitl [A1 A2]
  · isplitl [A2]; · iexact A2
    iexact A1
  iexact HZ

/-- The quantised blocks stored, their shares lent: the sends may start. -/
theorem to_ags (Z : sProp 𝕄) :
    iprop((has c (qH 0) fullShare (qv m c 0) ∗ has c (qH 1) fullShare (qv m c 1)) ∗ (owesE c 48 ∗ bigSep (Finset.range 16) (fun t => AgT (F := F) c (Fin.ofNat 16 t)) ∗ Z))
      ⊢ iprop(AGs m c 0 ∗ (QK m c ∗ Z)) := by
  unfold AGs QK
  rw [Finset.range_zero, bigSep_empty, ← bigSep_range_Ico]
  iintro ⟨⟨HR, HR'⟩, HO, HT, HZ⟩
  ihave H := (has_split c (qH 0) (qv m c 0)) $$ HR
  icases H with ⟨H0, H⟩
  ihave H' := (has_split c (qH 1) (qv m c 1)) $$ HR'
  icases H' with ⟨H0', H'⟩
  ihave H := (bigSep_zip _ _ _) $$ [H H']
  · isplitl [H]; · iexact H
    iexact H'
  ihave H := (bigSep_zip _ _ _) $$ [H HT]
  · isplitl [H]; · iexact H
    iexact HT
  isplitl [HO H]
  · isplitl [HO]; · iexact HO
    isplitr; · iempintro
    unfold AG0 QQ
    unfold AgT
    iexact H
  isplitl [H0 H0']
  · isplitl [H0]; · iexact H0
    iexact H0'
  iexact HZ

end

end Cert.KernelIdeal.Run

end
-- ==== Proof.TailOps.lean ====
module

public import proofs.«01_k».proof.Proof.Deal

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The operations on the row of the maxima and on the quantised blocks -/

theorem k0_off4_row : ∀ c : Dev nD, k0_off4 c = ![c.val, 0] := by decide +kernel

/-- The whole buffer of the maxima. -/
abbrev rAll : Rect S16x128 := Rect.unit (s := S16x128) ![0, 0] S16x128.size inb_S16x128_S16x128_0_0
/-- The state of the own blocks and the quantised blocks while they are quantised: `Y` and `Y'` say what the latter are. -/
def OQ (c : Dev nD) (Y Y' : sProp 𝕄) : sProp 𝕄 :=
  iprop((has c (ownM.slice rO0 (fun _ => rfl)) fullShare (ownR m c) ∗ has c (ownM.slice rO1 (fun _ => rfl)) fullShare (ownL m c)) ∗ Y ∗ Y')

section
variable {m}
variable {K : GSem nD τ sig → ℕ} {c : Dev nD}

/-- An operation beside a frame, and what follows. -/
theorem op_item {α β : Type} {p : PR F α} {k : α → PR F β} {A Fr : sProp 𝕄} {B : α → sProp 𝕄} {Q : β → sProp 𝕄} (h : iprop(ctx m K ∗ A) ⊢ Wp c p B)
    (hk : ∀ v, iprop(ctx m K ∗ (B v ∗ Fr)) ⊢ Wp c (k v) Q) : iprop(ctx m K ∗ (A ∗ Fr)) ⊢ Wp c (p >>= k) Q := by
  iintro ⟨#HC, HA, HF⟩
  iapply (cps (m := m) (K := K) h) $$ [HA]
  · isplitr; · iexact HC
    iexact HA
  iintro %v HB
  iapply (hk v)
  isplitr; · iexact HC
  isplitl [HB]; · iexact HB
  iexact HF

/-- An operation that returns a known value. -/
theorem val_item {α β : Type} {p : PR F α} {k : α → PR F β} {A Fr : sProp 𝕄} {x : α} {Q : β → sProp 𝕄} (h : iprop(ctx m K ∗ A) ⊢ Wp c p (fun v => iprop(⌜v = x⌝ ∗ A)))
    (hk : iprop(ctx m K ∗ (A ∗ Fr)) ⊢ Wp c (k x) Q) : iprop(ctx m K ∗ (A ∗ Fr)) ⊢ Wp c (p >>= k) Q := by
  refine op_item h fun v => ?_
  iintro ⟨HC, ⟨%e, HA⟩, HF⟩
  subst e
  iapply hk
  isplitl [HC]; · iexact HC
  isplitl [HA]; · iexact HA
  iexact HF

theorem ldRow_item {β : Type} {k : Vec F S1x128 .f32 → PR F β} {Fr : sProp 𝕄} {Q : β → sProp 𝕄}
    {o : Fin 2 → ℕ} {i : ∀ a, o a + S1x128.size a ≤ S16x128.size a} {hl : amM.view.LoadsAt (Rect.unit (s := S16x128) o S1x128.size i).toLoadRect}
    (h0 : o = ![c.val, 0]) (hk : ∀ v, iprop(ctx m K ∗ (any (F := F) c (amRow c) ∗ Fr)) ⊢ Wp c (k v) Q) :
    iprop(ctx m K ∗ (any (F := F) c (amRow c) ∗ Fr)) ⊢ Wp c (Prog.lift (.load amM (Rect.unit (s := S16x128) o S1x128.size i).toLoadRect hl) >>= k) Q := by
  subst h0
  exact op_item (load_any (m := m) (K := K) (M := amM) (r := rAm c) (hr := fun _ => rfl)) hk

theorem stRow_item {β : Type} {k : PR F β} {Fr : sProp 𝕄} {Q : β → sProp 𝕄} {w : Vec F S1x128 .f32}
    {o : Fin 2 → ℕ} {i : ∀ a, o a + S1x128.size a ≤ S16x128.size a} {hx : (amM.access (Rect.unit (s := S16x128) o S1x128.size i)).Stores Finset.univ}
    {hm : (Finset.univ : Finset (Rect.unit (s := S16x128) o S1x128.size i).shape.Idx) = Finset.univ ∨ ∀ a, (Rect.unit (s := S16x128) o S1x128.size i).stride a = 1}
    (h0 : o = ![c.val, 0]) (hk : iprop(ctx m K ∗ (has c (amRow c) fullShare w ∗ Fr)) ⊢ Wp c k Q) :
    iprop(ctx m K ∗ (any (F := F) c (amRow c) ∗ Fr)) ⊢ Wp c (Prog.lift (.store amM (Rect.unit (s := S16x128) o S1x128.size i) w Finset.univ hx hm) >>= fun _ => k) Q := by
  subst h0
  exact op_item (store_any (m := m) (K := K) (M := amM) (r := rAm c) (hr := fun _ => rfl)) fun _ => hk

/-- The load of the whole buffer of the maxima. -/
theorem ldAll_item {β : Type} {k : Vec F S16x128 .f32 → PR F β} {Fr : sProp 𝕄} {Q : β → sProp 𝕄} {hl : amM.view.LoadsAt rAll.toLoadRect}
    (hk : iprop(ctx m K ∗ (has c amM fullShare (amBuf m) ∗ Fr)) ⊢ Wp c (k (amM.view.readAt (Elt F) rAll.toLoadRect (amBuf m))) Q) :
    iprop(ctx m K ∗ (has c amM fullShare (amBuf m) ∗ Fr)) ⊢ Wp c (Prog.lift (.load amM rAll.toLoadRect hl) >>= k) Q := by
  refine val_item ?_ hk
  have e : has (F := F) c amM fullShare (amBuf m) = (amM.view.loc (c : Thread nD τ) ↦[Finset.univ]{fullShare} amBuf m) :=
    owns_whole (c : Thread nD τ) cc0_scratch8 fullShare (amBuf m)
  rw [e]
  exact load_spec (Finset.subset_univ _)

theorem ldO0_item {β : Type} {k : Vec F S1x256x1024 .f32 → PR F β} {Fr Y Y' : sProp 𝕄} {Q : β → sProp 𝕄} {hl : ownM.view.LoadsAt rO0.toLoadRect}
    (hk : iprop(ctx m K ∗ (OQ m c Y Y' ∗ Fr)) ⊢ Wp c (k (ownR m c)) Q) :
    iprop(ctx m K ∗ (OQ m c Y Y' ∗ Fr)) ⊢ Wp c (Prog.lift (.load ownM rO0.toLoadRect hl) >>= k) Q := by
  refine val_item ?_ hk
  unfold OQ
  iintro ⟨#HC, ⟨H0, H1⟩, HY⟩
  ihave H := (load_has (m := m) (K := K) (M := ownM) (r := rO0) (hl := hl) (hr := fun _ => rfl)) $$ [H0]
  · isplitr; · iexact HC
    iexact H0
  unfold Wp
  iapply (wp_wand) $$ H
  iintro %v ⟨%e, H0⟩
  isplitr; · ipureintro; exact e
  isplitl [H0 H1]
  · isplitl [H0]; · iexact H0
    iexact H1
  iexact HY

theorem ldO1_item {β : Type} {k : Vec F S1x256x1024 .f32 → PR F β} {Fr Y Y' : sProp 𝕄} {Q : β → sProp 𝕄} {hl : ownM.view.LoadsAt rO1.toLoadRect}
    (hk : iprop(ctx m K ∗ (OQ m c Y Y' ∗ Fr)) ⊢ Wp c (k (ownL m c)) Q) :
    iprop(ctx m K ∗ (OQ m c Y Y' ∗ Fr)) ⊢ Wp c (Prog.lift (.load ownM rO1.toLoadRect hl) >>= k) Q := by
  refine val_item ?_ hk
  unfold OQ
  iintro ⟨#HC, ⟨H0, H1⟩, HY⟩
  ihave H := (load_has (m := m) (K := K) (M := ownM) (r := rO1) (hl := hl) (hr := fun _ => rfl)) $$ [H1]
  · isplitr; · iexact HC
    iexact H1
  unfold Wp
  iapply (wp_wand) $$ H
  iintro %v ⟨%e, H1⟩
  isplitr; · ipureintro; exact e
  isplitl [H0 H1]
  · isplitl [H0]; · iexact H0
    iexact H1
  iexact HY

/-- An operation on the first quantised block. -/
theorem q0_step {α : Type} {p : PR F α} {Y Y1 Y' : sProp 𝕄} (h : iprop(ctx m K ∗ Y) ⊢ Wp c p (fun _ => Y1)) :
    iprop(ctx m K ∗ OQ m c Y Y') ⊢ Wp c p (fun _ => OQ m c Y1 Y') := by
  unfold OQ
  iintro ⟨#HC, HO, HY, HY'⟩
  ihave H := h $$ [HY]
  · isplitr; · iexact HC
    iexact HY
  unfold Wp
  iapply (wp_wand) $$ H
  iintro %v HY
  isplitl [HO]; · iexact HO
  isplitl [HY]; · iexact HY
  iexact HY'

/-- An operation on the second quantised block. -/
theorem q1_step {α : Type} {p : PR F α} {Y Y1 Y' : sProp 𝕄} (h : iprop(ctx m K ∗ Y) ⊢ Wp c p (fun _ => Y1)) :
    iprop(ctx m K ∗ OQ m c Y' Y) ⊢ Wp c p (fun _ => OQ m c Y' Y1) := by
  unfold OQ
  iintro ⟨#HC, HO, HY', HY⟩
  ihave H := h $$ [HY]
  · isplitr; · iexact HC
    iexact HY
  unfold Wp
  iapply (wp_wand) $$ H
  iintro %v HY
  isplitl [HO]; · iexact HO
  isplitl [HY']; · iexact HY'
  iexact HY

theorem qload0 (Y' : sProp 𝕄) {hl : qM.view.LoadsAt (rQ 0).toLoadRect} :
    iprop(ctx m K ∗ OQ m c (any (F := F) c (qH 0)) Y') ⊢ Wp c (Prog.lift (.load qM (rQ 0).toLoadRect hl)) (fun _ => OQ m c (any (F := F) c (qH 0)) Y') :=
  q0_step (load_any (hr := fun _ => rfl))
theorem qload1 (Y : sProp 𝕄) {hl : qM.view.LoadsAt (rQ 1).toLoadRect} :
    iprop(ctx m K ∗ OQ m c Y (any (F := F) c (qH 1))) ⊢ Wp c (Prog.lift (.load qM (rQ 1).toLoadRect hl)) (fun _ => OQ m c Y (any (F := F) c (qH 1))) :=
  q1_step (load_any (hr := fun _ => rfl))
theorem qstore0 (Y' : sProp 𝕄) {w : (rQ 0).shape.Idx → Elt F .fp8e4m3} {hx : (qM.access (rQ 0)).Stores Finset.univ} {hm : (Finset.univ : Finset (rQ 0).shape.Idx) = Finset.univ ∨ ∀ a, (rQ 0).stride a = 1} :
    iprop(ctx m K ∗ OQ m c (any (F := F) c (qH 0)) Y') ⊢ Wp c (Prog.lift (.store qM (rQ 0) w Finset.univ hx hm)) (fun _ => OQ m c (has c (qH 0) fullShare w) Y') :=
  q0_step (store_any (hr := fun _ => rfl))
theorem qstore1 (Y : sProp 𝕄) {w : (rQ 1).shape.Idx → Elt F .fp8e4m3} {hx : (qM.access (rQ 1)).Stores Finset.univ} {hm : (Finset.univ : Finset (rQ 1).shape.Idx) = Finset.univ ∨ ∀ a, (rQ 1).stride a = 1} :
    iprop(ctx m K ∗ OQ m c Y (any (F := F) c (qH 1))) ⊢ Wp c (Prog.lift (.store qM (rQ 1) w Finset.univ hx hm)) (fun _ => OQ m c Y (has c (qH 1) fullShare w)) :=
  q1_step (store_any (hr := fun _ => rfl))

/-- What is left of the exchange and of the quantisation. -/
theorem of_oq (Z : sProp 𝕄) :
    iprop(OQ m c (has c (qH 0) fullShare (k0_pay82 (gmax m) (ownR m c))) (has c (qH 1) fullShare (k0_pay83 (gmax m) (ownL m c)))
        ∗ (has c amM fullShare (amBuf m) ∗ (owesE c 48 ∗ AtM (F := F) c ∗ (bigSep (Finset.range 16) (fun t => AgT (F := F) c (Fin.ofNat 16 t)) ∗ Z))))
      ⊢ iprop((has c (qH 0) fullShare (qv m c 0) ∗ has c (qH 1) fullShare (qv m c 1)) ∗ (owesE c 48 ∗ bigSep (Finset.range 16) (fun t => AgT (F := F) c (Fin.ofNat 16 t))
        ∗ (OQ m c iprop(emp) iprop(emp) ∗ has c amM fullShare (amBuf m) ∗ AtM (F := F) c ∗ Z))) := by
  have e0 : qv m c 0 = k0_pay82 (gmax m) (ownR m c) := if_pos rfl
  have e1 : qv m c 1 = k0_pay83 (gmax m) (ownL m c) := if_neg (by decide)
  rw [e0, e1]
  unfold OQ
  iintro ⟨⟨HO, H0, H1⟩, HM, HE, HA, HT, HZ⟩
  isplitl [H0 H1]
  · isplitl [H0]; · iexact H0
    iexact H1
  isplitl [HE]; · iexact HE
  isplitl [HT]; · iexact HT
  isplitl [HO]
  · isplitl [HO]; · iexact HO
    isplitr <;> iempintro
  isplitl [HM]; · iexact HM
  isplitl [HA]; · iexact HA
  iexact HZ

end

end Cert.KernelIdeal.Run

end
-- ==== Proof.Tail1.lean ====
module

public import proofs.«01_k».proof.Proof.TailOps

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

section
variable {m}
variable {K : GSem nD τ sig → ℕ} {c : Dev nD}

set_option maxHeartbeats 40000000 in
/-- The exchange of the maxima. -/
theorem tail1 {β : Type} {k : FVec F S1x1x1 .f32 → PR F β} {Q : β → sProp 𝕄} {Z : sProp 𝕄}
    (hk : iprop(ctx m K ∗ (has c amM fullShare (amBuf m) ∗ (owesE c 48 ∗ AtM (F := F) c ∗ Z))) ⊢ Wp c (k (gmax m)) Q) :
    iprop(ctx m K ∗ (any (F := F) c (amRow c) ∗ (owesE c 32 ∗ bigSep (Finset.range 16) (fun t => AmT (F := F) c (Fin.ofNat 16 t))
        ∗ (bigSep (Finset.range 16) (fun t => atPos ER (cl c (.amS (Fin.ofNat 16 t))) 0 ∅ 0) ∗ (bigSep (Finset.range 16) (fun t => AR0 (F := F) c (Fin.ofNat 16 t)) ∗ Z)))))
      ⊢ Wp c (k0_part54 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) (k0_pay76 (ownR m c) (ownL m c)) >>= fun b54 => k0_part55 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) b54 >>= fun b55 => k0_part56 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) b55 >>= fun b56 =>
        k0_part57 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) b56 >>= fun b57 => k0_part58 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) b57 >>= k) Q := by
  refine part_seq ?_
  rw [k0_part54_eq_skeleton]
  unfold k0_part54_skel
  refine ldRow_item (k0_off4_row c) ?_
  intro _
  refine stRow_item (k0_off4_row c) ?_
  refine (sepR (to_ams _)).trans ?_
  iterate 9
    refine amSend_item ?_ ?_ ?_ ?_ ?_ ?_ ?_
    · decide
    · clear * -; revert c; decide +kernel
    · rfl
    · clear * -; revert c; decide +kernel
    · clear * -; revert c; decide +kernel
    · intro _; clear * -; revert c; decide +kernel
  refine part_end ?_
  refine part_seq ?_
  rw [k0_part55_eq_skeleton]
  unfold k0_part55_skel
  iterate 7
    refine amSend_item ?_ ?_ ?_ ?_ ?_ ?_ ?_
    · decide
    · clear * -; revert c; decide +kernel
    · rfl
    · clear * -; revert c; decide +kernel
    · clear * -; revert c; decide +kernel
    · intro _; clear * -; revert c; decide +kernel
  refine (sepR (to_amw _ _)).trans ?_
  iterate 3
    refine amWait_item ?_ ?_ ?_ ?_ ?_
    · decide
    · clear * -; revert c; decide +kernel
    · rfl
    · exact fun _ => rfl
  refine part_end ?_
  refine part_seq ?_
  rw [k0_part56_eq_skeleton]
  unfold k0_part56_skel
  iterate 10
    refine amWait_item ?_ ?_ ?_ ?_ ?_
    · decide
    · clear * -; revert c; decide +kernel
    · rfl
    · exact fun _ => rfl
  refine part_end ?_
  refine part_seq ?_
  rw [k0_part57_eq_skeleton]
  unfold k0_part57_skel
  iterate 3
    refine amWait_item ?_ ?_ ?_ ?_ ?_
    · decide
    · clear * -; revert c; decide +kernel
    · rfl
    · exact fun _ => rfl
  refine (sepR (to_amr _ _)).trans ?_
  iterate 7
    refine amRecv_item ?_ ?_ ?_ ?_ ?_
    · decide
    · clear * -; revert c; decide +kernel
    · rfl
    · exact fun _ => rfl
  refine part_end ?_
  refine part_seq ?_
  rw [k0_part58_eq_skeleton]
  unfold k0_part58_skel
  iterate 9
    refine amRecv_item ?_ ?_ ?_ ?_ ?_
    · decide
    · clear * -; revert c; decide +kernel
    · rfl
    · exact fun _ => rfl
  refine (sepR (of_amr _)).trans ?_
  refine ldAll_item ?_
  refine part_end ?_
  exact hk

end

end Cert.KernelIdeal.Run

end
-- ==== Proof.Tail2.lean ====
module

public import proofs.«01_k».proof.Proof.TailOps

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

section
variable {m}
variable {K : GSem nD τ sig → ℕ} {c : Dev nD}

set_option maxHeartbeats 40000000 in
/-- The quantisation and the sends of the quantised blocks. -/
theorem tail2 {β : Type} {k : F .f32 → BitVec 32 → PR F β} {Q : β → sProp 𝕄} {Z : sProp 𝕄}
    (hk : iprop(ctx m K ∗ (AGs m c 14 ∗ (QK m c ∗ (OQ m c iprop(emp) iprop(emp) ∗ has c amM fullShare (amBuf m) ∗ AtM (F := F) c ∗ Z)))) ⊢ Wp c (k (scl m) 14#32) Q) :
    iprop(ctx m K ∗ (OQ m c (any (F := F) c (qH 0)) (any (F := F) c (qH 1))
        ∗ (has c amM fullShare (amBuf m) ∗ (owesE c 48 ∗ AtM (F := F) c ∗ (bigSep (Finset.range 16) (fun t => AgT (F := F) c (Fin.ofNat 16 t)) ∗ Z)))))
      ⊢ Wp c (k0_part59 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) (gmax m) >>= fun x => k0_part60 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 c (posWord c) x.2 >>= fun b60 => k x.1 b60) Q := by
  refine part_seq ?_
  rw [k0_part59_eq_skeleton]
  unfold k0_part59_skel
  refine ldO0_item ?_
  refine op_item (qload0 (m := m) (K := K) (c := c) _) ?_
  intro _
  refine op_item (qstore0 (m := m) (K := K) (c := c) _) ?_
  intro _
  refine ldO1_item ?_
  refine op_item (qload1 (m := m) (K := K) (c := c) _) ?_
  intro _
  refine op_item (qstore1 (m := m) (K := K) (c := c) _) ?_
  intro _
  refine (sepR (of_oq Z)).trans ?_
  refine (sepR (to_ags _)).trans ?_
  iterate 4
    refine agSend_item ?_ ?_ ?_ ?_ ?_ ?_ ?_ ?_ ?_ ?_ ?_
    · decide
    · clear * -; revert c; decide +kernel
    · rfl
    · rfl
    · clear * -; revert c; decide +kernel
    · clear * -; revert c; decide +kernel
    · clear * -; revert c; decide +kernel
    · clear * -; revert c; decide +kernel
    · intro _; clear * -; revert c; decide +kernel
    · intro _; clear * -; revert c; decide +kernel
  refine part_end ?_
  dsimp only
  refine part_seq ?_
  rw [k0_part60_eq_skeleton]
  unfold k0_part60_skel
  iterate 10
    refine agSend_item ?_ ?_ ?_ ?_ ?_ ?_ ?_ ?_ ?_ ?_ ?_
    · decide
    · clear * -; revert c; decide +kernel
    · rfl
    · rfl
    · clear * -; revert c; decide +kernel
    · clear * -; revert c; decide +kernel
    · clear * -; revert c; decide +kernel
    · clear * -; revert c; decide +kernel
    · intro _; clear * -; revert c; decide +kernel
    · intro _; clear * -; revert c; decide +kernel
  refine part_end ?_
  exact hk

end

end Cert.KernelIdeal.Run

end
-- ==== Proof.Blocks.lean ====
module

public import proofs.«01_k».proof.Proof.Deq

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## Runs of parts of the last phase that have the same form -/

section
variable {m}
variable {K : GSem nD τ sig → ℕ} {c : Dev nD}

set_option maxHeartbeats 40000000 in
/-- Parts 64 to 68. -/
theorem parts64 {β : Type} {k : PUnit → PR F β} {Fr : sProp 𝕄} {Q : β → sProp 𝕄}
    (hk : iprop(ctx m K ∗ (DSs m c 9 5 8 ∗ Fr)) ⊢ Wp c (k ⟨⟩) Q) :
    iprop(ctx m K ∗ (DSs m c 4 0 3 ∗ Fr)) ⊢ Wp c (k0_part64 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part65 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part66 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part67 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part68 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= k) Q := by
  iterate 5
    refine part_seq ?_
    first
    | rw [k0_part64_eq_skeleton]; unfold k0_part64_skel
    | rw [k0_part65_eq_skeleton]; unfold k0_part65_skel
    | rw [k0_part66_eq_skeleton]; unfold k0_part66_skel
    | rw [k0_part67_eq_skeleton]; unfold k0_part67_skel
    | rw [k0_part68_eq_skeleton]; unfold k0_part68_skel
    refine cpD_item ?_ ?_ ?_ ?_ ?_ ?_
    · decide
    · decide
    · rfl
    · rfl
    · decide
    refine agRecv_item ?_ ?_ ?_ ?_ ?_
    · decide
    · clear * -; revert c; decide +kernel
    · rfl
    · exact fun _ => rfl
    refine dqWait_item ?_ ?_ ?_ ?_ ?_ ?_
    · decide
    · decide
    · decide
    · rfl
    · rfl
    refine ldQ_at ?_ ?_
    · rfl
    refine ldA_item ?_ ?_
    · rfl
    intro X hX
    refine ldD_item ?_ ?_ ?_
    · decide
    · rfl
    intro _
    refine stD_item ?_ ?_ ?_ ?_
    · decide
    · rfl
    · refine deq_at ?_ _ hX ?_
      · decide
      · clear * -; revert c; decide +kernel
    refine part_end ?_
  exact hk

set_option maxHeartbeats 40000000 in
/-- Parts 69 to 73. -/
theorem parts69 {β : Type} {k : PUnit → PR F β} {Fr : sProp 𝕄} {Q : β → sProp 𝕄}
    (hk : iprop(ctx m K ∗ (DSs m c 14 10 13 ∗ Fr)) ⊢ Wp c (k ⟨⟩) Q) :
    iprop(ctx m K ∗ (DSs m c 9 5 8 ∗ Fr)) ⊢ Wp c (k0_part69 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part70 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part71 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part72 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part73 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= k) Q := by
  iterate 5
    refine part_seq ?_
    first
    | rw [k0_part69_eq_skeleton]; unfold k0_part69_skel
    | rw [k0_part70_eq_skeleton]; unfold k0_part70_skel
    | rw [k0_part71_eq_skeleton]; unfold k0_part71_skel
    | rw [k0_part72_eq_skeleton]; unfold k0_part72_skel
    | rw [k0_part73_eq_skeleton]; unfold k0_part73_skel
    refine cpD_item ?_ ?_ ?_ ?_ ?_ ?_
    · decide
    · decide
    · rfl
    · rfl
    · decide
    refine agRecv_item ?_ ?_ ?_ ?_ ?_
    · decide
    · clear * -; revert c; decide +kernel
    · rfl
    · exact fun _ => rfl
    refine dqWait_item ?_ ?_ ?_ ?_ ?_ ?_
    · decide
    · decide
    · decide
    · rfl
    · rfl
    refine ldQ_at ?_ ?_
    · rfl
    refine ldA_item ?_ ?_
    · rfl
    intro X hX
    refine ldD_item ?_ ?_ ?_
    · decide
    · rfl
    intro _
    refine stD_item ?_ ?_ ?_ ?_
    · decide
    · rfl
    · refine deq_at ?_ _ hX ?_
      · decide
      · clear * -; revert c; decide +kernel
    refine part_end ?_
  exact hk

set_option maxHeartbeats 40000000 in
/-- Parts 81 to 85. -/
theorem parts81 {β : Type} {k : PUnit → PR F β} {Fr : sProp 𝕄} {Q : β → sProp 𝕄}
    (hk : iprop(ctx m K ∗ (DS m c 27 22 26 ∗ Fr)) ⊢ Wp c (k ⟨⟩) Q) :
    iprop(ctx m K ∗ (DS m c 22 17 21 ∗ Fr)) ⊢ Wp c (k0_part81 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part82 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part83 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part84 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part85 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= k) Q := by
  iterate 5
    refine part_seq ?_
    first
    | rw [k0_part81_eq_skeleton]; unfold k0_part81_skel
    | rw [k0_part82_eq_skeleton]; unfold k0_part82_skel
    | rw [k0_part83_eq_skeleton]; unfold k0_part83_skel
    | rw [k0_part84_eq_skeleton]; unfold k0_part84_skel
    | rw [k0_part85_eq_skeleton]; unfold k0_part85_skel
    refine dqWait_item ?_ ?_ ?_ ?_ ?_ ?_
    · decide
    · decide
    · decide
    · rfl
    · rfl
    refine ldQ_at ?_ ?_
    · rfl
    refine ldA_item ?_ ?_
    · rfl
    intro X hX
    refine ldD_item ?_ ?_ ?_
    · decide
    · rfl
    intro _
    refine stD_item ?_ ?_ ?_ ?_
    · decide
    · rfl
    · refine deq_at ?_ _ hX ?_
      · decide
      · clear * -; revert c; decide +kernel
    refine cpD_item ?_ ?_ ?_ ?_ ?_ ?_
    · decide
    · decide
    · rfl
    · rfl
    · decide
    refine agRecv_item ?_ ?_ ?_ ?_ ?_
    · decide
    · clear * -; revert c; decide +kernel
    · rfl
    · exact fun _ => rfl
    refine part_end ?_
  exact hk

set_option maxHeartbeats 40000000 in
/-- Parts 86 to 90. -/
theorem parts86 {β : Type} {k : PUnit → PR F β} {Fr : sProp 𝕄} {Q : β → sProp 𝕄}
    (hk : iprop(ctx m K ∗ (DS m c 32 27 31 ∗ Fr)) ⊢ Wp c (k ⟨⟩) Q) :
    iprop(ctx m K ∗ (DS m c 27 22 26 ∗ Fr)) ⊢ Wp c (k0_part86 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part87 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part88 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part89 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= fun _ => k0_part90 xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17 (posWord c) (scl m) >>= k) Q := by
  iterate 5
    refine part_seq ?_
    first
    | rw [k0_part86_eq_skeleton]; unfold k0_part86_skel
    | rw [k0_part87_eq_skeleton]; unfold k0_part87_skel
    | rw [k0_part88_eq_skeleton]; unfold k0_part88_skel
    | rw [k0_part89_eq_skeleton]; unfold k0_part89_skel
    | rw [k0_part90_eq_skeleton]; unfold k0_part90_skel
    refine dqWait_item ?_ ?_ ?_ ?_ ?_ ?_
    · decide
    · decide
    · decide
    · rfl
    · rfl
    refine ldQ_at ?_ ?_
    · rfl
    refine ldA_item ?_ ?_
    · rfl
    intro X hX
    refine ldD_item ?_ ?_ ?_
    · decide
    · rfl
    intro _
    refine stD_item ?_ ?_ ?_ ?_
    · decide
    · rfl
    · refine deq_at ?_ _ hX ?_
      · decide
      · clear * -; revert c; decide +kernel
    refine cpD_item ?_ ?_ ?_ ?_ ?_ ?_
    · decide
    · decide
    · rfl
    · rfl
    · decide
    refine agRecv_item ?_ ?_ ?_ ?_ ?_
    · decide
    · clear * -; revert c; decide +kernel
    · rfl
    · exact fun _ => rfl
    refine part_end ?_
  exact hk

end

end Cert.KernelIdeal.Run

end
-- ==== Proof.Body.lean ====
module

public import proofs.«01_k».proof.Proof.Blocks

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The kernel after its ring phases -/

/-- The last phase without the debts. -/
def DSr (c : Dev nD) (n w p : ℕ) : sProp 𝕄 := iprop(QK m c ∗ GR m c n ∗ DQ m c w p)
/-- The positions on the semaphores of the sends of quantised blocks. -/
def AtS (c : Dev nD) : sProp 𝕄 :=
  bigSep (Finset.range 16) (fun t => iprop((atPos ER (cl c (.agS (Fin.ofNat 16 t) 0)) 0 ∅ 0 : sProp 𝕄) ∗ atPos ER (cl c (.agS (Fin.ofNat 16 t) 1)) 0 ∅ 0))
/-- The sends under way. -/
def AGf (c : Dev nD) : sProp 𝕄 := bigSep (Finset.range 16) (fun t => AG1 m c (Fin.ofNat 16 t))

section
variable {m}
variable {K : GSem nD τ sig → ℕ} {c : Dev nD}

theorem to_deq (Z : sProp 𝕄) : iprop(AGs m c 16 ∗ (AtS (F := F) c ∗ DSr m c 0 0 0 ∗ Z)) ⊢ iprop(DS m c 0 0 0 ∗ (AGf m c ∗ AtS (F := F) c ∗ Z)) := by
  unfold AGs DS DSr AGf
  iintro ⟨⟨HO, H1, -⟩, HA, HD, HZ⟩
  isplitl [HO HD]
  · isplitl [HO]; · iexact HO
    iexact HD
  isplitl [H1]; · iexact H1
  isplitl [HA]; · iexact HA
  iexact HZ

theorem of_deq (Z : sProp 𝕄) : iprop(DS m c 32 32 32 ∗ (AGf m c ∗ AtS (F := F) c ∗ Z)) ⊢ iprop(AGw m c 0 ∗ (DSr m c 32 32 32 ∗ Z)) := by
  unfold AGw DS DSr AGf AtS
  iintro ⟨⟨HO, HD⟩, H1, HA, HZ⟩
  isplitl [HO H1 HA]
  · isplitl [HO]; · iexact HO
    isplitr
    · rw [Finset.range_zero, bigSep_empty]; iempintro
    rw [← Finset.range_eq_Ico]
    iapply (bigSep_zip (Finset.range 16) _ _)
    isplitl [H1]; · iexact H1
    iexact HA
  isplitl [HD]; · iexact HD
  iexact HZ

omit [FloatOps F] in
/-- A fact carried along, used. -/
theorem of_pure {P : Prop} {A B G : sProp 𝕄} (h : P → iprop(A ∗ B) ⊢ G) : iprop(A ∗ (⌜P⌝ ∗ B)) ⊢ G := by
  iintro ⟨HA, %hP, HB⟩
  iapply (h hP)
  isplitl [HA]; · iexact HA
  iexact HB

set_option maxHeartbeats 40000000 in
/-- The whole body, given what its first parts leave. -/
theorem body_of_front {A Z : sProp 𝕄}
    (hf : iprop(ctx m K ∗ A) ⊢ Wp c (front (F := F)) (fun v => iprop(⌜v = ⟨c, posWord c, scl m, 14#32⟩⌝ ∗ (AGs m c 14 ∗ (AtS (F := F) c ∗ DSr m c 0 0 0 ∗ Z))))) :
    iprop(ctx m K ∗ A) ⊢ Wp c (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)
      (fun _ => iprop(AGw m c 16 ∗ (DSr m c 32 32 32 ∗ Z))) := by
  rw [cc0__body_eq_skeleton]
  unfold cc0__body_skel
  rw [part94_eq]
  refine seq _ hf ?_
  intro v
  refine of_pure ?_
  intro hv
  subst hv
  refine part_seq ?_
  rw [k0_part61_eq_skeleton]
  unfold k0_part61_skel
  iterate 2
    refine agSend_item ?_ ?_ ?_ ?_ ?_ ?_ ?_ ?_ ?_ ?_ ?_
    · decide
    · clear * -; revert c; decide +kernel
    · rfl
    · rfl
    · clear * -; revert c; decide +kernel
    · clear * -; revert c; decide +kernel
    · clear * -; revert c; decide +kernel
    · clear * -; revert c; decide +kernel
    · intro _; clear * -; revert c; decide +kernel
    · intro _; clear * -; revert c; decide +kernel
  refine (sepR (to_deq Z)).trans ?_
  refine agRecv_item ?_ ?_ ?_ ?_ ?_
  · decide
  · clear * -; revert c; decide +kernel
  · rfl
  · exact fun _ => rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine part_end ?_
  refine part_seq ?_
  rw [k0_part62_eq_skeleton]
  unfold k0_part62_skel
  refine agRecv_item ?_ ?_ ?_ ?_ ?_
  · decide
  · clear * -; revert c; decide +kernel
  · rfl
  · exact fun _ => rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine agRecv_item ?_ ?_ ?_ ?_ ?_
  · decide
  · clear * -; revert c; decide +kernel
  · rfl
  · exact fun _ => rfl
  refine ldQ_at ?_ ?_
  · rfl
  refine ldA_item ?_ ?_
  · rfl
  intro X hX
  refine part_end ?_
  refine part_seq ?_
  rw [k0_part63_eq_skeleton]
  unfold k0_part63_skel
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine agRecv_item ?_ ?_ ?_ ?_ ?_
  · decide
  · clear * -; revert c; decide +kernel
  · rfl
  · exact fun _ => rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine part_end ?_
  refine parts64 ?_
  refine parts69 ?_
  refine part_seq ?_
  rw [k0_part74_eq_skeleton]
  unfold k0_part74_skel
  refine cpD_item ?_ ?_ ?_ ?_ ?_ ?_
  · decide
  · decide
  · rfl
  · rfl
  · decide
  refine agRecv_item ?_ ?_ ?_ ?_ ?_
  · decide
  · clear * -; revert c; decide +kernel
  · rfl
  · exact fun _ => rfl
  refine dqWait_item ?_ ?_ ?_ ?_ ?_ ?_
  · decide
  · decide
  · decide
  · rfl
  · rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine part_end ?_
  iterate 5
    refine part_seq ?_
    first
    | rw [k0_part75_eq_skeleton]; unfold k0_part75_skel
    | rw [k0_part76_eq_skeleton]; unfold k0_part76_skel
    | rw [k0_part77_eq_skeleton]; unfold k0_part77_skel
    | rw [k0_part78_eq_skeleton]; unfold k0_part78_skel
    | rw [k0_part79_eq_skeleton]; unfold k0_part79_skel
    refine agRecv_item ?_ ?_ ?_ ?_ ?_
    · decide
    · clear * -; revert c; decide +kernel
    · rfl
    · exact fun _ => rfl
    refine dqWait_item ?_ ?_ ?_ ?_ ?_ ?_
    · decide
    · decide
    · decide
    · rfl
    · rfl
    refine ldQ_at ?_ ?_
    · rfl
    refine ldA_item ?_ ?_
    · rfl
    intro X hX
    refine ldD_item ?_ ?_ ?_
    · decide
    · rfl
    intro _
    refine stD_item ?_ ?_ ?_ ?_
    · decide
    · rfl
    · refine deq_at ?_ _ hX ?_
      · decide
      · clear * -; revert c; decide +kernel
    refine cpD_item ?_ ?_ ?_ ?_ ?_ ?_
    · decide
    · decide
    · rfl
    · rfl
    · decide
    refine part_end ?_
  refine part_seq ?_
  rw [k0_part80_eq_skeleton]
  unfold k0_part80_skel
  refine agRecv_item ?_ ?_ ?_ ?_ ?_
  · decide
  · clear * -; revert c; decide +kernel
  · rfl
  · exact fun _ => rfl
  refine dqWait_item ?_ ?_ ?_ ?_ ?_ ?_
  · decide
  · decide
  · decide
  · rfl
  · rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine agRecv_item ?_ ?_ ?_ ?_ ?_
  · decide
  · clear * -; revert c; decide +kernel
  · rfl
  · exact fun _ => rfl
  refine part_end ?_
  refine parts81 ?_
  refine parts86 ?_
  refine part_seq ?_
  rw [k0_part91_eq_skeleton]
  unfold k0_part91_skel
  refine dqWait_item ?_ ?_ ?_ ?_ ?_ ?_
  · decide
  · decide
  · decide
  · rfl
  · rfl
  refine ldQ_at ?_ ?_
  · rfl
  refine ldA_item ?_ ?_
  · rfl
  intro X hX
  refine ldD_item ?_ ?_ ?_
  · decide
  · rfl
  intro _
  refine stD_item ?_ ?_ ?_ ?_
  · decide
  · rfl
  · refine deq_at ?_ _ hX ?_
    · decide
    · clear * -; revert c; decide +kernel
  refine cpD_item ?_ ?_ ?_ ?_ ?_ ?_
  · decide
  · decide
  · rfl
  · rfl
  · decide
  refine dqWait_item ?_ ?_ ?_ ?_ ?_ ?_
  · decide
  · decide
  · decide
  · rfl
  · rfl
  refine part_end ?_
  refine part_seq ?_
  rw [k0_part92_eq_skeleton]
  unfold k0_part92_skel
  iterate 3
    refine dqWait_item ?_ ?_ ?_ ?_ ?_ ?_
    · decide
    · decide
    · decide
    · rfl
    · rfl
  refine (sepR (of_deq Z)).trans ?_
  iterate 3
    refine agWait_item ?_ ?_ ?_ ?_ ?_ ?_ ?_
    · decide
    · clear * -; revert c; decide +kernel
    · rfl
    · rfl
    · exact fun _ => rfl
    · exact fun _ => rfl
  refine part_end ?_
  refine part_seq ?_
  rw [k0_part93_eq_skeleton]
  unfold k0_part93_skel
  iterate 10
    refine agWait_item ?_ ?_ ?_ ?_ ?_ ?_ ?_
    · decide
    · clear * -; revert c; decide +kernel
    · rfl
    · rfl
    · exact fun _ => rfl
    · exact fun _ => rfl
  refine part_end ?_
  iterate 3
    refine agWait_item ?_ ?_ ?_ ?_ ?_ ?_ ?_
    · decide
    · clear * -; revert c; decide +kernel
    · rfl
    · rfl
    · exact fun _ => rfl
    · exact fun _ => rfl
  refine part_end ?_
  iintro ⟨-, H⟩
  iexact H

end

end Cert.KernelIdeal.Run

end
-- ==== Proof.Front.lean ====
module

public import proofs.«01_k».proof.Proof.Tail1
public import proofs.«01_k».proof.Proof.Tail2
public import proofs.«01_k».proof.Proof.Body

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The kernel from its start -/

/-- What device `c` starts from. -/
def Pre (c : Dev nD) : sProp 𝕄 :=
  iprop(St0 m c ∗ (any (F := F) c (ownM.slice rO0 (fun _ => rfl)) ∗ any (F := F) c (ownM.slice rO1 (fun _ => rfl)))
    ∗ (any (F := F) c (qH 0) ∗ any (F := F) c (qH 1)) ∗ any (F := F) c (amRow c) ∗ (any (F := F) c (agH c 0) ∗ any (F := F) c (agH c 1))
    ∗ bigSep (Finset.range 16) (fun t => AmB (F := F) c (Fin.ofNat 16 t))
    ∗ bigSep (Finset.range 16) (fun t => iprop(AgB (F := F) c (Fin.ofNat 16 t) 0 ∗ AgB (F := F) c (Fin.ofNat 16 t) 1)) ∗ DQ m c 0 0)

/-- What the ring leaves. -/
def RingEnd (c : Dev nD) : sProp 𝕄 :=
  iprop(atPos ER (cl c .bar) 1 ∅ 0 ∗ xw m c ∗ bigSep (Finset.range 15) (fun t => Slot1 (F := F) c (Fin.ofNat 15 t)))

/-- What the first phases leave besides what the last one uses. -/
def Left (c : Dev nD) : sProp 𝕄 :=
  iprop(OQ m c iprop(emp) iprop(emp) ∗ has c amM fullShare (amBuf m) ∗ AtM (F := F) c ∗ RingEnd m c)

section
variable {m}
variable {K : GSem nD τ sig → ℕ} {c : Dev nD}

/-- A device asks for its own number. -/
theorem dev_item {β : Type} {k : Dev nD → PR F β} {A : sProp 𝕄} {Q : β → sProp 𝕄} (hk : iprop(ctx m K ∗ A) ⊢ Wp c (k c) Q) :
    iprop(ctx m K ∗ A) ⊢ Wp c (Prog.lift .deviceId >>= k) Q := by
  refine hk.trans (Entails.of_eq ?_)
  unfold Wp
  exact (wp_deviceId (k := k) (Q := Q) 𝒱₀ (c : Thread nD τ) none Set.univ).symm

theorem start_rot (P R Z : sProp 𝕄) : iprop((P ∗ R) ∗ Z) ⊢ iprop(R ∗ (P ∗ Z)) := by
  iintro ⟨⟨HP, HR⟩, HZ⟩
  isplitl [HR]; · iexact HR
  isplitl [HP]; · iexact HP
  iexact HZ
theorem last_rot (P R O Z : sProp 𝕄) : iprop(R ∗ (P ∗ (O ∗ Z))) ⊢ iprop((R ∗ O) ∗ (P ∗ Z)) := by
  iintro ⟨HR, HP, HO, HZ⟩
  isplitl [HR HO]
  · isplitl [HR]; · iexact HR
    iexact HO
  isplitl [HP]; · iexact HP
  iexact HZ

/-- What the exchange of the maxima does not touch. -/
abbrev Mid (c : Dev nD) : sProp 𝕄 :=
  iprop(OQ m c (any (F := F) c (qH 0)) (any (F := F) c (qH 1)) ∗ bigSep (Finset.range 16) (fun t => AgT (F := F) c (Fin.ofNat 16 t))
    ∗ (AtG (F := F) c ∗ GR m c 0 ∗ DQ m c 0 0 ∗ RingEnd m c))

theorem to_tail :
    iprop((RSm m c 15 ∗ has c (ownM.slice rO0 (fun _ => rfl)) fullShare (ownR m c) ∗ has c (ownM.slice rO1 (fun _ => rfl)) fullShare (ownL m c))
        ∗ (atPos ER (cl c .bar) 1 ∅ 0 ∗ (any (F := F) c (qH 0) ∗ any (F := F) c (qH 1)) ∗ any (F := F) c (amRow c) ∗ (any (F := F) c (agH c 0) ∗ any (F := F) c (agH c 1))
          ∗ bigSep (Finset.range 16) (fun t => AmB (F := F) c (Fin.ofNat 16 t))
          ∗ bigSep (Finset.range 16) (fun t => iprop(AgB (F := F) c (Fin.ofNat 16 t) 0 ∗ AgB (F := F) c (Fin.ofNat 16 t) 1)) ∗ DQ m c 0 0))
      ⊢ iprop(any (F := F) c (amRow c) ∗ (owesE c 32 ∗ bigSep (Finset.range 16) (fun t => AmT (F := F) c (Fin.ofNat 16 t))
        ∗ (bigSep (Finset.range 16) (fun t => atPos ER (cl c (.amS (Fin.ofNat 16 t))) 0 ∅ 0) ∗ (bigSep (Finset.range 16) (fun t => AR0 (F := F) c (Fin.ofNat 16 t)) ∗ Mid (m := m) c)))) := by
  unfold RSm Mid OQ RingEnd
  iintro ⟨⟨⟨HO, Hx, HS, -, -, HK⟩, H0, H1⟩, HB, ⟨Q0, Q1⟩, HR, HG, HA, HA', HD⟩
  ihave H := (deal (m := m) (c := c)) $$ [HG HK HA HA']
  · isplitl [HG]; · iexact HG
    isplitl [HK]; · iexact HK
    isplitl [HA]; · iexact HA
    iexact HA'
  icases H with ⟨D1, D2, D3, D4, D5, D6⟩
  isplitl [HR]; · iexact HR
  isplitl [HO]; · iexact HO
  isplitl [D1]; · iexact D1
  isplitl [D2]; · iexact D2
  isplitl [D3]; · iexact D3
  isplitl [H0 H1 Q0 Q1]
  · isplitl [H0 H1]
    · isplitl [H0]; · iexact H0
      iexact H1
    isplitl [Q0]; · iexact Q0
    iexact Q1
  isplitl [D4]; · iexact D4
  isplitl [D5]; · iexact D5
  isplitl [D6]; · iexact D6
  isplitl [HD]; · iexact HD
  isplitl [HB]; · iexact HB
  isplitl [Hx]; · iexact Hx
  iexact HS

theorem to_tail2 :
    iprop(has c amM fullShare (amBuf m) ∗ (owesE c 48 ∗ AtM (F := F) c ∗ Mid (m := m) c))
      ⊢ iprop(OQ m c (any (F := F) c (qH 0)) (any (F := F) c (qH 1)) ∗ (has c amM fullShare (amBuf m) ∗ (owesE c 48 ∗ AtM (F := F) c
        ∗ (bigSep (Finset.range 16) (fun t => AgT (F := F) c (Fin.ofNat 16 t)) ∗ (AtG (F := F) c ∗ GR m c 0 ∗ DQ m c 0 0 ∗ RingEnd m c))))) := by
  iintro ⟨HM, HE, HA, HO, HT, HZ⟩
  isplitl [HO]; · iexact HO
  isplitl [HM]; · iexact HM
  isplitl [HE]; · iexact HE
  isplitl [HA]; · iexact HA
  isplitl [HT]; · iexact HT
  iexact HZ

theorem of_tail {P : Prop} (hP : P) :
    iprop(ctx m K ∗ (AGs m c 14 ∗ (QK m c ∗ (OQ m c iprop(emp) iprop(emp) ∗ has c amM fullShare (amBuf m) ∗ AtM (F := F) c ∗ (AtG (F := F) c ∗ GR m c 0 ∗ DQ m c 0 0 ∗ RingEnd m c)))))
      ⊢ iprop(⌜P⌝ ∗ (AGs m c 14 ∗ (AtS (F := F) c ∗ DSr m c 0 0 0 ∗ Left m c))) := by
  unfold DSr Left AtS
  iintro ⟨-, HG, HQ, HO, HM, HA, HT, HR, HD, HZ⟩
  isplitr; · ipureintro; exact hP
  isplitl [HG]; · iexact HG
  isplitl [HT]; · unfold AtG; iexact HT
  isplitl [HQ HR HD]
  · isplitl [HQ]; · iexact HQ
    isplitl [HR]; · iexact HR
    iexact HD
  isplitl [HO]; · iexact HO
  isplitl [HM]; · iexact HM
  isplitl [HA]; · iexact HA
  iexact HZ

omit [FloatOps F] in
/-- An equation standing in front of what an operation leaves is taken out. -/
theorem pure_front {P : Prop} {C A Fr G : sProp 𝕄} (h : P → iprop(C ∗ (A ∗ Fr)) ⊢ G) : iprop(C ∗ ((⌜P⌝ ∗ A) ∗ Fr)) ⊢ G := by
  iintro ⟨H0, ⟨⟨%e, H1⟩, H2⟩⟩
  iapply (h e)
  isplitl [H0]; · iexact H0
  isplitl [H1]; · iexact H1
  iexact H2

/-- A run goes on as an equal one. -/
theorem same_cont {α β : Type} {p : PR F α} {g g' : α → PR F β} {C : sProp 𝕄} {Q : β → sProp 𝕄} (H : C ⊢ Wp c (p >>= g') Q) (h : ∀ x, g' x = g x) :
    C ⊢ Wp c (p >>= g) Q := by
  rw [← show g' = g from funext h]; exact H

/-- The first phases. -/
theorem front_spec :
    iprop(ctx m K ∗ Pre m c) ⊢ Wp c (front (F := F)) (fun v => iprop(⌜v = ⟨c, posWord c, scl m, 14#32⟩⌝ ∗ (AGs m c 14 ∗ (AtS (F := F) c ∗ DSr m c 0 0 0 ∗ Left m c)))) := by
  unfold front Pre
  refine dev_item ?_
  refine op_item (start_spec (m := m) (K := K) (c := c)) fun _ => ?_
  refine (sepR (start_rot _ _ _)).trans ?_
  refine op_item (step_spec (m := m) (K := K) (c := c) 0 (by decide)) fun _ => ?_
  refine op_item (step_spec (m := m) (K := K) (c := c) 1 (by decide)) fun _ => ?_
  refine op_item (step_spec (m := m) (K := K) (c := c) 2 (by decide)) fun _ => ?_
  refine op_item (step_spec (m := m) (K := K) (c := c) 3 (by decide)) fun _ => ?_
  refine op_item (step_spec (m := m) (K := K) (c := c) 4 (by decide)) fun _ => ?_
  refine op_item (step_spec (m := m) (K := K) (c := c) 5 (by decide)) fun _ => ?_
  refine op_item (step_spec (m := m) (K := K) (c := c) 6 (by decide)) fun _ => ?_
  refine op_item (step_spec (m := m) (K := K) (c := c) 7 (by decide)) fun _ => ?_
  refine op_item (step_spec (m := m) (K := K) (c := c) 8 (by decide)) fun _ => ?_
  refine op_item (step_spec (m := m) (K := K) (c := c) 9 (by decide)) fun _ => ?_
  refine op_item (step_spec (m := m) (K := K) (c := c) 10 (by decide)) fun _ => ?_
  refine op_item (step_spec (m := m) (K := K) (c := c) 11 (by decide)) fun _ => ?_
  refine op_item (step_spec (m := m) (K := K) (c := c) 12 (by decide)) fun _ => ?_
  refine op_item (step_spec (m := m) (K := K) (c := c) 13 (by decide)) fun _ => ?_
  refine (sepR (last_rot _ _ _ _)).trans ?_
  refine op_item (lastStep_spec (m := m) (K := K) (c := c)) fun v => ?_
  refine pure_front fun e => ?_
  subst e
  refine (sepR to_tail).trans ?_
  unfold tailA
  refine tail1 ?_
  refine (sepR to_tail2).trans ?_
  refine same_cont (tail2 (k := fun a b => pure ⟨c, posWord c, a, b⟩) ?_) fun ⟨_, _⟩ => rfl
  refine part_end ?_
  exact of_tail rfl

/-- The whole body. -/
theorem body_spec :
    iprop(ctx m K ∗ Pre m c) ⊢ Wp c (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)
      (fun _ => iprop(AGw m c 16 ∗ (DSr m c 32 32 32 ∗ Left m c))) := body_of_front front_spec

end

end Cert.KernelIdeal.Run

end
-- ==== Proof.Uses.lean ====
module

public import proofs.«01_k».proof.Proof.Lend

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The semaphores by their use -/

/-- The use of the kernel's semaphore number `k`. -/
def uses (k : Fin 160) : Kd := kd (osem k)
theorem sem_uses : ∀ k : Fin 160, sem (uses k) = osem k := by decide +kernel
theorem uses_ne : ∀ k : Fin 160, uses k ≠ .other := by decide +kernel
theorem kd_osem_ne (k : Fin 160) : kd (osem k) ≠ .other := uses_ne k

/-- A family over the uses, kind by kind. -/
def Fam (Ψ : Kd → sProp 𝕄) : sProp 𝕄 :=
  iprop(bigSep (Finset.range 15) (fun t => Ψ (.sR (Fin.ofNat 15 t))) ∗ bigSep (Finset.range 15) (fun t => Ψ (.rR (Fin.ofNat 15 t)))
    ∗ bigSep (Finset.range 15) (fun t => Ψ (.sL (Fin.ofNat 15 t))) ∗ bigSep (Finset.range 15) (fun t => Ψ (.rL (Fin.ofNat 15 t)))
    ∗ bigSep (Finset.range 16) (fun t => iprop(Ψ (.agS (Fin.ofNat 16 t) 0) ∗ Ψ (.agS (Fin.ofNat 16 t) 1)))
    ∗ bigSep (Finset.range 16) (fun t => iprop(Ψ (.agR (Fin.ofNat 16 t) 0) ∗ Ψ (.agR (Fin.ofNat 16 t) 1)))
    ∗ bigSep (Finset.range 16) (fun t => Ψ (.amS (Fin.ofNat 16 t))) ∗ bigSep (Finset.range 16) (fun t => Ψ (.amR (Fin.ofNat 16 t)))
    ∗ bigSep (Finset.range 4) (fun t => Ψ (.dq (Fin.ofNat 4 t))))

omit [FloatOps F] in
theorem left_comm (A B C : sProp 𝕄) : iprop(A ∗ (B ∗ C)) = iprop(B ∗ (A ∗ C)) := by
  have h1 : iprop(A ∗ (B ∗ C)) ⊢ iprop(B ∗ (A ∗ C)) := by
    iintro ⟨HA, HB, HC⟩
    isplitl [HB]; · iexact HB
    isplitl [HA]; · iexact HA
    iexact HC
  have h2 : iprop(B ∗ (A ∗ C)) ⊢ iprop(A ∗ (B ∗ C)) := by
    iintro ⟨HB, HA, HC⟩
    isplitl [HA]; · iexact HA
    isplitl [HB]; · iexact HB
    iexact HC
  exact BI.equiv_iff.mp ⟨h1, h2⟩

omit [FloatOps F] in
theorem sep_emp_r (A : sProp 𝕄) : iprop(A ∗ emp) = A := by
  have h1 : iprop(A ∗ emp) ⊢ A := by
    iintro ⟨HA, -⟩; iexact HA
  have h2 : A ⊢ iprop(A ∗ emp) := by
    iintro HA
    isplitl [HA]; · iexact HA
    iempintro
  exact BI.equiv_iff.mp ⟨h1, h2⟩

omit [FloatOps F] in
/-- An initial segment in two parts. -/
theorem bigSep_add (a b : ℕ) (Φ : ℕ → sProp 𝕄) :
    bigSep (Finset.range (a + b)) Φ = iprop(bigSep (Finset.range a) Φ ∗ bigSep (Finset.range b) (fun t => Φ (a + t))) := by
  induction b with
  | zero => rw [Nat.add_zero, Finset.range_zero, bigSep_empty]; exact (sep_emp_r _).symm
  | succ b ih =>
    rw [show a + (b + 1) = (a + b) + 1 from rfl, bigSep_tail, bigSep_tail, ih]
    exact left_comm _ _ _

omit [FloatOps F] in
theorem bigSep_cut (Φ : ℕ → sProp 𝕄) :
    bigSep (Finset.range (15 + (15 + (15 + (15 + (2 * 16 + (2 * 16 + (16 + (16 + 4))))))))) Φ
      = iprop(bigSep (Finset.range 15) Φ ∗ bigSep (Finset.range 15) (fun t => Φ (15 + t)) ∗ bigSep (Finset.range 15) (fun t => Φ (15 + (15 + t)))
          ∗ bigSep (Finset.range 15) (fun t => Φ (15 + (15 + (15 + t))))
          ∗ bigSep (Finset.range 16) (fun t => iprop(Φ (15 + (15 + (15 + (15 + 2 * t)))) ∗ Φ (15 + (15 + (15 + (15 + (2 * t + 1)))))))
          ∗ bigSep (Finset.range 16) (fun t => iprop(Φ (15 + (15 + (15 + (15 + (2 * 16 + 2 * t))))) ∗ Φ (15 + (15 + (15 + (15 + (2 * 16 + (2 * t + 1))))))))
          ∗ bigSep (Finset.range 16) (fun t => Φ (15 + (15 + (15 + (15 + (2 * 16 + (2 * 16 + t)))))))
          ∗ bigSep (Finset.range 16) (fun t => Φ (15 + (15 + (15 + (15 + (2 * 16 + (2 * 16 + (16 + t))))))))
          ∗ bigSep (Finset.range 4) (fun t => Φ (15 + (15 + (15 + (15 + (2 * 16 + (2 * 16 + (16 + (16 + t)))))))))) := by
  rw [bigSep_add, bigSep_add, bigSep_add, bigSep_add, bigSep_add, bigSep_add, bigSep_add, bigSep_add, bigSep_pairs, bigSep_pairs]

theorem uses_sR : ∀ t ∈ Finset.range 15, uses (Fin.ofNat 160 t) = .sR (Fin.ofNat 15 t) := by decide +kernel
theorem uses_rR : ∀ t ∈ Finset.range 15, uses (Fin.ofNat 160 (15 + t)) = .rR (Fin.ofNat 15 t) := by decide +kernel
theorem uses_sL : ∀ t ∈ Finset.range 15, uses (Fin.ofNat 160 (15 + (15 + t))) = .sL (Fin.ofNat 15 t) := by decide +kernel
theorem uses_rL : ∀ t ∈ Finset.range 15, uses (Fin.ofNat 160 (15 + (15 + (15 + t)))) = .rL (Fin.ofNat 15 t) := by decide +kernel
theorem uses_agS : ∀ t ∈ Finset.range 16, uses (Fin.ofNat 160 (15 + (15 + (15 + (15 + 2 * t))))) = .agS (Fin.ofNat 16 t) 0
    ∧ uses (Fin.ofNat 160 (15 + (15 + (15 + (15 + (2 * t + 1)))))) = .agS (Fin.ofNat 16 t) 1 := by decide +kernel
theorem uses_agR : ∀ t ∈ Finset.range 16, uses (Fin.ofNat 160 (15 + (15 + (15 + (15 + (2 * 16 + 2 * t)))))) = .agR (Fin.ofNat 16 t) 0
    ∧ uses (Fin.ofNat 160 (15 + (15 + (15 + (15 + (2 * 16 + (2 * t + 1))))))) = .agR (Fin.ofNat 16 t) 1 := by decide +kernel
theorem uses_amS : ∀ t ∈ Finset.range 16, uses (Fin.ofNat 160 (15 + (15 + (15 + (15 + (2 * 16 + (2 * 16 + t))))))) = .amS (Fin.ofNat 16 t) := by decide +kernel
theorem uses_amR : ∀ t ∈ Finset.range 16, uses (Fin.ofNat 160 (15 + (15 + (15 + (15 + (2 * 16 + (2 * 16 + (16 + t)))))))) = .amR (Fin.ofNat 16 t) := by decide +kernel
theorem uses_dq : ∀ t ∈ Finset.range 4, uses (Fin.ofNat 160 (15 + (15 + (15 + (15 + (2 * 16 + (2 * 16 + (16 + (16 + t))))))))) = .dq (Fin.ofNat 4 t) := by decide +kernel

omit [FloatOps F] in
/-- A family over the kernel's semaphores, by kinds. -/
theorem fam (Ψ : Kd → sProp 𝕄) : bigSep Finset.univ (fun k : Fin 160 => Ψ (uses k)) = Fam Ψ := by
  rw [bigSep_fin (n := 160) (fun k => Ψ (uses k))]
  refine (bigSep_cut (fun t => Ψ (uses (Fin.ofNat 160 t)))).trans ?_
  unfold Fam
  rw [bigSep_congr fun t ht => congrArg Ψ (uses_sR t ht), bigSep_congr fun t ht => congrArg Ψ (uses_rR t ht),
    bigSep_congr fun t ht => congrArg Ψ (uses_sL t ht), bigSep_congr fun t ht => congrArg Ψ (uses_rL t ht),
    bigSep_congr fun t ht => congrArg Ψ (uses_amS t ht), bigSep_congr fun t ht => congrArg Ψ (uses_amR t ht),
    bigSep_congr fun t ht => congrArg Ψ (uses_dq t ht),
    bigSep_congr fun t ht => congrArg₂ (fun a b => iprop(Ψ a ∗ Ψ b)) (uses_agS t ht).1 (uses_agS t ht).2,
    bigSep_congr fun t ht => congrArg₂ (fun a b => iprop(Ψ a ∗ Ψ b)) (uses_agR t ht).1 (uses_agR t ht).2]

omit [FloatOps F] in
/-- A family over the kernel's semaphores, given on the semaphores. -/
theorem fam_sem (Φ : SemLoc sig → sProp 𝕄) : bigSep Finset.univ (fun k : Fin 160 => Φ (osem k)) = Fam fun k => Φ (sem k) := by
  rw [← fam]
  exact bigSep_congr fun k _ => congrArg Φ (sem_uses k).symm

omit [FloatOps F] in
theorem bigSep_option (Φ : Option (Fin 160) → sProp 𝕄) : bigSep Finset.univ Φ = iprop(Φ none ∗ bigSep Finset.univ (fun k => Φ (some k))) := by
  rw [BI.bigSep_erase (Finset.mem_univ (none : Option (Fin 160)))]
  have e : (Finset.univ : Finset (Option (Fin 160))).erase none = (Finset.univ : Finset (Fin 160)).map ⟨some, Option.some_injective _⟩ := by
    ext x; cases x <;> simp
  rw [e, bigSep_map]
  rfl

/-! ## The cells closed at the end -/

/-- The round at which device `c`'s semaphore of use `k` is left. -/
def endR (c : Dev nD) : Kd → ℕ
  | .amS j | .amR j | .agS j _ | .agR j _ => if j = c then 0 else 1
  | .dq _ => 8
  | _ => 1

theorem dut_end (c : Dev nD) (k : Kd) (r : ℕ) (h : endR c k ≤ r) : dut c k r = ∅ := by
  cases k <;> unfold endR at h <;> unfold dut <;> dsimp only at h ⊢
  all_goals try exact if_neg (by omega)
  all_goals
    refine if_neg fun ⟨h0, hj⟩ => ?_
    rw [if_neg hj] at h
    omega

theorem close_cell (K : GSem nD τ sig → ℕ) (c : Dev nD) (sm : SemLoc sig) (hs : kd sm ≠ .other) (R : ℕ) (hR : R = endR c (kd sm)) :
    iprop(recs m K ∗ atPos ER ((c : Thread nD τ), sm) R ∅ 0) ⊢ |={Set.univ}=> semVal ((c : Thread nD τ), sm) 0 := by
  subst hR
  refine (sepL (recs_at m K c sm hs)).trans ?_
  iintro ⟨⟨H, -⟩, HA⟩
  iapply (Rounds.cell_close ER (Rd m) (Set.mem_univ (K ((c : Thread nD τ), sm))) (fun h => h) (R := endR c (kd sm))
    (fun r hr => by rw [Rd_duties]; exact dut_end c _ r hr)) $$ [H HA]
  isplitl [H]; · iexact H
  iexact HA

/-- The kernel's semaphores at zero once they are left. -/
theorem close_own (K : GSem nD τ sig → ℕ) (c : Dev nD) :
    iprop(recs m K ∗ Fam (fun k => (atPos ER (cl c k) (endR c k) ∅ 0 : sProp 𝕄))) ⊢ |={Set.univ}=> Pipeline.ownSems0 osem c := by
  rw [← fam]
  unfold Pipeline.ownSems0
  refine (BI.bigSep_with_persistent (Ψ := fun k : Fin 160 => iprop(|={Set.univ}=> semVal ((c : Thread nD τ), osem k) 0)) fun k _ => ?_).trans (bigSep_fupd _ _)
  have e : cl c (uses k) = ((c : Thread nD τ), osem k) := congrArg (Prod.mk (c : Thread nD τ)) (sem_uses k)
  rw [e]
  exact close_cell m K c (osem k) (kd_osem_ne k) _ rfl

theorem unscopedSems0_eq (c : Dev nD) : (unscopedSems0 c : sProp 𝕄) = semVal (cl c .bar) 0 := by
  unfold unscopedSems0; rw [bigSep_eq_bigSepL_of_eq [SemLoc.reg barS] (by decide +kernel) (by decide)]; rfl

theorem close_bar (K : GSem nD τ sig → ℕ) (c : Dev nD) :
    iprop(recs m K ∗ atPos ER (cl c .bar) 1 ∅ 0) ⊢ |={Set.univ}=> unscopedSems0 c := by
  rw [unscopedSems0_eq]
  exact close_cell m K c (sem .bar) (fun h => by cases h) 1 rfl

/-! ## The duty tokens dealt to their payers -/

/-- The tokens as made: of every cell, eight rounds and both duties. -/
def ringToks : Finset (GSem nD τ sig × ℕ × Bool) :=
  Finset.univ.map ⟨fun x : (Dev nD × Option (Fin 160)) × (Fin 8 × Bool) => (kcell x.1, x.2.1.val, x.2.2), fun a b h => by
    have h1 := kcell_injective (congrArg Prod.fst h)
    have h2 : a.2.1 = b.2.1 := Fin.ext (congrArg (fun y : GSem nD τ sig × ℕ × Bool => y.2.1) h)
    have h3 : a.2.2 = b.2.2 := congrArg (fun y : GSem nD τ sig × ℕ × Bool => y.2.2) h
    exact Prod.ext h1 (Prod.ext h2 h3)⟩

/-- The tokens of one cell. -/
def Tk (g : GSem nD τ sig) : sProp 𝕄 := bigSep Finset.univ fun x : Fin 8 × Bool => dutyTok ER g x.1.val x.2

theorem Tk_one (g : GSem nD τ sig) : Tk g ⊢ (dutyTok ER g 0 false : sProp 𝕄) := by
  unfold Tk
  exact bigSep_elim (Finset.mem_univ ((0 : Fin 8), false))
theorem Tk_two (g : GSem nD τ sig) : Tk g ⊢ (iprop(dutyTok ER g 0 true ∗ dutyTok ER g 0 false) : sProp 𝕄) := by
  unfold Tk
  rw [BI.bigSep_erase (Finset.mem_univ ((0 : Fin 8), true))]
  refine sepR ?_
  exact bigSep_elim (Finset.mem_erase.mpr ⟨by decide, Finset.mem_univ ((0 : Fin 8), false)⟩)
theorem Tk_all (g : GSem nD τ sig) : Tk g ⊢ (bigSep (Finset.range 8) (fun r => dutyTok ER g r false) : sProp 𝕄) := by
  unfold Tk
  rw [BI.bigSep_univ_prod]
  refine BIBase.Entails.trans (bigSep_imp (Ψ := fun r : Fin 8 => dutyTok ER g r.val false) fun r _ => bigSep_elim (Finset.mem_univ false)) ?_
  rw [bigSep_fin (n := 8) (fun r => (dutyTok ER g r.val false : sProp 𝕄))]
  refine bigSep_imp fun t ht => Entails.of_eq ?_
  exact congrArg (fun r => (dutyTok ER g r false : sProp 𝕄)) (Nat.mod_eq_of_lt (Finset.mem_range.mp ht))

/-- The tokens of device `c`'s own cells that are used. -/
def ownT (c : Dev nD) : sProp 𝕄 :=
  iprop(dutyTok ER (cl c .bar) 0 true ∗ dutyTok ER (cl c .bar) 0 false
    ∗ bigSep (Finset.range 15) (fun t => dutyTok ER (cl c (.sR (Fin.ofNat 15 t))) 0 false) ∗ bigSep (Finset.range 15) (fun t => dutyTok ER (cl c (.rR (Fin.ofNat 15 t))) 0 false)
    ∗ bigSep (Finset.range 15) (fun t => dutyTok ER (cl c (.sL (Fin.ofNat 15 t))) 0 false) ∗ bigSep (Finset.range 15) (fun t => dutyTok ER (cl c (.rL (Fin.ofNat 15 t))) 0 false)
    ∗ bigSep (Finset.range 16) (fun t => iprop(dutyTok ER (cl c (.agS (Fin.ofNat 16 t) 0)) 0 false ∗ dutyTok ER (cl c (.agS (Fin.ofNat 16 t) 1)) 0 false))
    ∗ bigSep (Finset.range 16) (fun t => iprop(dutyTok ER (cl c (.agR (Fin.ofNat 16 t) 0)) 0 false ∗ dutyTok ER (cl c (.agR (Fin.ofNat 16 t) 1)) 0 false))
    ∗ bigSep (Finset.range 16) (fun t => dutyTok ER (cl c (.amS (Fin.ofNat 16 t))) 0 false) ∗ bigSep (Finset.range 16) (fun t => dutyTok ER (cl c (.amR (Fin.ofNat 16 t))) 0 false)
    ∗ bigSep (Finset.range 4) (fun t => bigSep (Finset.range 8) (fun r => dutyTok ER (cl c (.dq (Fin.ofNat 4 t))) r false)))

/-- The tokens of the duties device `c` pays. -/
def payT (c : Dev nD) : sProp 𝕄 :=
  iprop(dutyTok ER (cl (prv c) .bar) 0 true ∗ dutyTok ER (cl (nxt c) .bar) 0 false
    ∗ bigSep (Finset.range 15) (fun t => dutyTok ER (cl c (.sR (Fin.ofNat 15 t))) 0 false) ∗ bigSep (Finset.range 15) (fun t => dutyTok ER (cl (nxt c) (.rR (Fin.ofNat 15 t))) 0 false)
    ∗ bigSep (Finset.range 15) (fun t => dutyTok ER (cl c (.sL (Fin.ofNat 15 t))) 0 false) ∗ bigSep (Finset.range 15) (fun t => dutyTok ER (cl (prv c) (.rL (Fin.ofNat 15 t))) 0 false)
    ∗ bigSep (Finset.range 16) (fun t => iprop(dutyTok ER (cl c (.agS (Fin.ofNat 16 t) 0)) 0 false ∗ dutyTok ER (cl c (.agS (Fin.ofNat 16 t) 1)) 0 false))
    ∗ bigSep (Finset.range 16) (fun t => iprop(dutyTok ER (cl (Fin.ofNat 16 t : Dev nD) (.agR c 0)) 0 false ∗ dutyTok ER (cl (Fin.ofNat 16 t : Dev nD) (.agR c 1)) 0 false))
    ∗ bigSep (Finset.range 16) (fun t => dutyTok ER (cl c (.amS (Fin.ofNat 16 t))) 0 false) ∗ bigSep (Finset.range 16) (fun t => dutyTok ER (cl (Fin.ofNat 16 t : Dev nD) (.amR c)) 0 false)
    ∗ bigSep (Finset.range 4) (fun t => bigSep (Finset.range 8) (fun r => dutyTok ER (cl c (.dq (Fin.ofNat 4 t))) r false)))

theorem toks_own (c : Dev nD) : bigSep Finset.univ (fun o : Option (Fin 160) => (Tk (kcell (c, o)) : sProp 𝕄)) ⊢ ownT (F := F) c := by
  rw [bigSep_option]
  unfold ownT
  have e : bigSep Finset.univ (fun k : Fin 160 => (Tk (kcell (c, some k)) : sProp 𝕄)) = Fam fun k => Tk (cl c k) :=
    fam_sem (fun sm => Tk ((c : Thread nD τ), sm))
  rw [e]
  unfold Fam
  iintro ⟨HB, H1, H2, H3, H4, H5, H6, H7, H8, H9⟩
  ihave HB := (Tk_two (F := F) (kcell (c, none))) $$ HB
  icases HB with ⟨B1, B2⟩
  isplitl [B1]; · iexact B1
  isplitl [B2]; · iexact B2
  isplitl [H1]; · iapply (bigSep_imp fun t _ => Tk_one _) $$ H1
  isplitl [H2]; · iapply (bigSep_imp fun t _ => Tk_one _) $$ H2
  isplitl [H3]; · iapply (bigSep_imp fun t _ => Tk_one _) $$ H3
  isplitl [H4]; · iapply (bigSep_imp fun t _ => Tk_one _) $$ H4
  isplitl [H5]; · iapply (bigSep_imp fun t _ => BI.sep_mono (Tk_one _) (Tk_one _)) $$ H5
  isplitl [H6]; · iapply (bigSep_imp fun t _ => BI.sep_mono (Tk_one _) (Tk_one _)) $$ H6
  isplitl [H7]; · iapply (bigSep_imp fun t _ => Tk_one _) $$ H7
  isplitl [H8]; · iapply (bigSep_imp fun t _ => Tk_one _) $$ H8
  iapply (bigSep_imp fun t _ => Tk_all _) $$ H9

/-- One place round the ring. -/
def ring : Dev nD ≃ Dev nD := ⟨nxt, prv, fun c => (by revert c; decide), fun c => (by revert c; decide)⟩

theorem around_n (Φ : Dev nD → sProp 𝕄) : bigSep Finset.univ Φ ⊢ bigSep Finset.univ (fun c => Φ (nxt c)) :=
  Entails.of_eq (BI.bigSep_univ_equiv ring Φ)
theorem around_p (Φ : Dev nD → sProp 𝕄) : bigSep Finset.univ Φ ⊢ bigSep Finset.univ (fun c => Φ (prv c)) :=
  Entails.of_eq (BI.bigSep_univ_equiv ring.symm Φ)
theorem transp (Φ : Dev nD → Dev nD → sProp 𝕄) :
    bigSep Finset.univ (fun c => bigSep (Finset.range 16) (fun t => Φ c (Fin.ofNat 16 t))) ⊢ bigSep Finset.univ (fun c => bigSep (Finset.range 16) (fun t => Φ (Fin.ofNat 16 t) c)) := by
  refine Entails.of_eq ?_
  have e1 : ∀ c : Dev nD, bigSep (Finset.range 16) (fun t => Φ c (Fin.ofNat 16 t)) = bigSep Finset.univ (Φ c) := fun c => (bigSep_fin (n := 16) (Φ c)).symm
  have e2 : ∀ c : Dev nD, bigSep (Finset.range 16) (fun t => Φ (Fin.ofNat 16 t) c) = bigSep Finset.univ (fun d => Φ d c) := fun c => (bigSep_fin (n := 16) (fun d => Φ d c)).symm
  rw [bigSep_congr fun c _ => e1 c, bigSep_congr fun c _ => e2 c]
  have h1 := BI.bigSep_univ_prod (fun x : Dev nD × Dev nD => Φ x.1 x.2)
  have h2 := BI.bigSep_univ_prod (fun x : Dev nD × Dev nD => Φ x.2 x.1)
  exact h1.symm.trans ((BI.bigSep_univ_equiv (Equiv.prodComm (Dev nD) (Dev nD)) (fun x : Dev nD × Dev nD => Φ x.1 x.2)).trans h2)

/-- Every device has the tokens of the duties it pays. -/
theorem toks_around : bigSep Finset.univ (fun c : Dev nD => ownT (F := F) c) ⊢ bigSep Finset.univ (fun c : Dev nD => payT (F := F) c) := by
  unfold ownT payT
  simp only [bigSep_sep']
  iintro ⟨H1, H2, H3, H4, H5, H6, H7, ⟨H8, H8'⟩, H9, H10, H11⟩
  isplitl [H1]; · iapply (around_p fun c => dutyTok ER (cl c .bar) 0 true) $$ H1
  isplitl [H2]; · iapply (around_n fun c => dutyTok ER (cl c .bar) 0 false) $$ H2
  isplitl [H3]; · iexact H3
  isplitl [H4]; · iapply (around_n fun c => bigSep (Finset.range 15) (fun t => dutyTok ER (cl c (.rR (Fin.ofNat 15 t))) 0 false)) $$ H4
  isplitl [H5]; · iexact H5
  isplitl [H6]; · iapply (around_p fun c => bigSep (Finset.range 15) (fun t => dutyTok ER (cl c (.rL (Fin.ofNat 15 t))) 0 false)) $$ H6
  isplitl [H7]; · iexact H7
  isplitl [H8 H8']
  · isplitl [H8]
    · iapply (transp fun c d => dutyTok ER (cl c (.agR d 0)) 0 false) $$ H8
    iapply (transp fun c d => dutyTok ER (cl c (.agR d 1)) 0 false) $$ H8'
  isplitl [H9]; · iexact H9
  isplitl [H10]; · iapply (transp fun c d => dutyTok ER (cl c (.amR d)) 0 false) $$ H10
  iexact H11

/-! ## The protocol funded -/

/-- What the launch deals device `c`: its cells' states, positions and tokens. -/
def G (c : Dev nD) : sProp 𝕄 :=
  iprop((bigSep Finset.univ fun o : Option (Fin 160) => roundState ER (Rd m) (kcell (c, o)) 0)
    ∗ (bigSep Finset.univ fun o : Option (Fin 160) => reached ER (kcell (c, o)) 0)
    ∗ (bigSep Finset.univ fun o : Option (Fin 160) => atPos ER (kcell (c, o)) 0 ∅ 0)
    ∗ (bigSep Finset.univ fun o : Option (Fin 160) => Tk (kcell (c, o))))

/-- Device `c`'s positions at the start. -/
def At0 (c : Dev nD) : sProp 𝕄 := iprop(atPos ER (cl c .bar) 0 ∅ 0 ∗ Fam (fun k => atPos ER (cl c k) 0 ∅ 0))

/-- The records, device `c`'s positions, and the tokens it pays with. -/
def G' (c : Dev nD) : sProp 𝕄 := iprop(∃ K, recs m K ∗ At0 (F := F) c ∗ payT (F := F) c)

theorem ringCells_split (Φ : GSem nD τ sig → sProp 𝕄) :
    bigSep ringCells Φ = bigSep Finset.univ fun c : Dev nD => bigSep Finset.univ fun o : Option (Fin 160) => Φ (kcell (c, o)) := by
  unfold ringCells; rw [bigSep_map, BI.bigSep_univ_prod]; rfl

theorem fund_ring : BI.own (ER (initOf ringCells ringToks)) ⊢ (|==> bigSep Finset.univ (G m) : sProp 𝕄) := by
  have hT : bigSep ringToks (fun x => (dutyTok ER x.1 x.2.1 x.2.2 : sProp 𝕄))
      = bigSep Finset.univ fun c : Dev nD => bigSep Finset.univ fun o : Option (Fin 160) => Tk (kcell (c, o)) := by
    unfold ringToks Tk; rw [bigSep_map, BI.bigSep_univ_prod, BI.bigSep_univ_prod]; rfl
  iintro HX
  imod (Rounds.fund ER (Rd m) ringCells ringToks) $$ HX with ⟨Hst, Hr, Hat, Htok⟩
  imodintro
  ihave Hst := (Entails.of_eq (ringCells_split (F := F) fun g => roundState ER (Rd m) g 0)) $$ Hst
  ihave Hr := (Entails.of_eq (ringCells_split (F := F) fun g => reached ER g 0)) $$ Hr
  ihave Hat := (Entails.of_eq (ringCells_split (F := F) fun g => atPos ER g 0 ∅ 0)) $$ Hat
  ihave Htok := (Entails.of_eq hT) $$ Htok
  unfold G; simp only [bigSep_sep']
  isplitl [Hst]; · iexact Hst
  isplitl [Hr]; · iexact Hr
  isplitl [Hat]; · iexact Hat
  iexact Htok

theorem at0_eq (c : Dev nD) : (bigSep Finset.univ fun o : Option (Fin 160) => (atPos ER (kcell (c, o)) 0 ∅ 0 : sProp 𝕄)) = At0 c := by
  rw [bigSep_option]
  unfold At0
  have e : bigSep Finset.univ (fun k : Fin 160 => (atPos ER (kcell (c, some k)) 0 ∅ 0 : sProp 𝕄)) = Fam fun k => atPos ER (cl c k) 0 ∅ 0 :=
    fam_sem (fun sm => atPos ER ((c : Thread nD τ), sm) 0 ∅ 0)
  rw [e]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (Fin 160) => iprop(∃ κ : ℕ, cellInv ER (Rd m) κ (kcell (c, o))))
          ∗ (bigSep Finset.univ fun o : Option (Fin 160) => reached ER (kcell (c, o)) 0) ∗ At0 (F := F) c ∗ ownT (F := F) c) := by
  unfold G
  rw [unscopedSems0_eq, at0_eq]
  iintro ⟨Hos, Hus, Hst, Hr, Hat, Htok⟩
  ihave Hv := (show iprop(Pipeline.ownSems0 (Ix := Unit) (Name := ℕ) (U := UU) (Lvl := ℕ) (Val := Elt F) (τ := τ) osem c ∗ semVal (cl c .bar) 0)
      ⊢ (bigSep Finset.univ fun o : Option (Fin 160) => semVal (kcell (c, o)) 0 : sProp 𝕄) from by
    rw [bigSep_option]
    unfold Pipeline.ownSems0
    iintro ⟨H1, H2⟩
    isplitl [H2]; · iexact H2
    iexact H1) $$ [Hos Hus]
  · isplitl [Hos]; · iexact Hos
    iexact Hus
  ihave Htok := (toks_own (F := F) c) $$ Htok
  imod (show iprop((bigSep Finset.univ fun o : Option (Fin 160) => semVal (kcell (c, o)) 0) ∗ bigSep Finset.univ fun o : Option (Fin 160) => roundState ER (Rd m) (kcell (c, o)) 0)
      ⊢ (|={Set.univ}=> bigSep Finset.univ fun o : Option (Fin 160) => iprop(∃ κ : ℕ, cellInv ER (Rd m) κ (kcell (c, o))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

/-- The records made from every device's. -/
theorem regroup :
    (bigSep Finset.univ fun c : Dev nD => iprop((bigSep Finset.univ fun o : Option (Fin 160) => iprop(∃ κ : ℕ, cellInv ER (Rd m) κ (kcell (c, o))))
          ∗ (bigSep Finset.univ fun o : Option (Fin 160) => reached ER (kcell (c, o)) 0) ∗ At0 (F := F) c ∗ ownT (F := F) c) : sProp 𝕄)
      ⊢ bigSep Finset.univ (G' m) := by
  rw [bigSep_sep', bigSep_sep', bigSep_sep', ← ringCells_split (F := F) (fun g => iprop(∃ κ : ℕ, cellInv ER (Rd m) κ g)),
    ← ringCells_split (F := F) (fun g => reached ER g 0)]
  iintro ⟨HI, #HR, Hat, Htok⟩
  ihave HK := (BI.bigSep_exists_pi ringCells (fun (g : GSem nD τ sig) (κ : ℕ) => (cellInv ER (Rd m) κ g : sProp 𝕄))) $$ HI
  icases HK with ⟨%K, #HI⟩
  ihave Htk := (toks_around (F := F)) $$ Htok
  iapply (BI.bigSep_with_persistent (R := recs m K) (Φ := fun c : Dev nD => iprop(At0 (F := F) c ∗ payT (F := F) c)) fun c _ => by
    unfold G'
    iintro ⟨H1, H2⟩
    iexists K
    isplitl [H1]; · iexact H1
    iexact H2)
  isplitr
  · unfold recs
    iapply (bigSep_zip ringCells (fun g => (cellInv ER (Rd m) (K g) g : sProp 𝕄)) (fun g => reached ER g 0))
    isplitl; · iexact HI
    iexact HR
  · iapply (bigSep_zip Finset.univ (fun c : Dev nD => At0 (F := F) c) (fun c => payT (F := F) c))
    isplitl [Hat]; · iexact Hat
    iexact Htk

/-- All the semaphores of all the devices, made into the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Run

end
-- ==== Proof.Credit.lean ====
module

public import proofs.«01_k».proof.Proof.Uses

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## Who pays what -/

/-- Where device `d`'s payment number `i` goes: the device, the use, the duty. -/
def tgt (d : Dev nD) (i : ℕ) : Option (Dev nD × Kd × Bool) :=
  if i = 0 then some (prv d, .bar, true)
  else if i = 1 then some (nxt d, .bar, false)
  else if i < 32 then
    if i % 2 = 0 then some (nxt d, .rR (Fin.ofNat 15 ((i - 2) / 2)), false)
    else some (prv d, .rL (Fin.ofNat 15 ((i - 2) / 2)), false)
  else if i < 48 then
    if (Fin.ofNat 16 (i - 32) : Dev nD) = d then none else some ((Fin.ofNat 16 (i - 32) : Dev nD), .amR d, false)
  else
    if (Fin.ofNat 16 ((i - 48) / 2) : Dev nD) = d then none
    else some ((Fin.ofNat 16 ((i - 48) / 2) : Dev nD), .agR d (Fin.ofNat 2 i), false)

theorem pays_tgt (d : Dev nD) (i : ℕ) :
    pays d i = match tgt d i with | none => 0 | some x => tallyAt (cl x.1 x.2.1) () (amt x.2.1) := by
  unfold pays tgt
  split_ifs <;> rfl

theorem tgt_ne (d : Dev nD) (i : ℕ) (x : Dev nD × Kd × Bool) (h : tgt d i = some x) : x.2.1 ≠ .other := by
  unfold tgt at h
  split_ifs at h <;> first | (obtain rfl := Option.some.inj h; exact fun h => by cases h) | cases h

/-- Who makes a payment, and as which of its payments. -/
def inv (x : Dev nD × Kd × Bool) : Dev nD × ℕ :=
  match x.2.1 with
  | .bar => if x.2.2 then (nxt x.1, 0) else (prv x.1, 1)
  | .rR s => (prv x.1, 2 + 2 * s.val)
  | .rL s => (nxt x.1, 3 + 2 * s.val)
  | .amR j => (j, 32 + x.1.val)
  | .agR j h => (j, 48 + 2 * x.1.val + h.val)
  | _ => (x.1, 0)

theorem inv_lt (x : Dev nD × Kd × Bool) : (inv x).2 < 80 := by
  obtain ⟨c, k, b⟩ := x
  have hc : c.val < 16 := c.isLt
  cases k <;> unfold inv <;> dsimp only
  all_goals first | omega | (cases b <;> simp)

theorem inv_tgt' : ∀ d : Dev nD, ∀ i : Fin 80, (tgt d i.val).all (fun x => decide (inv x = (d, i.val))) = true := by
  decide +kernel
theorem inv_tgt (d : Dev nD) (i : ℕ) (hi : i < 80) (x : Dev nD × Kd × Bool) (h : tgt d i = some x) : inv x = (d, i) := by
  have := inv_tgt' d ⟨i, hi⟩
  rw [h] at this
  exact of_decide_eq_true this

theorem cl_inj {e c : Dev nD} {k' k : Kd} (h' : k' ≠ .other) (h : k ≠ .other) (he : cl e k' = cl c k) : e = c ∧ k' = k := by
  refine ⟨congrArg (fun g : GSem nD τ sig => g.1.1) he, ?_⟩
  have h1 : kd (sem k') = kd (sem k) := congrArg (fun g : GSem nD τ sig => kd g.2) he
  rwa [kd_sem k' h', kd_sem k h] at h1

/-- The part of a payment that is a given duty. -/
theorem pays_at (d : Dev nD) (i : ℕ) (c : Dev nD) (k : Kd) (hk : k ≠ .other) :
    pays d i (cl c k) () = (if tgt d i = some (c, k, true) then amt k else 0) + (if tgt d i = some (c, k, false) then amt k else 0) := by
  rw [pays_tgt]
  cases h : tgt d i with
  | none => rw [if_neg (fun h => by cases h), if_neg (fun h => by cases h)]; rfl
  | some x =>
    obtain ⟨e, k', b⟩ := x
    have h' : k' ≠ .other := tgt_ne d i _ h
    show tallyAt (cl e k') () (amt k') (cl c k) () = _
    rw [tallyAt_apply]
    by_cases he : e = c ∧ k' = k
    · obtain ⟨rfl, rfl⟩ := he
      rw [if_pos ⟨rfl, rfl⟩]
      cases b
      · rw [if_neg (fun h => by cases h), if_pos rfl, Nat.zero_add]
      · rw [if_pos rfl, if_neg (fun h => by cases h), Nat.add_zero]
    · rw [if_neg (fun hh => he (cl_inj h' hk hh.1.symm)), if_neg (fun hh => he ⟨congrArg Prod.fst (Option.some.inj hh), congrArg (fun y => y.2.1) (Option.some.inj hh)⟩),
        if_neg (fun hh => he ⟨congrArg Prod.fst (Option.some.inj hh), congrArg (fun y => y.2.1) (Option.some.inj hh)⟩)]

theorem sum_tgt (x : Dev nD × Kd × Bool) (a : ℕ) :
    (∑ d : Dev nD, ∑ i ∈ Finset.Ico 0 80, if tgt d i = some x then a else 0) = if tgt (inv x).1 (inv x).2 = some x then a else 0 := by
  rw [Finset.sum_eq_single (inv x).1, Finset.sum_eq_single (inv x).2]
  · intro i hi hne
    refine if_neg fun h => hne ?_
    rw [inv_tgt _ i (Finset.mem_Ico.mp hi).2 x h]
  · exact fun h => absurd (Finset.mem_Ico.mpr ⟨Nat.zero_le _, inv_lt x⟩) h
  · intro d _ hne
    refine Finset.sum_eq_zero fun i hi => if_neg fun h => hne ?_
    rw [inv_tgt d i (Finset.mem_Ico.mp hi).2 x h]
  · exact fun h => absurd (Finset.mem_univ _) h

/-- The units that come to a cell in all. -/
def tot (c : Dev nD) (k : Kd) : ℕ :=
  (if tgt (inv (c, k, true)).1 (inv (c, k, true)).2 = some (c, k, true) then amt k else 0)
    + (if tgt (inv (c, k, false)).1 (inv (c, k, false)).2 = some (c, k, false) then amt k else 0)

/-- What the devices owe at the start. -/
def O₀ (c : Dev nD) : CellTallies nD τ sig Unit := ow c 0

theorem ow_at (d : Dev nD) (g : GSem nD τ sig) : ow d 0 g () = ∑ i ∈ Finset.Ico 0 80, pays d i g () := by
  unfold ow
  rw [Finset.sum_apply, Finsupp.finset_sum_apply]

theorem launch_at (c : Dev nD) (k : Kd) (hk : k ≠ .other) :
    tallyOn (cl c k) (launchCredit (Pipeline.owing O₀) 0 (cl c k)) = (tallyAt (cl c k) () (tot c k) : CellTallies nD τ sig Unit) := by
  unfold tallyAt; refine congrArg _ (Finsupp.ext fun u => ?_); cases u
  rw [Pipeline.launchCredit_owing, Finsupp.single_eq_same]
  unfold O₀ tot
  rw [Finset.sum_congr rfl fun d _ => ow_at d (cl c k), ← sum_tgt, ← sum_tgt, ← Finset.sum_add_distrib]
  refine Finset.sum_congr rfl fun d _ => ?_
  rw [← Finset.sum_add_distrib]
  exact Finset.sum_congr rfl fun i _ => pays_at d i c k hk

theorem tgt_bar : ∀ c : Dev nD, tgt (inv (c, .bar, true)).1 (inv (c, .bar, true)).2 = some (c, .bar, true)
    ∧ tgt (inv (c, .bar, false)).1 (inv (c, .bar, false)).2 = some (c, .bar, false) := by decide +kernel
theorem tgt_rR : ∀ (c : Dev nD) (s : Fin 15), tgt (inv (c, .rR s, true)).1 (inv (c, .rR s, true)).2 ≠ some (c, .rR s, true)
    ∧ tgt (inv (c, .rR s, false)).1 (inv (c, .rR s, false)).2 = some (c, .rR s, false) := by decide +kernel
theorem tgt_rL : ∀ (c : Dev nD) (s : Fin 15), tgt (inv (c, .rL s, true)).1 (inv (c, .rL s, true)).2 ≠ some (c, .rL s, true)
    ∧ tgt (inv (c, .rL s, false)).1 (inv (c, .rL s, false)).2 = some (c, .rL s, false) := by decide +kernel
theorem tgt_amR : ∀ (c j : Dev nD), j ≠ c → tgt (inv (c, .amR j, true)).1 (inv (c, .amR j, true)).2 ≠ some (c, .amR j, true)
    ∧ tgt (inv (c, .amR j, false)).1 (inv (c, .amR j, false)).2 = some (c, .amR j, false) := by decide +kernel
theorem tgt_agR : ∀ (c j : Dev nD) (h : Fin 2), j ≠ c → tgt (inv (c, .agR j h, true)).1 (inv (c, .agR j h, true)).2 ≠ some (c, .agR j h, true)
    ∧ tgt (inv (c, .agR j h, false)).1 (inv (c, .agR j h, false)).2 = some (c, .agR j h, false) := by decide +kernel

theorem tot_one {c : Dev nD} {k : Kd} (h : tgt (inv (c, k, true)).1 (inv (c, k, true)).2 ≠ some (c, k, true)
    ∧ tgt (inv (c, k, false)).1 (inv (c, k, false)).2 = some (c, k, false)) : tot c k = amt k := by
  unfold tot; rw [if_neg h.1, if_pos h.2, Nat.zero_add]
theorem tot_bar (c : Dev nD) : tot c .bar = 2 := by
  unfold tot; rw [if_pos (tgt_bar c).1, if_pos (tgt_bar c).2]; rfl

/-- The credits device `c` starts with. -/
def Cr (c : Dev nD) : sProp 𝕄 :=
  iprop(cred (tallyAt (cl c .bar) () 2)
    ∗ bigSep (Finset.range 15) (fun t => cred (tallyAt (cl c (.rR (Fin.ofNat 15 t))) () NS)) ∗ bigSep (Finset.range 15) (fun t => cred (tallyAt (cl c (.rL (Fin.ofNat 15 t))) () NS))
    ∗ bigSep (Finset.range 16) (fun t => iprop((if (Fin.ofNat 16 t : Dev nD) = c then emp else cred (tallyAt (cl c (.agR (Fin.ofNat 16 t) 0)) () NG))
        ∗ (if (Fin.ofNat 16 t : Dev nD) = c then emp else cred (tallyAt (cl c (.agR (Fin.ofNat 16 t) 1)) () NG))))
    ∗ bigSep (Finset.range 16) (fun t => iprop(if (Fin.ofNat 16 t : Dev nD) = c then emp else cred (tallyAt (cl c (.amR (Fin.ofNat 16 t))) () NA))))

omit [FloatOps F] in
theorem cred_of {c : Dev nD} {k : Kd} {n : ℕ} (h : tot c k = n) : cred (tallyAt (cl c k) () (tot c k)) ⊢ (cred (tallyAt (cl c k) () n) : sProp 𝕄) := by
  subst h; iintro H; iexact H
omit [FloatOps F] in
theorem cred_unless {c j : Dev nD} {k : Kd} {n : ℕ} (h : j ≠ c → tot c k = n) :
    cred (tallyAt (cl c k) () (tot c k)) ⊢ (iprop(if j = c then emp else cred (tallyAt (cl c k) () n)) : sProp 𝕄) := by
  by_cases e : j = c
  · rw [if_pos e]; iintro -; iempintro
  · rw [if_neg e]; exact cred_of (h e)

theorem creds (c : Dev nD) : (Pipeline.launchCred O₀ c : sProp 𝕄) ⊢ Cr c := by
  have h0 : (Pipeline.launchCred O₀ c : sProp 𝕄)
      ⊢ iprop(cred (tallyAt (cl c .bar) () (tot c .bar)) ∗ Fam fun k => cred (tallyAt (cl c k) () (tot c k))) := by
    unfold Pipeline.launchCred
    rw [bigSep_univ_at _ (SemLoc.reg barS)]
    refine BI.sep_mono (Entails.of_eq (congrArg cred (launch_at c .bar (fun h => by cases h)))) ?_
    rw [← fam]
    have hs : (Finset.univ : Finset (Fin 160)).map ⟨osem, osem_injective⟩ ⊆ (Finset.univ : Finset (SemLoc sig)).erase (SemLoc.reg barS) := by
      intro x hx
      obtain ⟨k, -, rfl⟩ := Finset.mem_map.mp hx
      refine Finset.mem_erase.mpr ⟨fun h => ?_, Finset.mem_univ _⟩
      cases h
    refine (BI.bigSep_subset hs).trans ?_
    rw [bigSep_map]
    refine bigSep_imp fun k _ => Entails.of_eq ?_
    have e : ((c : Thread nD τ), osem k) = cl c (uses k) := congrArg (Prod.mk (c : Thread nD τ)) (sem_uses k).symm
    show cred (tallyOn ((c : Thread nD τ), osem k) (launchCredit (Pipeline.owing O₀) 0 ((c : Thread nD τ), osem k))) = _
    rw [e]
    exact congrArg cred (launch_at c (uses k) (uses_ne k))
  refine h0.trans ?_
  unfold Fam Cr
  iintro ⟨HB, H1, H2, H3, H4, H5, H6, H7, H8, H9⟩
  isplitl [HB]; · iapply (cred_of (tot_bar c)) $$ HB
  isplitl [H2]; · iapply (bigSep_imp fun t _ => cred_of (tot_one (tgt_rR c _))) $$ H2
  isplitl [H4]; · iapply (bigSep_imp fun t _ => cred_of (tot_one (tgt_rL c _))) $$ H4
  isplitl [H6]; · iapply (bigSep_imp fun t _ => BI.sep_mono (cred_unless fun h => tot_one (tgt_agR c _ 0 h)) (cred_unless fun h => tot_one (tgt_agR c _ 1 h))) $$ H6
  iapply (bigSep_imp fun t _ => cred_unless fun h => tot_one (tgt_amR c _ h)) $$ H8

end Cert.KernelIdeal.Run

end
-- ==== Proof.Slots.lean ====
module

public import proofs.«01_k».proof.Proof.Front
public import proofs.«01_k».proof.Proof.Credit
public import Idealize.ShloMosaic.Lib.MemrefSat

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## A buffer and its slices -/

/-- Buffer `b` of device `c` whole, at any contents. -/
abbrev Whole (c : Dev nD) (b : Ref sig .tc) : sProp 𝕄 := iprop(∃ f : Buf (Elt F) ((c : Thread nD τ).loc b), ((c : Thread nD τ).loc b) ↦{fullShare} f)

/-- A buffer through its slices. -/
theorem any_rects (c : Dev nD) {sp : Space} {sh : Shape} {e : EltTy} (M : Memref sig .tc sp sh e) {T : Type} [Fintype T] [DecidableEq T]
    (r : T → Rect sh) (hr : ∀ t a, (r t).stride a = 1) (hd : ∀ t t', t ≠ t' → Disjoint (r t).set (r t').set)
    (hcov : (Finset.univ : Finset T).biUnion (fun t => (r t).set) = Finset.univ) :
    any (F := F) c M = bigSep Finset.univ fun t => any c (M.slice (r t) (hr t)) := by
  have h1 : any (F := F) c M ⊢ bigSep Finset.univ fun t => any c (M.slice (r t) (hr t)) := by
    have h := fun f => (Entails.of_eq (pointsTo_rects (c : Thread nD τ) M fullShare r hr hd hcov f)).trans
      (bigSep_imp (Ψ := fun t => any (F := F) c (M.slice (r t) (hr t))) fun t _ => any_of_has (F := F) c (M.slice (r t) (hr t)) _)
    refine (show any (F := F) c M ⊢ iprop(∃ f, M.view.loc (c : Thread nD τ) ↦[M.view.set]{fullShare} f) from .rfl).trans ?_
    iintro ⟨%f, H⟩
    iapply (h f) $$ H
  have h2 : (bigSep Finset.univ fun t => any c (M.slice (r t) (hr t))) ⊢ any (F := F) c M := by
    have h3 : ∀ {sh' : Shape} (N : Memref sig .tc sp sh' e), any (F := F) c N ⊢ ownsSat (c : Thread nD τ) N fullShare (fun _ => True) := fun N => by
      unfold any ownsSat
      iintro ⟨%f, H⟩
      iexists f
      isplitr; · ipureintro; trivial
      iexact H
    haveI : ∀ e, Nonempty (Elt F e) := inferInstance
    refine (bigSep_imp fun t _ => h3 (M.slice (r t) (hr t))).trans ?_
    refine (ownsSat_of_rects (c : Thread nD τ) M fullShare r hr hd hcov (Ψ := fun _ _ => True)).trans ?_
    unfold ownsSat any
    iintro ⟨%f, -, H⟩
    iexists f
    iexact H
  exact BI.equiv_iff.mp ⟨h1, h2⟩

omit [FloatOps F] in
theorem any_whole (c : Dev nD) (b : Ref sig .tc) : any (F := F) c (Memref.whole b) = Whole c b := by
  unfold any Whole
  simp only [Memref.view_whole, View.set_whole]

/-! ## The slices are disjoint and cover -/

theorem slot_disj {n : ℕ} (i : ∀ s : Fin n, ∀ a, (![s.val, 0, 0] : Fin 3 → Nat) a + S1x256x1024.size a ≤ (⟨3, ![n, 256, 1024]⟩ : Shape).size a) (s s' : Fin n) (h : s ≠ s') :
    Disjoint (Rect.unit (s := ⟨3, ![n, 256, 1024]⟩) ![s.val, 0, 0] S1x256x1024.size (i s)).set (Rect.unit (s := ⟨3, ![n, 256, 1024]⟩) ![s'.val, 0, 0] S1x256x1024.size (i s')).set := by
  rw [Finset.disjoint_left]
  intro x hx hx'
  rw [Rect.mem_set_unit] at hx hx'
  have a0 : s.val ≤ (x 0).val ∧ (x 0).val < s.val + 1 := hx 0
  have a1 : s'.val ≤ (x 0).val ∧ (x 0).val < s'.val + 1 := hx' 0
  exact h (Fin.ext (by omega))
theorem slot_cov {n : ℕ} (i : ∀ s : Fin n, ∀ a, (![s.val, 0, 0] : Fin 3 → Nat) a + S1x256x1024.size a ≤ (⟨3, ![n, 256, 1024]⟩ : Shape).size a) :
    (Finset.univ : Finset (Fin n)).biUnion (fun s => (Rect.unit (s := ⟨3, ![n, 256, 1024]⟩) ![s.val, 0, 0] S1x256x1024.size (i s)).set) = Finset.univ := by
  refine Finset.eq_univ_iff_forall.mpr fun x => Finset.mem_biUnion.mpr ⟨⟨(x 0).val, (x 0).isLt⟩, Finset.mem_univ _, ?_⟩
  rw [Rect.mem_set_unit]
  intro a
  match a with
  | ⟨0, _⟩ => exact ⟨Nat.le_refl _, Nat.lt_succ_self _⟩
  | ⟨1, _⟩ => exact ⟨Nat.zero_le _, by show (x 1).val < 0 + 256; rw [Nat.zero_add]; exact (x 1).isLt⟩
  | ⟨2, _⟩ => exact ⟨Nat.zero_le _, by show (x 2).val < 0 + 1024; rw [Nat.zero_add]; exact (x 2).isLt⟩

theorem rAg_disj (t t' : Fin 16 × Fin 2) (h : t ≠ t') : Disjoint (rAg t.1 t.2).set (rAg t'.1 t'.2).set := by
  rw [Finset.disjoint_left]
  intro x hx hx'
  rw [Rect.mem_set_unit] at hx hx'
  have a0 : t.1.val ≤ (x 0).val ∧ (x 0).val < t.1.val + 1 := hx 0
  have a1 : t'.1.val ≤ (x 0).val ∧ (x 0).val < t'.1.val + 1 := hx' 0
  have b0 : t.2.val ≤ (x 1).val ∧ (x 1).val < t.2.val + 1 := hx 1
  have b1 : t'.2.val ≤ (x 1).val ∧ (x 1).val < t'.2.val + 1 := hx' 1
  exact h (Prod.ext (Fin.ext (by omega)) (Fin.ext (by omega)))
theorem rAg_cov : (Finset.univ : Finset (Fin 16 × Fin 2)).biUnion (fun t => (rAg t.1 t.2).set) = Finset.univ := by
  refine Finset.eq_univ_iff_forall.mpr fun x => Finset.mem_biUnion.mpr ⟨(⟨(x 0).val, (x 0).isLt⟩, ⟨(x 1).val, (x 1).isLt⟩), Finset.mem_univ _, ?_⟩
  rw [Rect.mem_set_unit]
  intro a
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (x 2).val < 0 + 256; rw [Nat.zero_add]; exact (x 2).isLt⟩
  | ⟨3, _⟩ => exact ⟨Nat.zero_le _, by show (x 3).val < 0 + 1024; rw [Nat.zero_add]; exact (x 3).isLt⟩

theorem chunk_inj : ∀ i i' : Fin 32, (chunk i).val = (chunk i').val → i.val % 2 = i'.val % 2 → i = i' := by decide +kernel
theorem chunk_onto : ∀ (a : Fin 16) (h : Fin 2), ∃ i : Fin 32, (chunk i).val = a.val ∧ i.val % 2 = h.val := by decide +kernel

theorem rOut_disj (i i' : Fin 32) (h : i ≠ i') : Disjoint (rOut i).set (rOut i').set := by
  rw [Finset.disjoint_left]
  intro x hx hx'
  rw [Rect.mem_set_unit] at hx hx'
  have a0 : (chunk i).val ≤ (x 0).val ∧ (x 0).val < (chunk i).val + 1 := hx 0
  have a1 : (chunk i').val ≤ (x 0).val ∧ (x 0).val < (chunk i').val + 1 := hx' 0
  have b0 : 1024 * (i.val % 2) ≤ (x 2).val ∧ (x 2).val < 1024 * (i.val % 2) + 1024 := hx 2
  have b1 : 1024 * (i'.val % 2) ≤ (x 2).val ∧ (x 2).val < 1024 * (i'.val % 2) + 1024 := hx' 2
  exact h (chunk_inj i i' (by omega) (by omega))
theorem rOut_cov : (Finset.univ : Finset (Fin 32)).biUnion (fun i => (rOut i).set) = Finset.univ := by
  refine Finset.eq_univ_iff_forall.mpr fun x => ?_
  have hx : (x 2).val < 2048 := (x 2).isLt
  obtain ⟨i, h0, h2⟩ := chunk_onto ⟨(x 0).val, (x 0).isLt⟩ ⟨(x 2).val / 1024, by omega⟩
  refine Finset.mem_biUnion.mpr ⟨i, Finset.mem_univ _, ?_⟩
  rw [Rect.mem_set_unit]
  intro a
  match a with
  | ⟨0, _⟩ => exact ⟨by show (chunk i).val ≤ (x 0).val; exact Nat.le_of_eq h0, by show (x 0).val < (chunk i).val + 1; rw [h0]; exact Nat.lt_succ_self _⟩
  | ⟨1, _⟩ => exact ⟨Nat.zero_le _, by show (x 1).val < 0 + 256; rw [Nat.zero_add]; exact (x 1).isLt⟩
  | ⟨2, _⟩ =>
    have h2' : i.val % 2 = (x 2).val / 1024 := h2
    exact ⟨by show 1024 * (i.val % 2) ≤ (x 2).val; omega, by show (x 2).val < 1024 * (i.val % 2) + 1024; omega⟩

/-! ## The buffers of this kernel -/

theorem lr_slots (c : Dev nD) : Whole (F := F) c cc0_scratch0 = bigSep Finset.univ fun t : Fin 15 => any (F := F) c (sl lrM t) :=
  (any_whole c cc0_scratch0).symm.trans (any_rects c lrM rS (fun _ _ => rfl) (slot_disj inbS) (slot_cov inbS))
theorem ll_slots (c : Dev nD) : Whole (F := F) c cc0_scratch1 = bigSep Finset.univ fun t : Fin 15 => any (F := F) c (sl llM t) :=
  (any_whole c cc0_scratch1).symm.trans (any_rects c llM rS (fun _ _ => rfl) (slot_disj inbS) (slot_cov inbS))
theorem sr_slots (c : Dev nD) : Whole (F := F) c cc0_scratch2 = bigSep Finset.univ fun t : Fin 15 => any (F := F) c (sl srM t) :=
  (any_whole c cc0_scratch2).symm.trans (any_rects c srM rS (fun _ _ => rfl) (slot_disj inbS) (slot_cov inbS))
theorem sL_slots (c : Dev nD) : Whole (F := F) c cc0_scratch3 = bigSep Finset.univ fun t : Fin 15 => any (F := F) c (sl slM t) :=
  (any_whole c cc0_scratch3).symm.trans (any_rects c slM rS (fun _ _ => rfl) (slot_disj inbS) (slot_cov inbS))

omit [FloatOps F] in
theorem two (Φ : Fin 2 → sProp 𝕄) : bigSep Finset.univ Φ = iprop(Φ 0 ∗ Φ 1) := by
  rw [bigSep_fin (n := 2) Φ, bigSep_tail, bigSep_tail, Finset.range_zero, bigSep_empty, left_comm]
  exact congrArg (fun P => iprop(Φ 0 ∗ P)) (sep_emp_r (Φ 1))
theorem own_slots (c : Dev nD) : Whole (F := F) c cc0_scratch4 = iprop(any (F := F) c (ownM.slice rO0 (fun _ => rfl)) ∗ any (F := F) c (ownM.slice rO1 (fun _ => rfl))) :=
  ((any_whole c cc0_scratch4).symm.trans (any_rects c ownM rQ (fun _ _ => rfl) (slot_disj inbQ) (slot_cov inbQ))).trans (two _)
theorem q_slots (c : Dev nD) : Whole (F := F) c cc0_scratch5 = iprop(any (F := F) c (qH 0) ∗ any (F := F) c (qH 1)) :=
  ((any_whole c cc0_scratch5).symm.trans (any_rects c qM rQ (fun _ _ => rfl) (slot_disj inbQ) (slot_cov inbQ))).trans (two _)
theorem ag_slots (c : Dev nD) : Whole (F := F) c cc0_scratch6 = bigSep Finset.univ fun j : Dev nD => iprop(any (F := F) c (agH j 0) ∗ any (F := F) c (agH j 1)) := by
  refine ((any_whole c cc0_scratch6).symm.trans (any_rects c agM (fun t : Fin 16 × Fin 2 => rAg t.1 t.2) (fun _ _ => rfl) rAg_disj rAg_cov)).trans ?_
  rw [BI.bigSep_univ_prod]
  exact bigSep_congr fun j _ => two (fun h => any (F := F) c (agH j h))
theorem dq_slots (c : Dev nD) : Whole (F := F) c cc0_scratch7 = bigSep (Finset.range 4) fun t => any (F := F) c (dqM.slice (rD (Fin.ofNat 4 t)) (fun _ => rfl)) :=
  ((any_whole c cc0_scratch7).symm.trans (any_rects c dqM rD (fun _ _ => rfl) (slot_disj inbD) (slot_cov inbD))).trans (bigSep_fin (n := 4) _)
theorem am_slots (c : Dev nD) : Whole (F := F) c cc0_scratch8 = bigSep Finset.univ fun j : Dev nD => any (F := F) c (amRow j) :=
  (any_whole c cc0_scratch8).symm.trans (any_rects c amM rAm (fun _ _ => rfl) rAm_disj rAm_cov)
theorem out_slots (c : Dev nD) : Whole (F := F) c main_v1 = bigSep (Finset.range 32) fun t => any (F := F) c (oS t) :=
  ((any_whole c main_v1).symm.trans (any_rects c oM rOut (fun _ _ => rfl) rOut_disj rOut_cov)).trans (bigSep_fin (n := 32) _)

/-- The result every device ends with. -/
def outB : Vec F S16x256x2048 .f32 := Rect.glue rOut rOut_cov (fun i => ob m i)

theorem outB_emb (i : Fin 32) (y : S1x256x1024.Idx) : outB m ((rOut i).emb y) = ob m i y := Rect.glue_emb rOut rOut_cov rOut_disj (fun i => ob m i) i y

/-- The blocks written are the result. -/
theorem out_join (c : Dev nD) : bigSep (Finset.range 32) (fun t => has c (oS t) fullShare (ob m (Fin.ofNat 32 t))) ⊢ (((c : Thread nD τ).loc main_v1) ↦{fullShare} outB m : sProp 𝕄) := by
  rw [← bigSep_fin (n := 32) (fun i => has c (oM.slice (rOut i) (fun _ => rfl)) fullShare (ob m i)), ← owns_whole]
  refine BIBase.Entails.trans (bigSep_imp fun i _ => Entails.of_eq ?_) (owns_of_rects (c : Thread nD τ) oM fullShare rOut (fun _ _ => rfl) rOut_disj rOut_cov (outB m))
  have e : ob m i = fun y => outB m ((rOut i).emb y) := funext fun y => (outB_emb m i y).symm
  exact congrArg (has c (oM.slice (rOut i) (fun _ => rfl)) fullShare) e

/-! ## The permits at the start -/

theorem pls_nxt (e : Dev nD) (t : ℕ) : pls (nxt e) t = pls e (1 + t) := Fin.ext (by show ((e.val + 1) % 16 + t) % 16 = (e.val + (1 + t)) % 16; omega)

omit [FloatOps F] in
theorem permits_eq (d e : Dev nD) (n : ℕ) : permits (F := F) d e n = bigSep (Finset.range n) fun t => permit d (pls e t) := by
  induction n generalizing e with
  | zero => rw [Finset.range_zero, bigSep_empty]; rfl
  | succ n ih =>
    show iprop(permit (F := F) d e ∗ permits d (nxt e) n) = _
    rw [Nat.add_comm n 1, bigSep_add 1 n, bigSep_tail, Finset.range_zero, bigSep_empty, pls_zero]
    refine Eq.trans ?_ (congrArg (fun P => iprop(P ∗ bigSep (Finset.range n) (fun t => permit (F := F) d (pls e (1 + t))))) (sep_emp_r (permit (F := F) d e)).symm)
    refine congrArg (fun P => iprop(permit (F := F) d e ∗ P)) ((ih (nxt e)).trans (bigSep_congr fun t _ => ?_))
    rw [pls_nxt]

theorem others_image : ∀ c : Dev nD, (Finset.range 15).image (pls (nxt c)) = Finset.univ.erase c := by decide +kernel
theorem others_inj : ∀ c : Dev nD, ∀ a ∈ Finset.range 15, ∀ b ∈ Finset.range 15, pls (nxt c) a = pls (nxt c) b → a = b := by decide +kernel

omit [FloatOps F] in
/-- The rows and places of the other devices. -/
theorem permits_all (c : Dev nD) : permits (F := F) c (nxt c) 15 = bigSep (Finset.univ.erase c) (fun j => permit c j) := by
  rw [permits_eq, ← others_image c, bigSep_image_of_injOn (fun a ha b hb => others_inj c a ha b hb)]

theorem permits_of (c : Dev nD) :
    iprop(Whole (F := F) c cc0_scratch8 ∗ Whole (F := F) c cc0_scratch6) ⊢ iprop((any (F := F) c (amRow c) ∗ (any (F := F) c (agH c 0) ∗ any (F := F) c (agH c 1))) ∗ permits (F := F) c (nxt c) 15) := by
  rw [am_slots, ag_slots, permits_all]
  refine (bigSep_zip _ _ _).trans ?_
  rw [BI.bigSep_erase (Finset.mem_univ c)]
  exact .rfl

/-! ## The tokens of the last copies, in order -/

omit [FloatOps F] in
theorem rounds_join (n : ℕ) (Φ : ℕ → sProp 𝕄) :
    iprop(bigSep (Finset.range n) (fun r => Φ (4 * r)) ∗ bigSep (Finset.range n) (fun r => Φ (4 * r + 1)) ∗ bigSep (Finset.range n) (fun r => Φ (4 * r + 2)) ∗ bigSep (Finset.range n) (fun r => Φ (4 * r + 3)))
      ⊢ bigSep (Finset.range (4 * n)) Φ := by
  induction n with
  | zero => rw [Nat.mul_zero, Finset.range_zero, bigSep_empty]; iintro -; iempintro
  | succ n ih =>
    rw [bigSep_tail n, bigSep_tail n, bigSep_tail n, bigSep_tail n, show 4 * (n + 1) = 4 * n + 1 + 1 + 1 + 1 from by omega, bigSep_tail, bigSep_tail, bigSep_tail, bigSep_tail]
    iintro ⟨⟨A0, B0⟩, ⟨A1, B1⟩, ⟨A2, B2⟩, A3, B3⟩
    isplitl [A3]; · iexact A3
    isplitl [A2]; · iexact A2
    isplitl [A1]; · iexact A1
    isplitl [A0]; · iexact A0
    iapply ih
    isplitl [B0]; · iexact B0
    isplitl [B1]; · iexact B1
    isplitl [B2]; · iexact B2
    iexact B3

theorem kt_at (r t : ℕ) (h : t < 4) : kt (4 * r + t) = Fin.ofNat 4 t := Fin.ext (by show (4 * r + t) % 4 = t % 4; omega)

omit [FloatOps F] in
theorem four (Φ : ℕ → sProp 𝕄) : bigSep (Finset.range 4) Φ = iprop(Φ 3 ∗ Φ 2 ∗ Φ 1 ∗ Φ 0) := by
  rw [bigSep_tail, bigSep_tail, bigSep_tail, bigSep_tail, Finset.range_zero, bigSep_empty]
  exact congrArg (fun P => iprop(Φ 3 ∗ Φ 2 ∗ Φ 1 ∗ P)) (sep_emp_r (Φ 0))

omit [FloatOps F] in
theorem dq_toks (c : Dev nD) :
    bigSep (Finset.range 4) (fun t => bigSep (Finset.range 8) (fun r => dutyTok ER (cl c (.dq (Fin.ofNat 4 t))) r false))
      ⊢ (bigSep (Finset.Ico 0 32) (fun t => dutyTok ER (cl c (.dq (kt t))) (t / 4) false) : sProp 𝕄) := by
  rw [← bigSep_range_Ico, four]
  refine BIBase.Entails.trans ?_ (rounds_join 8 (fun t => (dutyTok ER (cl c (.dq (kt t))) (t / 4) false : sProp 𝕄)))
  have e (t : ℕ) (h : t < 4) : (bigSep (Finset.range 8) (fun r => dutyTok ER (cl c (.dq (Fin.ofNat 4 t))) r false) : sProp 𝕄)
      = bigSep (Finset.range 8) (fun r => dutyTok ER (cl c (.dq (kt (4 * r + t)))) ((4 * r + t) / 4) false) :=
    bigSep_congr fun r _ => by rw [kt_at r t h, show (4 * r + t) / 4 = r from by omega]
  have e0 := e 0 (by omega)
  have e1 := e 1 (by omega)
  have e2 := e 2 (by omega)
  have e3 := e 3 (by omega)
  rw [e0, e1, e2, e3]
  iintro ⟨H3, H2, H1, H0⟩
  isplitl [H0]; · iexact H0
  isplitl [H1]; · iexact H1
  isplitl [H2]; · iexact H2
  iexact H3

end Cert.KernelIdeal.Run

end
-- ==== Proof.Ends.lean ====
module

public import proofs.«01_k».proof.Proof.Slots

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## The start -/

/-- The scratch buffers, each whole. -/
def Scratch (c : Dev nD) : sProp 𝕄 :=
  iprop(Whole (F := F) c cc0_scratch0 ∗ Whole (F := F) c cc0_scratch1 ∗ Whole (F := F) c cc0_scratch2 ∗ Whole (F := F) c cc0_scratch3 ∗ Whole (F := F) c cc0_scratch4
    ∗ Whole (F := F) c cc0_scratch5 ∗ Whole (F := F) c cc0_scratch6 ∗ Whole (F := F) c cc0_scratch7 ∗ Whole (F := F) c cc0_scratch8)

section
variable {m}
variable {K : GSem nD τ sig → ℕ} {c : Dev nD}

/-- What each hop uses, from its parts. -/
theorem slots_start :
    iprop((Whole (F := F) c cc0_scratch2 ∗ Whole (F := F) c cc0_scratch3)
      ∗ (bigSep (Finset.range 15) (fun t => atPos ER (cl c (.sR (Fin.ofNat 15 t))) 0 ∅ 0) ∗ bigSep (Finset.range 15) (fun t => atPos ER (cl c (.rR (Fin.ofNat 15 t))) 0 ∅ 0)
        ∗ bigSep (Finset.range 15) (fun t => atPos ER (cl c (.sL (Fin.ofNat 15 t))) 0 ∅ 0) ∗ bigSep (Finset.range 15) (fun t => atPos ER (cl c (.rL (Fin.ofNat 15 t))) 0 ∅ 0))
      ∗ (bigSep (Finset.range 15) (fun t => cred (tallyAt (cl c (.rR (Fin.ofNat 15 t))) () NS)) ∗ bigSep (Finset.range 15) (fun t => cred (tallyAt (cl c (.rL (Fin.ofNat 15 t))) () NS)))
      ∗ bigSep (Finset.range 15) (fun t => dutyTok ER (cl c (.sR (Fin.ofNat 15 t))) 0 false) ∗ bigSep (Finset.range 15) (fun t => dutyTok ER (cl (nxt c) (.rR (Fin.ofNat 15 t))) 0 false)
      ∗ bigSep (Finset.range 15) (fun t => dutyTok ER (cl c (.sL (Fin.ofNat 15 t))) 0 false) ∗ bigSep (Finset.range 15) (fun t => dutyTok ER (cl (prv c) (.rL (Fin.ofNat 15 t))) 0 false))
      ⊢ bigSep Finset.univ (fun t : Fin 15 => SlotB (F := F) c t) := by
  rw [sr_slots, sL_slots, bigSep_fin (n := 15) (fun t => any (F := F) c (sl srM t)), bigSep_fin (n := 15) (fun t => any (F := F) c (sl slM t)),
    bigSep_fin (n := 15) (fun t => SlotB (F := F) c t)]
  unfold SlotB
  iintro ⟨⟨A1, A2⟩, ⟨B1, B2, B3, B4⟩, ⟨C1, C2⟩, D1, D2, D3, D4⟩
  iapply (bigSep_zip _ _ _)
  isplitl [A1]; · iexact A1
  iapply (bigSep_zip _ _ _)
  isplitl [A2]; · iexact A2
  iapply (bigSep_zip _ _ _)
  isplitl [B1 B2 B3 B4]
  · iapply (bigSep_zip _ _ _)
    isplitl [B1]; · iexact B1
    iapply (bigSep_zip _ _ _)
    isplitl [B2]; · iexact B2
    iapply (bigSep_zip _ _ _)
    isplitl [B3]; · iexact B3
    iexact B4
  iapply (bigSep_zip _ _ _)
  isplitl [C1 C2]
  · iapply (bigSep_zip _ _ _)
    isplitl [C1]; · iexact C1
    iexact C2
  iapply (bigSep_zip _ _ _)
  isplitl [D1]; · iexact D1
  iapply (bigSep_zip _ _ _)
  isplitl [D2]; · iexact D2
  iapply (bigSep_zip _ _ _)
  isplitl [D3]; · iexact D3
  iexact D4

/-- What the exchange of the maxima uses, from its parts. -/
theorem amb_start :
    iprop(bigSep (Finset.range 16) (fun t => (atPos ER (cl c (.amS (Fin.ofNat 16 t))) 0 ∅ 0 : sProp 𝕄)) ∗ bigSep (Finset.range 16) (fun t => atPos ER (cl c (.amR (Fin.ofNat 16 t))) 0 ∅ 0)
      ∗ bigSep (Finset.range 16) (fun t => dutyTok ER (cl c (.amS (Fin.ofNat 16 t))) 0 false) ∗ bigSep (Finset.range 16) (fun t => dutyTok ER (cl (Fin.ofNat 16 t : Dev nD) (.amR c)) 0 false)
      ∗ bigSep (Finset.range 16) (fun t => iprop(if (Fin.ofNat 16 t : Dev nD) = c then emp else cred (tallyAt (cl c (.amR (Fin.ofNat 16 t))) () NA))))
      ⊢ bigSep (Finset.range 16) (fun t => AmB (F := F) c (Fin.ofNat 16 t)) := by
  unfold AmB
  iintro ⟨A, B, C, D, E⟩
  iapply (bigSep_zip _ _ _)
  isplitl [A B]
  · iapply (bigSep_zip _ _ _)
    isplitl [A]; · iexact A
    iexact B
  iapply (bigSep_zip _ _ _)
  isplitl [C D]
  · iapply (bigSep_zip _ _ _)
    isplitl [C]; · iexact C
    iexact D
  iexact E

/-- What the gather uses, from its parts. -/
theorem agb_start :
    iprop(bigSep (Finset.range 16) (fun t => iprop((atPos ER (cl c (.agS (Fin.ofNat 16 t) 0)) 0 ∅ 0 : sProp 𝕄) ∗ atPos ER (cl c (.agS (Fin.ofNat 16 t) 1)) 0 ∅ 0))
      ∗ bigSep (Finset.range 16) (fun t => iprop(atPos ER (cl c (.agR (Fin.ofNat 16 t) 0)) 0 ∅ 0 ∗ atPos ER (cl c (.agR (Fin.ofNat 16 t) 1)) 0 ∅ 0))
      ∗ bigSep (Finset.range 16) (fun t => iprop(dutyTok ER (cl c (.agS (Fin.ofNat 16 t) 0)) 0 false ∗ dutyTok ER (cl c (.agS (Fin.ofNat 16 t) 1)) 0 false))
      ∗ bigSep (Finset.range 16) (fun t => iprop(dutyTok ER (cl (Fin.ofNat 16 t : Dev nD) (.agR c 0)) 0 false ∗ dutyTok ER (cl (Fin.ofNat 16 t : Dev nD) (.agR c 1)) 0 false))
      ∗ bigSep (Finset.range 16) (fun t => iprop((if (Fin.ofNat 16 t : Dev nD) = c then emp else cred (tallyAt (cl c (.agR (Fin.ofNat 16 t) 0)) () NG))
        ∗ (if (Fin.ofNat 16 t : Dev nD) = c then emp else cred (tallyAt (cl c (.agR (Fin.ofNat 16 t) 1)) () NG)))))
      ⊢ bigSep (Finset.range 16) (fun t => iprop(AgB (F := F) c (Fin.ofNat 16 t) 0 ∗ AgB (F := F) c (Fin.ofNat 16 t) 1)) := by
  have h (t : ℕ) (A A' B B' C C' D D' E E' : sProp 𝕄) :
      iprop((A ∗ A') ∗ (B ∗ B') ∗ (C ∗ C') ∗ (D ∗ D') ∗ (E ∗ E')) ⊢ iprop(((A ∗ B) ∗ (C ∗ D) ∗ E) ∗ ((A' ∗ B') ∗ (C' ∗ D') ∗ E')) := by
    iintro ⟨⟨H1, H2⟩, ⟨H3, H4⟩, ⟨H5, H6⟩, ⟨H7, H8⟩, H9, H10⟩
    isplitl [H1 H3 H5 H7 H9]
    · isplitl [H1 H3]
      · isplitl [H1]; · iexact H1
        iexact H3
      isplitl [H5 H7]
      · isplitl [H5]; · iexact H5
        iexact H7
      iexact H9
    isplitl [H2 H4]
    · isplitl [H2]; · iexact H2
      iexact H4
    isplitl [H6 H8]
    · isplitl [H6]; · iexact H6
      iexact H8
    iexact H10
  unfold AgB
  refine BIBase.Entails.trans ?_ (bigSep_imp fun t _ => h t _ _ _ _ _ _ _ _ _ _)
  iintro ⟨A, B, C, D, E⟩
  iapply (bigSep_zip _ _ _)
  isplitl [A]; · iexact A
  iapply (bigSep_zip _ _ _)
  isplitl [B]; · iexact B
  iapply (bigSep_zip _ _ _)
  isplitl [C]; · iexact C
  iapply (bigSep_zip _ _ _)
  isplitl [D]; · iexact D
  iexact E

omit [FloatOps F] in
theorem kt_lt (t : ℕ) (h : t < 4) : kt t = Fin.ofNat 4 t := rfl

theorem reached_dq (t : ℕ) (h : t < 4) : recs m K ⊢ reached ER (cl c (.dq (kt t))) (t / 4) := by
  rw [show t / 4 = 0 from by omega]
  refine (recs_at m K c (sem (.dq (kt t))) (by rw [kd_dq]; exact fun h => by cases h)).trans ?_
  iintro ⟨-, H⟩
  iexact H

/-- What the last phase starts from, from its parts. -/
theorem dq_start :
    iprop(recs m K ∗ (Whole (F := F) c main_v1 ∗ Whole (F := F) c cc0_scratch7
      ∗ bigSep (Finset.range 4) (fun t => (atPos ER (cl c (.dq (Fin.ofNat 4 t))) 0 ∅ 0 : sProp 𝕄))
      ∗ bigSep (Finset.range 4) (fun t => bigSep (Finset.range 8) (fun r => dutyTok ER (cl c (.dq (Fin.ofNat 4 t))) r false)))) ⊢ DQ m c 0 0 := by
  rw [out_slots, dq_slots]
  unfold DQ
  rw [Finset.range_zero, bigSep_empty, Finset.Ico_self, bigSep_empty, show (0 : ℕ) + 4 = 4 from rfl]
  have e : (bigSep (Finset.range 4) (fun t => (atPos ER (cl c (.dq (Fin.ofNat 4 t))) 0 ∅ 0 : sProp 𝕄)))
      = bigSep (Finset.Ico 0 4) (fun t => atPos ER (cl c (.dq (kt t))) (t / 4) ∅ 0) := by
    rw [← bigSep_range_Ico]
    exact bigSep_congr fun t ht => by rw [show t / 4 = 0 from by have := Finset.mem_range.mp ht; omega]
  rw [e]
  iintro ⟨#HR, HO, HD, HA, HT⟩
  isplitl [HO HT]
  · isplitr; · iempintro
    isplitr; · iempintro
    iapply (bigSep_zip _ _ _)
    isplitl [HO]; · iapply (Entails.of_eq (bigSep_range_Ico 32 (fun t => any (F := F) c (oS t)))) $$ HO
    iapply (dq_toks c) $$ HT
  isplitl [HD]
  · iapply (BI.bigSep_with_persistent (R := recs m K) (Φ := fun t => any (F := F) c (dS t)) fun t ht => ?_)
    rotate_left
    · isplitr; · iexact HR
      iapply (Entails.of_eq (bigSep_range_Ico 4 (fun t => any (F := F) c (dS t)))) $$ HD
    have h4 := (Finset.mem_Ico.mp ht).2
    iintro ⟨#HR, H⟩
    isplitl [H]; · iexact H
    iapply (reached_dq (m := m) (K := K) (c := c) t h4) $$ HR
  iexact HA

/-- Everything a device starts from, from what the launch gives it. -/
theorem pre_intro :
    iprop(recs m K ∗ ((owesE (F := F) c 0 ∗ xw m c) ∗ At0 (F := F) c ∗ payT (F := F) c ∗ Cr (F := F) c ∗ Whole (F := F) c main_v1 ∗ Scratch (F := F) c)) ⊢ Pre m c := by
  unfold At0 payT Cr Scratch Fam Pre St0
  iintro ⟨#HR, ⟨HO, HX⟩, ⟨AB, A1, A2, A3, A4, A5, A6, A7, A8, A9⟩, ⟨T1, T2, T3, T4, T5, T6, T7, T8, T9, T10, T11⟩, ⟨CB, C1, C2, C3, C4⟩, HV, S0, S1, S2, S3, S4, S5, S6, S7, S8⟩
  ihave HP := (permits_of (F := F) c) $$ [S8 S6]
  · isplitl [S8]; · iexact S8
    iexact S6
  icases HP with ⟨⟨Hr, Hg⟩, HP⟩
  isplitl [HO HX AB T1 T2 CB S0 S1 S2 S3 A1 A2 A3 A4 T3 T4 T5 T6 C1 C2 HP]
  · isplitl [HO]; · iexact HO
    isplitl [HX]; · iexact HX
    isplitl [S0]; · iapply (Entails.of_eq (lr_slots (F := F) c)) $$ S0
    isplitl [S1]; · iapply (Entails.of_eq (ll_slots (F := F) c)) $$ S1
    isplitl [T1 T2]
    · isplitl [T1]; · iexact T1
      iexact T2
    isplitl [AB]; · iexact AB
    isplitl [CB]; · iexact CB
    isplitl [S2 S3 A1 A2 A3 A4 T3 T4 T5 T6 C1 C2]
    · iapply (slots_start (F := F) (c := c))
      isplitl [S2 S3]
      · isplitl [S2]; · iexact S2
        iexact S3
      isplitl [A1 A2 A3 A4]
      · isplitl [A1]; · iexact A1
        isplitl [A2]; · iexact A2
        isplitl [A3]; · iexact A3
        iexact A4
      isplitl [C1 C2]
      · isplitl [C1]; · iexact C1
        iexact C2
      isplitl [T3]; · iexact T3
      isplitl [T4]; · iexact T4
      isplitl [T5]; · iexact T5
      iexact T6
    iexact HP
  isplitl [S4]; · iapply (Entails.of_eq (own_slots (F := F) c)) $$ S4
  isplitl [S5]; · iapply (Entails.of_eq (q_slots (F := F) c)) $$ S5
  isplitl [Hr]; · iexact Hr
  isplitl [Hg]; · iexact Hg
  isplitl [A7 A8 T9 T10 C4]
  · iapply (amb_start (F := F) (c := c))
    isplitl [A7]; · iexact A7
    isplitl [A8]; · iexact A8
    isplitl [T9]; · iexact T9
    isplitl [T10]; · iexact T10
    iexact C4
  isplitl [A5 A6 T7 T8 C3]
  · iapply (agb_start (F := F) (c := c))
    isplitl [A5]; · iexact A5
    isplitl [A6]; · iexact A6
    isplitl [T7]; · iexact T7
    isplitl [T8]; · iexact T8
    iexact C3
  iapply (dq_start (m := m) (K := K) (c := c))
  isplitr; · iexact HR
  isplitl [HV]; · iexact HV
  isplitl [S7]; · iexact S7
  isplitl [A9]; · iexact A9
  iexact T11

/-! ## The end -/

theorem ring_end :
    bigSep (Finset.range 15) (fun t => Slot1 (F := F) c (Fin.ofNat 15 t))
      ⊢ iprop((Whole (F := F) c cc0_scratch0 ∗ Whole (F := F) c cc0_scratch1 ∗ Whole (F := F) c cc0_scratch2 ∗ Whole (F := F) c cc0_scratch3)
        ∗ (bigSep (Finset.range 15) (fun t => atPos ER (cl c (.sR (Fin.ofNat 15 t))) 1 ∅ 0) ∗ bigSep (Finset.range 15) (fun t => atPos ER (cl c (.rR (Fin.ofNat 15 t))) 1 ∅ 0)
          ∗ bigSep (Finset.range 15) (fun t => atPos ER (cl c (.sL (Fin.ofNat 15 t))) 1 ∅ 0) ∗ bigSep (Finset.range 15) (fun t => atPos ER (cl c (.rL (Fin.ofNat 15 t))) 1 ∅ 0))) := by
  rw [lr_slots, ll_slots, sr_slots, sL_slots, bigSep_fin (n := 15) (fun t => any (F := F) c (sl srM t)), bigSep_fin (n := 15) (fun t => any (F := F) c (sl slM t)),
    bigSep_fin (n := 15) (fun t => any (F := F) c (sl lrM t)), bigSep_fin (n := 15) (fun t => any (F := F) c (sl llM t))]
  unfold Slot1
  iintro H
  ihave H := (bigSep_unzip _ _ _) $$ H
  icases H with ⟨HB, H⟩
  ihave HB := (bigSep_unzip _ _ _) $$ HB
  icases HB with ⟨B1, HB⟩
  ihave HB := (bigSep_unzip _ _ _) $$ HB
  icases HB with ⟨B2, HB⟩
  ihave HB := (bigSep_unzip _ _ _) $$ HB
  icases HB with ⟨B3, B4⟩
  ihave H := (bigSep_unzip _ _ _) $$ H
  icases H with ⟨A1, H⟩
  ihave H := (bigSep_unzip _ _ _) $$ H
  icases H with ⟨A2, H⟩
  ihave H := (bigSep_unzip _ _ _) $$ H
  icases H with ⟨A3, A4⟩
  isplitl [B1 B2 B3 B4]
  · isplitl [B3]; · iexact B3
    isplitl [B4]; · iexact B4
    isplitl [B1]; · iexact B1
    iexact B2
  isplitl [A1]; · iexact A1
  isplitl [A2]; · iexact A2
  isplitl [A3]; · iexact A3
  iexact A4

theorem sends_end :
    iprop(QK m c ∗ bigSep (Finset.range 16) (fun t => AG2 m c (Fin.ofNat 16 t)))
      ⊢ iprop(Whole (F := F) c cc0_scratch5
        ∗ bigSep (Finset.range 16) (fun t => iprop((atPos ER (cl c (.agS (Fin.ofNat 16 t) 0)) (endR c (.agS (Fin.ofNat 16 t) 0)) ∅ 0 : sProp 𝕄) ∗ atPos ER (cl c (.agS (Fin.ofNat 16 t) 1)) (endR c (.agS (Fin.ofNat 16 t) 1)) ∅ 0))) := by
  rw [q_slots]
  unfold QK AG2 QQ
  iintro ⟨⟨Q0, Q1⟩, H⟩
  ihave H := (bigSep_unzip _ _ _) $$ H
  icases H with ⟨HQ, HA⟩
  ihave HQ := (bigSep_unzip _ _ _) $$ HQ
  icases HQ with ⟨R0, R1⟩
  isplitl [Q0 Q1 R0 R1]
  · isplitl [Q0 R0]
    · iapply (any_of_has c (qH 0) (qv m c 0))
      iapply (has_join c (qH 0) (qv m c 0))
      isplitl [Q0]; · iexact Q0
      iexact R0
    iapply (any_of_has c (qH 1) (qv m c 1))
    iapply (has_join c (qH 1) (qv m c 1))
    isplitl [Q1]; · iexact Q1
    iexact R1
  iexact HA

theorem jt_pair (j : ℕ) (h : j < 16) : jt (2 * j) = Fin.ofNat 16 j ∧ jt (2 * j + 1) = Fin.ofNat 16 j ∧ ht (2 * j) = 0 ∧ ht (2 * j + 1) = 1 := by
  refine ⟨?_, ?_, ?_, ?_⟩
  · show (Fin.ofNat 16 (2 * j / 2) : Dev nD) = _
    rw [show 2 * j / 2 = j from by omega]
  · show (Fin.ofNat 16 ((2 * j + 1) / 2) : Dev nD) = _
    rw [show (2 * j + 1) / 2 = j from by omega]
  · exact Fin.ext (by show 2 * j % 2 = 0; omega)
  · exact Fin.ext (by show (2 * j + 1) % 2 = 1; omega)

theorem arrive_end :
    bigSep (Finset.range 32) (GR1 m c)
      ⊢ iprop(Whole (F := F) c cc0_scratch6
        ∗ bigSep (Finset.range 16) (fun t => iprop((atPos ER (cl c (.agR (Fin.ofNat 16 t) 0)) (endR c (.agR (Fin.ofNat 16 t) 0)) ∅ 0 : sProp 𝕄) ∗ atPos ER (cl c (.agR (Fin.ofNat 16 t) 1)) (endR c (.agR (Fin.ofNat 16 t) 1)) ∅ 0))) := by
  rw [ag_slots, bigSep_fin (n := 16) (fun j : Dev nD => iprop(any (F := F) c (agH j 0) ∗ any (F := F) c (agH j 1))), show 32 = 2 * 16 from rfl, bigSep_pairs 16]
  refine BIBase.Entails.trans (bigSep_imp fun t ht' => ?_) (bigSep_unzip _ _ _)
  obtain ⟨e1, e2, e3, e4⟩ := jt_pair t (Finset.mem_range.mp ht')
  unfold GR1
  rw [e1, e2, e3, e4]
  iintro ⟨⟨A0, ⟨%X0, -, H0⟩⟩, A1, ⟨%X1, -, H1⟩⟩
  isplitl [H0 H1]
  · isplitl [H0]; · iapply (any_of_has c (agH (Fin.ofNat 16 t) 0) X0) $$ H0
    iapply (any_of_has c (agH (Fin.ofNat 16 t) 1) X1) $$ H1
  isplitl [A0]; · iexact A0
  iexact A1

omit [FloatOps F] in
theorem ico_shift (Φ : ℕ → sProp 𝕄) : bigSep (Finset.Ico 32 36) Φ = bigSep (Finset.range 4) (fun t => Φ (32 + t)) := by
  rw [four, bigSep_head (by omega), bigSep_head (by omega), bigSep_head (by omega), bigSep_head (by omega), Finset.Ico_self, bigSep_empty]
  have h1 : iprop(Φ 32 ∗ Φ 33 ∗ Φ 34 ∗ Φ 35 ∗ emp) ⊢ iprop(Φ (32 + 3) ∗ Φ (32 + 2) ∗ Φ (32 + 1) ∗ Φ (32 + 0)) := by
    iintro ⟨A, B, C, D, -⟩
    isplitl [D]; · iexact D
    isplitl [C]; · iexact C
    isplitl [B]; · iexact B
    iexact A
  have h2 : iprop(Φ (32 + 3) ∗ Φ (32 + 2) ∗ Φ (32 + 1) ∗ Φ (32 + 0)) ⊢ iprop(Φ 32 ∗ Φ 33 ∗ Φ 34 ∗ Φ 35 ∗ emp) := by
    iintro ⟨D, C, B, A⟩
    isplitl [A]; · iexact A
    isplitl [B]; · iexact B
    isplitl [C]; · iexact C
    isplitl [D]; · iexact D
    iempintro
  exact BI.equiv_iff.mp ⟨h1, h2⟩

theorem kt_shift (t : ℕ) (h : t < 4) : kt (32 + t) = Fin.ofNat 4 t ∧ (32 + t) / 4 = 8 :=
  ⟨Fin.ext (by show (32 + t) % 4 = t % 4; omega), by omega⟩

theorem dq_end :
    DQ m c 32 32 ⊢ iprop((((c : Thread nD τ).loc main_v1) ↦{fullShare} outB m) ∗ Whole (F := F) c cc0_scratch7
      ∗ bigSep (Finset.range 4) (fun t => atPos ER (cl c (.dq (Fin.ofNat 4 t))) 8 ∅ 0)) := by
  rw [dq_slots]
  unfold DQ
  rw [show 32 + 4 = 36 from rfl, ico_shift, ico_shift]
  iintro ⟨⟨HO, -, -⟩, HD, HA⟩
  isplitl [HO]; · iapply (out_join m c) $$ HO
  isplitl [HD]
  · iapply (bigSep_imp fun t ht' => ?_) $$ HD
    have e := (kt_shift t (Finset.mem_range.mp ht')).1
    show iprop(any (F := F) c (dqM.slice (rD (kt (32 + t))) (fun _ => rfl)) ∗ reached ER (cl c (.dq (kt (32 + t)))) ((32 + t) / 4)) ⊢ _
    rw [e]
    iintro ⟨H, -⟩
    iexact H
  iapply (bigSep_imp fun t ht' => ?_) $$ HA
  obtain ⟨e, e'⟩ := kt_shift t (Finset.mem_range.mp ht')
  rw [e, e']

/-- What the launch takes back, from what the body leaves. -/
theorem exit_intro :
    iprop(AGw m c 16 ∗ (DSr m c 32 32 32 ∗ Left m c))
      ⊢ iprop((owesE (F := F) c 80 ∗ xw m c) ∗ (atPos ER (cl c .bar) 1 ∅ 0 ∗ Fam (fun k => (atPos ER (cl c k) (endR c k) ∅ 0 : sProp 𝕄)))
        ∗ (((c : Thread nD τ).loc main_v1) ↦{fullShare} outB m) ∗ Scratch (F := F) c) := by
  unfold AGw DSr Left OQ AtM RingEnd GR Scratch Fam
  iintro ⟨⟨HO, HS, -⟩, ⟨HQ, ⟨HG, -⟩, HD⟩, ⟨⟨W0, W1⟩, -⟩, HM, ⟨M1, M2⟩, HB, HX, HR⟩
  ihave HR := (ring_end (F := F) (c := c)) $$ HR
  icases HR with ⟨⟨S0, S1, S2, S3⟩, A1, A2, A3, A4⟩
  ihave HS := (sends_end (m := m) (c := c)) $$ [HQ HS]
  · isplitl [HQ]; · iexact HQ
    iexact HS
  icases HS with ⟨S5, A5⟩
  ihave HG := (arrive_end (m := m) (c := c)) $$ HG
  icases HG with ⟨S6, A6⟩
  ihave HD := (dq_end (m := m) (c := c)) $$ HD
  icases HD with ⟨HV, S7, A9⟩
  isplitl [HO HX]
  · isplitl [HO]; · iexact HO
    iexact HX
  isplitl [HB A1 A2 A3 A4 A5 A6 M1 M2 A9]
  · isplitl [HB]; · iexact HB
    isplitl [A1]; · iexact A1
    isplitl [A2]; · iexact A2
    isplitl [A3]; · iexact A3
    isplitl [A4]; · iexact A4
    isplitl [A5]; · iexact A5
    isplitl [A6]; · iexact A6
    isplitl [M1]; · iexact M1
    isplitl [M2]; · iexact M2
    iexact A9
  isplitl [HV]; · iexact HV
  isplitl [S0]; · iexact S0
  isplitl [S1]; · iexact S1
  isplitl [S2]; · iexact S2
  isplitl [S3]; · iexact S3
  isplitl [W0 W1]
  · iapply (Entails.of_eq (own_slots (F := F) c).symm)
    isplitl [W0]; · iapply (any_of_has c (ownM.slice rO0 (fun _ => rfl)) (ownR m c)) $$ W0
    iapply (any_of_has c (ownM.slice rO1 (fun _ => rfl)) (ownL m c)) $$ W1
  isplitl [S5]; · iexact S5
  isplitl [S6]; · iexact S6
  isplitl [S7]; · iexact S7
  iapply (Entails.of_eq (any_whole (F := F) c cc0_scratch8))
  iapply (any_of_has c amM (amBuf m)) $$ HM

end

end Cert.KernelIdeal.Run

end
-- ==== Proof.Launch.lean ====
module

public import proofs.«01_k».proof.Proof.Ends
public import proofs.«01_k».proof.Proof.Credit
public import proofs.«01_k».proof.Proof.Gen.KernelIdeal.Launch
public import proofs.«01_k».proof.Proof.Gen.KernelIdeal.Points
public import Idealize.ShloMosaic.Lib.Pipeline.CollectiveSegs

@[expose] public section

set_option synthInstance.maxSize 4096

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

open Idealize.ShloMosaic.Pipeline

variable (ρ : Dev nD → PrngReg)

/-! ## The pipeline's data -/

/-- The state the launch starts from: memory `m`, every counter zero. -/
def s₀ : MemSt nD τ sig (Elt F) := ⟨m, fun _ => 0, ρ⟩

omit [FloatOps F] in
theorem cfg0_N : cfg0.N = 1 := N_0
/-- The grid's one point. -/
def t₀ : Fin cfg0.N := ⟨0, by rw [cfg0_N]; decide⟩
omit [FloatOps F] in
theorem fin_N (t : Fin cfg0.N) : t = t₀ := by
  obtain ⟨t, ht⟩ := t; have := cfg0_N; exact Fin.ext (by simp only [t₀]; omega)

/-- What a device holds of the protocol and of the result array when its body starts. -/
def startX (c : Dev nD) : sProp 𝕄 := iprop(G' m c ∗ Cr (F := F) c ∗ levAts L lv ∗ Whole (F := F) c main_v1)
/-- What it holds after: the barrier's counter at zero, and the result. -/
def endY (c : Dev nD) : sProp 𝕄 := iprop(unscopedSems0 c ∗ (((c : Thread nD τ).loc main_v1) ↦{fullShare} outB m))

def Φ₀ (c : Dev nD) : sProp 𝕄 := iprop(startX m c ∗ Scratch (F := F) c)
def Φ₁ (c : Dev nD) : sProp 𝕄 := iprop(endY m c ∗ Pipeline.ownSems0 osem c ∗ Scratch (F := F) c)

/-- The staged inputs, what the body keeps in the staging buffers, and what it owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xs m c) ∗ stg c cc0_stg1_0 (ws m c))

theorem before_x (c : Dev nD) (d) : (dats m ρ 0 c).before (0 : Fin 2) t₀ d = xs m c := by
  unfold Dat.before; rw [if_pos (fetch0_0 t₀)]; rfl
theorem before_w (c : Dev nD) (d) : (dats m ρ 0 c).before (1 : Fin 2) t₀ d = ws m c := by
  unfold Dat.before; rw [if_pos (fetch0_1 t₀)]; rfl

/-! ## The body -/

/-- What the body owes at its start is what every device owes at the launch. -/
theorem owes_start (c : Dev nD) : (dats m ρ 0 c).owesAt () t₀.castSucc ⊢ owesE (F := F) c 0 := by
  unfold Dat.owesAt Pipeline.owesWithin owesE
  rw [show (dats m ρ 0 c).owed t₀.castSucc = O₀ c from rfl]
  unfold O₀
  iintro ⟨%W, -, HO⟩
  iexists W
  iexact HO

/-- When the body owes nothing more, it owes what the launch expects. -/
theorem owes_end (c : Dev nD) : owesE (F := F) c 80 ⊢ (dats m ρ 0 c).owesAt () t₀.succ := by
  unfold Dat.owesAt Pipeline.owesWithin owesE
  rw [show (dats m ρ 0 c).owed t₀.succ = 0 from rfl, ow_last]
  iintro ⟨%W, HO⟩
  iexists W
  isplitr
  · ipureintro; exact fun _ _ => Or.inl trivial
  iexact HO

/-- The two staged inputs, as the body reads them. -/
theorem inputs_start (c : Dev nD) :
    iprop((∃ d, stg c cc0_stg0_0 ((dats m ρ 0 c).before (0 : Fin 2) t₀ d)) ∗ (∃ d, stg c cc0_stg1_0 ((dats m ρ 0 c).before (1 : Fin 2) t₀ d))) ⊢ xw m c := by
  unfold xw
  iintro ⟨⟨%d, %f, %hf, HX⟩, ⟨%d', %g, %hg, HW⟩⟩
  rw [before_x] at hf
  rw [before_w] at hg
  subst hf
  subst hg
  isplitl [HX]; · iexact HX
  iexact HW

theorem inputs_end (c : Dev nD) : xw m c ⊢ iprop(stg c cc0_stg0_0 (xs m c) ∗ stg c cc0_stg1_0 (ws m c)) := by
  unfold xw
  iintro ⟨HX, HW⟩
  isplitl [HX]
  · iexists (xs m c)
    isplitr; · ipureintro; rfl
    iexact HX
  iexists (ws m c)
  isplitr; · ipureintro; rfl
  iexact HW

/-- The body's end: every semaphore closed, every buffer whole. -/
theorem close_all (K : GSem nD τ sig → ℕ) (c : Dev nD) :
    iprop(ctx m K ∗ (AGw m c 16 ∗ (DSr m c 32 32 32 ∗ Left m c))) ⊢ |={Set.univ}=> bodyPost m ρ c := by
  refine BIBase.Entails.trans (sep_mono_right (exit_intro (m := m) (c := c))) ?_
  unfold ctx bodyPost Φ₁ endY
  iintro ⟨⟨#HR, -⟩, ⟨HO, HX⟩, ⟨HB, HF⟩, HV, HS⟩
  imod (close_own m K c) $$ [HF] with HZ
  · isplitr; · iexact HR
    iexact HF
  imod (close_bar m K c) $$ [HB] with HU
  · isplitr; · iexact HR
    iexact HB
  imodintro
  isplitl [HU HV HZ HS]
  · isplitl [HU HV]
    · isplitl [HU]; · iexact HU
      iexact HV
    isplitl [HZ]; · iexact HZ
    iexact HS
  isplitl [HO]; · iapply (owes_end m ρ c) $$ HO
  iapply (inputs_end m c) $$ HX

/-- One device's body from what the launch gives it to what the launch takes back. -/
theorem body_run (c : Dev nD) :
    bodyPre m ρ c ⊢ Wp c (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)
      (fun _ => bodyPost m ρ c) := by
  have hb (K : GSem nD τ sig → ℕ) : iprop(ctx m K ∗ Pre m c) ⊢ Wp c (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)
      (fun _ => bodyPost m ρ c) := by
    rw [← Prog.bind_pure (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)]
    refine seq _ (body_spec (m := m) (K := K) (c := c)) fun v => ?_
    unfold Wp
    rw [Prog.pure_eq_ret, wp_ret]
    exact close_all m ρ K c
  unfold bodyPre Φ₀ startX G'
  iintro ⟨⟨⟨⟨%K, #HR, HA, HT⟩, HC, #HL, HV⟩, HS⟩, HO, HI⟩
  iapply (hb K)
  isplitr
  · unfold ctx
    isplitr; · iexact HR
    iexact HL
  iapply (pre_intro (m := m) (K := K) (c := c))
  isplitr; · iexact HR
  isplitl [HO HI]
  · isplitl [HO]; · iapply (owes_start m ρ c) $$ HO
    iapply (inputs_start m ρ c) $$ HI
  isplitl [HA]; · iexact HA
  isplitl [HT]; · iexact HT
  isplitl [HC]; · iexact HC
  isplitl [HV]; · iexact HV
  iexact HS

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0__body (F := F) xM isW wM isW oM isW lrM isW llM isW srM isW slM isW ownM isW qM isW agM isW dqM isW amM isW cc0_scratch9 cc0_scratch10 cc0_scratch11 cc0_scratch12 cc0_scratch13 cc0_scratch14 cc0_scratch15 cc0_scratch16 cc0_scratch17)
    (fun _ => bodyPost m ρ c)
  exact body_run m ρ c

/-! ## The launch's side conditions -/

omit [FloatOps F] in
theorem osem_inj : Function.Injective osem := fun k k' h => by
  have h1 : (2 + k.val : ℕ) = 2 + k'.val := by
    have := SemLoc.dma.inj h
    exact congrArg (fun i : DmaSem sig => i.val) this
  exact Fin.ext (by omega)

theorem ownSemFacts : Pipeline.OwnSemFacts cfg0.spec osem where
  isScoped := by decide
  inj := osem_inj
  disj k w s h := by
    have h1 := congrArg (fun i : DmaSem sig => i.val) (SemLoc.dma.inj h)
    revert h1
    fin_cases w <;> fin_cases s
    · show 2 + k.val = 0 → False; omega
    · show 2 + k.val = 1 → False; omega

theorem share_eq (c : Dev nD) (w : Fin cfg0.W) : (dats m ρ 0 c).share w = fullShare := by unfold Dat.share; split <;> rfl

/-- The launch's ghost state: the pipeline's and the protocol's. -/
def u₀ : UU :=
  (initOf (Pipeline.cells (nD := nD) (τ := τ) cfgs cellOf_inj) (Pipeline.launchToks (nD := nD) (τ := τ) cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  unfold startX Whole
  iintro ⟨HV, HL, HC, -, HG⟩
  ihave HC := (creds (F := F) c) $$ HC
  imodintro
  isplitl
  · isplitl [HG]; · iexact HG
    isplitl [HC]; · iexact HC
    isplitl [HL]; · iexact HL
    iexists (m ((c : Thread nD τ).loc main_v1))
    iexact HV
  iempintro

theorem phi0_intro (c : Dev nD) :
    iprop(startX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch Whole
  iintro ⟨Hs, -, Hr⟩
  isplitl [Hs]; · iexact Hs
  iexact Hr

theorem phi1_exit (c : Dev nD) :
    (dats m ρ 0 c).Φ (Fin.last cfg0.N) ⊢ iprop(endY m c ∗ Pipeline.ownSems0 osem c ∗ Pipeline.scopedRest cfg0.spec c) := by
  rw [show (dats m ρ 0 c).Φ (Fin.last cfg0.N) = Φ₁ m c from rfl, scopedRest0_eq]
  unfold Φ₁ Scratch Whole
  exact BIBase.Entails.refl

/-- A device may wait on its staging semaphores whatever it owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 0 (Or.inl ?_)
      fin_cases w <;> fin_cases s <;> decide
    · show _ ⊢ MayWait _ _ () 0
      rw [MayWait_zero]
      iintro -
      iempintro

/-! ## The run -/

set_option maxRecDepth 100000 in
/-- For any float values, from any memory with zero counters: every weakly fair execution of the
    program on the sixteen devices terminates without a fault, and every final state has the two
    input arrays as they were, each device's result at `outB m`, and every semaphore counter at
    zero. -/
theorem run_main : θ_run defs (onTc (τ := τ) (main (F := F))) (s₀ m ρ)
    (fun r => ((∀ (c : Dev nD) (w : Fin cfg0.W), r.2.mem ((cfg0.win w).arr.view.loc (c : Thread nD τ)) = (dats m ρ 0 c).arrAt w cfg0.N)
      ∧ ∀ c : Dev nD, r.2.mem ((c : Thread nD τ).loc main_v1) = outB m) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := startX m) (Y := endY m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_v1) = outB m)
    (hY := fun c s' => by
      unfold endY
      iintro ⟨⟨Hu, HV⟩, -, HSI⟩
      ihave %hv := SI_pointsTo_agree $$ [HSI HV]
      · isplitl [HSI]; · iexact HSI
        iexact HV
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hv i (Finset.mem_univ i)⟩
      iexact HSI)
    (hQ := fun _ h hs => ⟨⟨fun c w => (h c).1 w, fun c => (h c).2.2.2⟩, sem_eq_zero hs fun c => (h c).2.2.1⟩)

/-- The two inputs after the run are what they were. -/
theorem arr_x (c : Dev nD) : (dats m ρ 0 c).arrAt (0 : Fin 2) cfg0.N = m ((c : Thread nD τ).loc main_arg0) :=
  (dats (F := F) m ρ 0 c).arrAt_in (0 : Fin 2) rfl _
theorem arr_w (c : Dev nD) : (dats m ρ 0 c).arrAt (1 : Fin 2) cfg0.N = m ((c : Thread nD τ).loc main_arg1) :=
  (dats (F := F) m ρ 0 c).arrAt_in (1 : Fin 2) rfl _

end Cert.KernelIdeal.Run

end
-- ==== Proof.Frames.lean ====
module

public import proofs.«01_k».proof.Defs
public import proofs.«01_k».proof.Proof.Launch
public import proofs.«01_k».proof.Proof.Gen.Kernel

@[expose] public section

noncomputable section

namespace Cert.Proof

open Idealize.ShloMosaic Idealize.ShloMosaic.TcCoe Idealize.SL.Sem
open Cert.KernelIdeal.Run

/-- For any float values: the program runs without a fault, its two arguments end as they were, and
    every semaphore counter ends at zero. -/
theorem frame_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨(h.1.1 c (0 : Fin 2)).trans (arr_x m ρ c), (h.1.1 c (1 : Fin 2)).trans (arr_w m ρ c)⟩, h.2⟩)
    (run_main (F := F) m ρ)

/-- The program over the reals runs without a fault, its two arguments end as they were, and every
    semaphore counter ends at zero. -/
theorem frame_kernelIdeal : Cert.quiescent_KernelIdeal (hKernelIdeal := Cert.KernelIdeal.Gen.facts) := fun m ρ _ => frame_run (F := Ideal) m ρ

attribute [local instance] Cert.Kernel.Gen.facts Cert.KernelIdeal.Gen.facts

/-- The two programs' kernels have the same text. -/
theorem kernels_eq : Cert.Kernel.defs₀ (F := Bits) = Cert.KernelIdeal.defs₀ (F := Bits) := by
  unfold Cert.Kernel.defs₀ Cert.KernelIdeal.defs₀
  refine congrArg Defs.onTc ?_
  funext l x
  obtain ⟨l, hl⟩ := l
  cases l with
  | zero => rfl
  | succ n => exact absurd hl (Nat.not_lt.2 (Nat.le_add_left _ _))

/-- The two programs' bodies have the same text. -/
theorem bodies_eq : Cert.Kernel.defs (F := Bits) = Cert.KernelIdeal.defs (F := Bits) :=
  congrArg (Pipeline.defs (Cert.Kernel.pcfgs (F := Bits))) kernels_eq

/-- The program as written runs without a fault, its two arguments end as they were, and every
    semaphore counter ends at zero: its text is that of the program over the reals, whose run is
    proved for any float values. -/
theorem frame_kernel : Cert.quiescent_Kernel (hKernel := Cert.Kernel.Gen.facts) := by
  intro m ρ _
  rw [bodies_eq]
  exact frame_run (F := Bits) m ρ

end Cert.Proof

end
-- ==== Proof.Scale.lean ====
module

public import Idealize.ShloMosaic.PureOps.Ideal

@[expose] public section

noncomputable section

namespace Cert.Proof

open Idealize.ShloMosaic

/-- The pattern of the largest quantised value is 448. -/
theorem word_448 : Ideal.ofBits .f32 0x43E00000#32 = ((448 : ℝ) : EReal) := by
  simp [Ideal.ofBits, Ideal.ieee, -EReal.coe_mul]; norm_num
/-- The pattern a maximum starts from is minus infinity. -/
theorem word_bot : Ideal.ofBits .f32 0xFF800000#32 = (⊥ : EReal) := by simp [Ideal.ofBits, Ideal.ieee]

/-- Dividing 448 by zero, by plus infinity and by a positive number. -/
theorem div_448_zero : Ideal.div ((448 : ℝ) : EReal) 0 = ⊤ := by
  have h : (0 : EReal) < ((448 : ℝ) : EReal) := by exact_mod_cast (by norm_num : (0 : ℝ) < 448)
  unfold Ideal.div; rw [if_pos rfl, if_pos h]
theorem div_ne {x y : EReal} (h : y ≠ 0) : Ideal.div x y = x * y⁻¹ := by
  unfold Ideal.div; rw [if_neg h]
theorem ne_448 : ((448 : ℝ) : EReal) ≠ 0 := by exact_mod_cast (by norm_num : (448 : ℝ) ≠ 0)

/-- Multiplying by the quotient of 448 and the greatest entry and then by its inverse gives the same as
    dividing by the scale, cutting off at 448 and multiplying back: for every entry from zero up to the
    greatest, whatever extended real the greatest is. -/
theorem scale_eq (y g : EReal) (h0 : 0 ≤ y) (hg : y ≤ g) :
    y * Ideal.div ((448 : ℝ) : EReal) g * Ideal.div g ((448 : ℝ) : EReal)
      = min (Ideal.div y (Ideal.div g ((448 : ℝ) : EReal))) ((448 : ℝ) : EReal) * Ideal.div g ((448 : ℝ) : EReal) := by
  rw [div_ne (x := g) ne_448]
  have inv : (((448 : ℝ) : EReal))⁻¹ = (((448 : ℝ)⁻¹ : ℝ) : EReal) := (EReal.coe_inv _).symm
  rw [inv]
  induction g with
  | bot => exact absurd (h0.trans hg) (by simp)
  | top =>
    have ht : (⊤ : EReal) * (((448 : ℝ)⁻¹ : ℝ) : EReal) = ⊤ := EReal.top_mul_coe_of_pos (by norm_num)
    rw [ht, div_ne (by simp), div_ne (by simp), EReal.inv_top, mul_zero, mul_zero, zero_mul,
      min_eq_left (by exact_mod_cast (by norm_num : (0 : ℝ) ≤ 448)), zero_mul]
  | coe g =>
    induction y with
    | bot => exact absurd h0 (by simp)
    | top => exact absurd hg (by simp)
    | coe y =>
      have hy : 0 ≤ y := by exact_mod_cast h0
      have hyg : y ≤ g := by exact_mod_cast hg
      by_cases g0 : g = 0
      · subst g0
        simp
      · have gp : 0 < g := lt_of_le_of_ne (hy.trans hyg) (Ne.symm g0)
        have e : ((g : ℝ) : EReal) * (((448 : ℝ)⁻¹ : ℝ) : EReal) = ((g * 448⁻¹ : ℝ) : EReal) := (EReal.coe_mul _ _).symm
        have n1 : ((g : ℝ) : EReal) ≠ 0 := by exact_mod_cast g0
        have n2 : ((g * 448⁻¹ : ℝ) : EReal) ≠ 0 := by exact_mod_cast (mul_pos gp (by norm_num : (0:ℝ) < 448⁻¹)).ne'
        rw [e, div_ne n1, div_ne n2, ← EReal.coe_inv, ← EReal.coe_inv, ← EReal.coe_mul, ← EReal.coe_mul, ← EReal.coe_mul, ← EReal.coe_mul]
        have hle : y * (g * 448⁻¹)⁻¹ ≤ 448 := by
          rw [mul_inv, inv_inv, ← mul_assoc]
          have : y * g⁻¹ ≤ 1 := by rw [← div_eq_mul_inv]; exact (div_le_one gp).mpr hyg
          nlinarith
        rw [min_eq_left (by exact_mod_cast hle), ← EReal.coe_mul]
        congr 1
        field_simp

end Cert.Proof

end
-- ==== Proof.Sums.lean ====
module

public import proofs.«01_k».proof.Proof.Common
public import proofs.«01_k».proof.Proof.Scale
public import Idealize.ShloMosaic.Lib.Pointwise
public import proofs.«01_k».proof.Proof.Gen.ReferenceIdeal.Value

@[expose] public section

noncomputable section

namespace Cert.KernelIdeal.Run

open Idealize.ShloMosaic Idealize.ShloMosaic.TcCoe
open Cert.KernelIdeal.Gen Cert.Proof

/-! ## The stored values over the extended reals, entry by entry -/

/-- Row `r` of a chunk times column `k` of half the weights. -/
def dotE (x : Vec Ideal S1x256x256 .bf16) (w : Vec Ideal S256x1024 .bf16) (r : Fin 256) (k : Fin 1024) : EReal :=
  ∑ q : Fin 256, x (ix3 0 r q) * w (ix2 q k)

/-- The first partial sum sent to the right is the device's own product. -/
theorem pay2_at (x : Vec Ideal S1x256x256 .bf16) (w : Vec Ideal S256x1024 .bf16) (r : Fin 256) (k : Fin 1024) :
    k0_pay2 (F := Ideal) x w (ix3 0 r k) = dotE x w r k := by
  pointwise [k0_pay2, k0_pay1, dotE]
/-- So is the first sent to the left. -/
theorem pay3_at (x : Vec Ideal S1x256x256 .bf16) (w : Vec Ideal S256x1024 .bf16) (r : Fin 256) (k : Fin 1024) :
    k0_pay3 (F := Ideal) x w (ix3 0 r k) = dotE x w r k := by
  pointwise [k0_pay3, k0_pay1, dotE]
/-- A later one sent to the right adds the device's product to what arrived. -/
theorem pay7_at (x : Vec Ideal S1x256x256 .bf16) (w : Vec Ideal S256x1024 .bf16) (p : Vec Ideal S1x256x1024 .bf16) (r : Fin 256) (k : Fin 1024) :
    k0_pay7 (F := Ideal) (k0_pay5 (k0_pay4 x) w) p (ix3 0 r k) = p (ix3 0 r k) + dotE x w r k := by
  pointwise [k0_pay7, k0_pay5, k0_pay4, dotE]
/-- And to the left. -/
theorem pay8_at (x : Vec Ideal S1x256x256 .bf16) (w : Vec Ideal S256x1024 .bf16) (p : Vec Ideal S1x256x1024 .bf16) (r : Fin 256) (k : Fin 1024) :
    k0_pay8 (F := Ideal) (k0_pay6 x w) p (ix3 0 r k) = p (ix3 0 r k) + dotE x w r k := by
  pointwise [k0_pay8, k0_pay6, dotE]
/-- The last addition of the right ring, negative entries cut off. -/
theorem pay74_at (x : Vec Ideal S1x256x256 .bf16) (w : Vec Ideal S256x1024 .bf16) (p : Vec Ideal S1x256x1024 .bf16) (r : Fin 256) (k : Fin 1024) :
    k0_pay74 (F := Ideal) (k0_pay72 x w) p (ix3 0 r k) = max (p (ix3 0 r k) + dotE x w r k) 0 := by
  pointwise [k0_pay74, k0_pay72, dotE]
/-- And of the left ring. -/
theorem pay75_at (x : Vec Ideal S1x256x256 .bf16) (w : Vec Ideal S256x1024 .bf16) (p : Vec Ideal S1x256x1024 .bf16) (r : Fin 256) (k : Fin 1024) :
    k0_pay75 (F := Ideal) (k0_pay73 x w) p (ix3 0 r k) = max (p (ix3 0 r k) + dotE x w r k) 0 := by
  pointwise [k0_pay75, k0_pay73, dotE]

/-- A device's own maximum is at most a bound when all the entries of its two blocks are. -/
theorem pay77_le (a b : Vec Ideal S1x256x1024 .f32) (j : Fin 128) (t : EReal) :
    k0_pay77 (F := Ideal) (k0_pay76 a b) (ix2 0 j) ≤ t
      ↔ (∀ r k, (a (ix3 0 r k) : EReal) ≤ t) ∧ ∀ r k, (b (ix3 0 r k) : EReal) ≤ t := by
  pointwise [k0_pay77, k0_pay76]
  rw [max_le_iff, Finset.fold_max_le, Finset.fold_max_le, word_bot]
  simp
/-- The maximum of all the rows is at most a bound when all their entries are. -/
theorem pay78_le (a : Vec Ideal S16x128 .f32) (t : EReal) :
    k0_pay79 (k0_pay78 (F := Ideal) a) ≤ t ↔ ∀ c j, (a (ix2 c j) : EReal) ≤ t := by
  pointwise [k0_pay79, k0_pay78]
  rw [Finset.fold_max_le, word_bot]
  simp

/-- A quantised entry: the entry times 448 over the maximum. -/
theorem pay82_at (g : FVec Ideal S1x1x1 .f32) (a : Vec Ideal S1x256x1024 .f32) (r : Fin 256) (k : Fin 1024) :
    k0_pay82 (F := Ideal) g a (ix3 0 r k) = a (ix3 0 r k) * Ideal.div ((448 : ℝ) : EReal) (k0_pay79 g) := by
  rw [← word_448]
  pointwise [k0_pay82, k0_pay80, k0_pay79]
/-- The same for the left half. -/
theorem pay83_at (g : FVec Ideal S1x1x1 .f32) (a : Vec Ideal S1x256x1024 .f32) (r : Fin 256) (k : Fin 1024) :
    k0_pay83 (F := Ideal) g a (ix3 0 r k) = a (ix3 0 r k) * Ideal.div ((448 : ℝ) : EReal) (k0_pay79 g) := by
  rw [← word_448]
  pointwise [k0_pay83, k0_pay80, k0_pay79]

/-! ## The reference's, entry by entry -/

/-- An entry of the whole product, negative entries cut off. -/
def full (a : Vec Ideal Cert.ReferenceIdeal.S16x256x4096 .bf16) (b : Vec Ideal Cert.ReferenceIdeal.S4096x2048 .bf16)
    (j : Fin 16) (r : Fin 256) (k : Fin 2048) : EReal :=
  max (∑ q : Fin 4096, a (ix3 j r q) * b (ix2 q k)) 0

/-- The greatest entry, over the extended reals. -/
def top (a : Vec Ideal Cert.ReferenceIdeal.S16x256x4096 .bf16) (b : Vec Ideal Cert.ReferenceIdeal.S4096x2048 .bf16) : EReal :=
  ⨆ j : Fin 16, ⨆ r : Fin 256, ⨆ k : Fin 2048, full a b j r k

theorem top_le (a : Vec Ideal Cert.ReferenceIdeal.S16x256x4096 .bf16) (b : Vec Ideal Cert.ReferenceIdeal.S4096x2048 .bf16) (t : EReal) :
    top a b ≤ t ↔ ∀ j r k, full a b j r k ≤ t := by
  unfold top; simp only [iSup_le_iff]

/-- A maximum over all indices is the greatest entry. -/
theorem ref_max (a : Vec Ideal Cert.ReferenceIdeal.S16x256x4096 .bf16) (b : Vec Ideal Cert.ReferenceIdeal.S4096x2048 .bf16)
    (s : Finset Cert.ReferenceIdeal.S1x16x256x2048.Idx) (hs : ∀ i, i ∈ s) :
    Finset.fold max (Ideal.ofBits .f32 0xFF800000#32) (fun x : Cert.ReferenceIdeal.S1x16x256x2048.Idx => (FloatOps.absf (F := Ideal) (φ := .f32) (full a b (x 1) (x 2) (x 3)) : EReal)) s = top a b := by
  refine eq_of_forall_ge_iff fun t => ?_
  rw [Finset.fold_max_le, word_bot, top_le]
  constructor
  · intro h j r k
    exact (le_max_left _ _).trans (h.2 (ix4 0 j r k) (hs _))
  · refine fun h => ⟨bot_le, fun x _ => max_le (h _ _ _) ?_⟩
    have h0 : (0 : EReal) ≤ full a b (x 1) (x 2) (x 3) := le_max_right _ _
    exact (EReal.neg_le_neg_iff.mpr h0).trans ((by simp : (-0 : EReal) ≤ 0).trans (h0.trans (h _ _ _)))

/-- An entry of the reference's result. -/
theorem ref_at (a : Vec Ideal Cert.ReferenceIdeal.S16x256x4096 .bf16) (b : Vec Ideal Cert.ReferenceIdeal.S4096x2048 .bf16)
    (j : Fin 16) (r : Fin 256) (k : Fin 2048) :
    Cert.ReferenceIdeal.Gen.k0_pay1 (F := Ideal) a b (ix3 j r k)
      = min (Ideal.div (full a b j r k) (Ideal.div (top a b) ((448 : ℝ) : EReal))) ((448 : ℝ) : EReal)
        * Ideal.div (top a b) ((448 : ℝ) : EReal) := by
  rw [← word_448, ← ref_max a b (Finset.univ.filter fun i => Cert.ReferenceIdeal.Gen.reduces_S1x16x256x2048_S1.drop i = ix1 0)
    (fun i => Finset.mem_filter.mpr ⟨Finset.mem_univ _, by
      funext d; exact Fin.ext (by have := (Cert.ReferenceIdeal.Gen.reduces_S1x16x256x2048_S1.drop i d).isLt; match d with | ⟨0, _⟩ => exact Nat.lt_one_iff.mp this)⟩)]
  pointwise [Cert.ReferenceIdeal.Gen.k0_pay1, full]

end Cert.KernelIdeal.Run

end
-- ==== Proof.Value.lean ====
module

public import proofs.«01_k».proof.Proof.Sums
public import proofs.«01_k».proof.Proof.Slots
public import Idealize.ShloMosaic.Lib.Layout

@[expose] public section

noncomputable section

namespace Cert.KernelIdeal.Run

open Idealize.ShloMosaic Idealize.ShloMosaic.TcCoe
open Cert.KernelIdeal.Gen Cert.Proof

variable (m : (ℓ : Loc nD τ sig) → Buf (Elt Ideal) ℓ)

/-! ## What the loads read -/

/-- Device `c`'s shard of the activations. -/
abbrev mx (c : Dev nD) : Vec Ideal S16x256x256 .bf16 := m ((c : Thread nD τ).loc main_arg0)
/-- Device `c`'s shard of the weights. -/
abbrev mw (c : Dev nD) : Vec Ideal S256x2048 .bf16 := m ((c : Thread nD τ).loc main_arg1)

/-- The staged activations are the shard. -/
theorem xs_eq (c : Dev nD) : xs (F := Ideal) m c = mx m c := by
  funext i; refine congrArg (mx m c) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
/-- The staged weights are the shard. -/
theorem ws_eq (c : Dev nD) : ws (F := Ideal) m c = mw m c := by
  funext i; refine congrArg (mw m c) (funext fun a => Fin.ext ?_)
  match a with
  | ⟨0, _⟩ => exact (Nat.zero_add _).trans (Nat.one_mul _)
  | ⟨1, _⟩ => exact (Nat.zero_add _).trans (Nat.one_mul _)

/-- Chunk `j` of a shard of the activations, read at its offset. -/
theorem x_read (X : Vec Ideal S16x256x256 .bf16) (off : Fin 3 → ℕ) (inb : ∀ a, off a + S1x256x256.size a ≤ S16x256x256.size a)
    (j : Fin 16) (h : off = ![j.val, 0, 0]) (r q : Fin 256) :
    xM.view.readAt (Elt Ideal) (Rect.unit (s := S16x256x256) off S1x256x256.size inb).toLoadRect X (ix3 0 r q) = X (ix3 j r q) := by
  subst h
  refine congrArg X (funext fun a => Fin.ext ?_)
  match a with
  | ⟨0, _⟩ => rfl
  | ⟨1, _⟩ => exact (Nat.zero_add _).trans (Nat.one_mul _)
  | ⟨2, _⟩ => exact (Nat.zero_add _).trans (Nat.one_mul _)
/-- The half of a shard of the weights from column `o` on. -/
theorem w_read (W : Vec Ideal S256x2048 .bf16) (o : ℕ) (inb : ∀ a, (![0, o] : Fin 2 → ℕ) a + S256x1024.size a ≤ S256x2048.size a)
    (q : Fin 256) (k : Fin 1024) (k' : Fin 2048) (hk : k'.val = o + k.val) :
    wM.view.readAt (Elt Ideal) (Rect.unit (s := S256x2048) ![0, o] S256x1024.size inb).toLoadRect W (ix2 q k) = W (ix2 q k') := by
  refine congrArg W (funext fun a => Fin.ext ?_)
  match a with
  | ⟨0, _⟩ => exact (Nat.zero_add _).trans (Nat.one_mul _)
  | ⟨1, _⟩ => exact (congrArg (o + ·) (Nat.one_mul _)).trans hk.symm

/-- Where a chunk of the shard is read from: the first, and at hop `s` of either ring. -/
theorem off1_eq (c : Dev nD) : k0_off1 c = ![c.val, 0, 0] := by revert c; decide +kernel
theorem off2_eq (c : Dev nD) (s : Fin 15) : k0_off2 c (BitVec.ofNat 32 s.val) = ![(pls c (15 * (s.val + 1))).val, 0, 0] := by
  revert c s; decide +kernel
theorem off3_eq (c : Dev nD) (s : Fin 15) : k0_off3 c (BitVec.ofNat 32 s.val) = ![(pls c (s.val + 1)).val, 0, 0] := by
  revert c s; decide +kernel

/-! ## Partial sums -/

/-- Device `d`'s part of entry `(j, r, k)` of the product. -/
def pt (d : Dev nD) (j : Fin 16) (r : Fin 256) (k : Fin 2048) : EReal :=
  ∑ q : Fin 256, mx m d (ix3 j r q) * mw m d (ix2 q k)

/-- Column `k` of the left half and of the right half of the result. -/
abbrev lo (k : Fin 1024) : Fin 2048 := ⟨k.val, by have := k.isLt; omega⟩
abbrev hi (k : Fin 1024) : Fin 2048 := ⟨1024 + k.val, by have := k.isLt; omega⟩

/-- The product of a chunk read at an offset with the first half of the weights. -/
theorem dotL (c : Dev nD) (off : Fin 3 → ℕ) (inb) (j : Fin 16) (h : off = ![j.val, 0, 0]) (r : Fin 256) (k : Fin 1024) :
    dotE (xM.view.readAt (Elt Ideal) (Rect.unit (s := S16x256x256) off S1x256x256.size inb).toLoadRect (xs m c)) (WL m c) r k
      = pt m c j r (lo k) := by
  unfold dotE pt
  refine Finset.sum_congr rfl fun q _ => congrArg₂ (· * ·) ?_ ?_
  · rw [xs_eq]; exact x_read _ off inb j h r q
  · unfold WL; rw [ws_eq]; exact w_read _ 0 _ q k _ (Nat.zero_add _).symm
/-- And with the second half. -/
theorem dotR (c : Dev nD) (off : Fin 3 → ℕ) (inb) (j : Fin 16) (h : off = ![j.val, 0, 0]) (r : Fin 256) (k : Fin 1024) :
    dotE (xM.view.readAt (Elt Ideal) (Rect.unit (s := S16x256x256) off S1x256x256.size inb).toLoadRect (xs m c)) (WR m c) r k
      = pt m c j r (hi k) := by
  unfold dotE pt
  refine Finset.sum_congr rfl fun q _ => congrArg₂ (· * ·) ?_ ?_
  · rw [xs_eq]; exact x_read _ off inb j h r q
  · unfold WR; rw [ws_eq]; exact w_read _ 1024 _ q k _ rfl

theorem pls_pls (c : Dev nD) (a b : ℕ) : pls (pls c a) b = pls c (a + b) :=
  Fin.ext (by show ((c.val + a) % 16 + b) % 16 = (c.val + (a + b)) % 16; omega)

/-- What device `c` sends to the right at hop `s`: the parts of the last `s + 1` devices of chunk `c - s`. -/
theorem sbR_at (s : ℕ) (hs : s < 15) (c : Dev nD) (r : Fin 256) (k : Fin 1024) :
    (sbR (F := Ideal) m s c (ix3 0 r k) : EReal)
      = ∑ i ∈ Finset.range (s + 1), pt m (pls c (15 * i)) (pls c (15 * s)) r (lo k) := by
  induction s generalizing c with
  | zero =>
    rw [Finset.sum_range_one, Nat.mul_zero, pls_zero]
    exact (pay2_at _ _ r k).trans (dotL m c _ _ c (off1_eq c) r k)
  | succ s ih =>
    have hf : (Fin.ofNat 15 s).val = s := Nat.mod_eq_of_lt (by omega)
    rw [Finset.sum_range_succ', Nat.mul_zero, pls_zero]
    refine (pay7_at _ _ _ r k).trans (congrArg₂ (· + ·) ((ih (by omega) (prv c)).trans ?_) ?_)
    · refine Finset.sum_congr rfl fun i _ => ?_
      rw [pls_pls, pls_pls, Nat.mul_add, Nat.mul_add, Nat.mul_one, Nat.add_comm 15, Nat.add_comm 15]
    · refine dotL m c _ _ _ (off2_eq c (Fin.ofNat 15 s)) r k |>.trans ?_
      rw [hf]
/-- And to the left: of the next `s + 1` devices of chunk `c + s`. -/
theorem sbL_at (s : ℕ) (hs : s < 15) (c : Dev nD) (r : Fin 256) (k : Fin 1024) :
    (sbL (F := Ideal) m s c (ix3 0 r k) : EReal)
      = ∑ i ∈ Finset.range (s + 1), pt m (pls c i) (pls c s) r (hi k) := by
  induction s generalizing c with
  | zero =>
    rw [Finset.sum_range_one, pls_zero]
    exact (pay3_at _ _ r k).trans (dotR m c _ _ c (off1_eq c) r k)
  | succ s ih =>
    have hf : (Fin.ofNat 15 s).val = s := Nat.mod_eq_of_lt (by omega)
    rw [Finset.sum_range_succ', pls_zero]
    refine (pay8_at _ _ _ r k).trans (congrArg₂ (· + ·) ((ih (by omega) (nxt c)).trans ?_) ?_)
    · refine Finset.sum_congr rfl fun i _ => ?_
      rw [pls_pls, pls_pls, Nat.add_comm 1, Nat.add_comm 1]
    · refine dotR m c _ _ _ (off3_eq c (Fin.ofNat 15 s)) r k |>.trans ?_
      rw [hf]

/-- All devices' parts of an entry, negative sums cut off. -/
def sum16 (j : Fin 16) (r : Fin 256) (k : Fin 2048) : EReal := max (∑ d : Dev nD, pt m d j r k) 0

/-- Once round the ring is every device. -/
theorem sum_round (e : ℕ) (he : ∀ c : Dev nD, Function.Bijective fun i : Fin 16 => pls c (e * i.val)) (c : Dev nD) (f : Dev nD → EReal) :
    ∑ i ∈ Finset.range 16, f (pls c (e * i)) = ∑ d : Dev nD, f d := by
  rw [← Fin.sum_univ_eq_sum_range (fun i => f (pls c (e * i))) 16]
  exact Function.Bijective.sum_comp (he c) f
theorem round_bij (e : ℕ) (h : e = 15 ∨ e = 1) (c : Dev nD) : Function.Bijective fun i : Fin 16 => pls c (e * i.val) := by
  refine Finite.injective_iff_bijective.mp fun a b hab => Fin.ext ?_
  have hab : (c.val + e * a.val) % 16 = (c.val + e * b.val) % 16 := congrArg Fin.val hab
  have := a.isLt; have := b.isLt
  rcases h with rfl | rfl <;> omega

/-- Device `c`'s block of the right ring: chunk `c + 1`, left half of the columns. -/
theorem ownR_at (c : Dev nD) (r : Fin 256) (k : Fin 1024) : (ownR (F := Ideal) m c (ix3 0 r k) : EReal) = sum16 m (nxt c) r (lo k) := by
  have h15 : pls c 225 = nxt c := Fin.ext (by show (c.val + 225) % 16 = (c.val + 1) % 16; omega)
  refine (pay74_at _ _ _ r k).trans (congrArg (max · 0) ?_)
  rw [sbR_at m 14 (by omega) (prv c) r k, ← sum_round 15 (round_bij 15 (.inl rfl)) c (fun d => pt m d (nxt c) r (lo k)), Finset.sum_range_succ' _ 15,
    Nat.mul_zero, pls_zero]
  refine congrArg₂ (· + ·) (Finset.sum_congr rfl fun i _ => ?_) ?_
  · rw [pls_pls, pls_pls, Nat.mul_add, Nat.mul_one, Nat.add_comm 15, h15]
  · refine dotL m c _ _ _ (off2_eq c 14) r k |>.trans ?_
    rw [show pls c (15 * ((14 : Fin 15).val + 1)) = nxt c from h15]
/-- Device `c`'s block of the left ring: chunk `c - 1`, right half of the columns. -/
theorem ownL_at (c : Dev nD) (r : Fin 256) (k : Fin 1024) : (ownL (F := Ideal) m c (ix3 0 r k) : EReal) = sum16 m (prv c) r (hi k) := by
  refine (pay75_at _ _ _ r k).trans (congrArg (max · 0) ?_)
  rw [sbL_at m 14 (by omega) (nxt c) r k, ← sum_round 1 (round_bij 1 (.inr rfl)) c (fun d => pt m d (prv c) r (hi k)), Finset.sum_range_succ' _ 15,
    Nat.mul_zero, pls_zero]
  refine congrArg₂ (· + ·) (Finset.sum_congr rfl fun i _ => ?_) ?_
  · rw [pls_pls, pls_pls, Nat.one_mul, Nat.add_comm 1]
  · exact dotR m c _ _ _ (off3_eq c 14) r k

/-! ## The maximum -/

theorem nxt_surj (j : Fin 16) : ∃ c : Dev nD, nxt c = j := ⟨prv j, nxt_prv j⟩
theorem prv_surj (j : Fin 16) : ∃ c : Dev nD, prv c = j := ⟨nxt j, prv_nxt j⟩

/-- A property of the two halves of the columns, chunk by chunk, is one of every entry. -/
theorem halves {P : Fin 16 → Fin 2048 → Prop} (h1 : ∀ (c : Dev nD) k, P (nxt c) (lo k)) (h2 : ∀ (c : Dev nD) k, P (prv c) (hi k))
    (j : Fin 16) (k : Fin 2048) : P j k := by
  by_cases hk : k.val < 1024
  · obtain ⟨c, rfl⟩ := nxt_surj j
    exact h1 c ⟨k.val, hk⟩
  · obtain ⟨c, rfl⟩ := prv_surj j
    have := h2 c ⟨k.val - 1024, by have := k.isLt; omega⟩
    rwa [show hi ⟨k.val - 1024, by have := k.isLt; omega⟩ = k from Fin.ext (by show 1024 + (k.val - 1024) = k.val; omega)] at this

/-- The whole buffer of the maxima, as read. -/
theorem am_read (f : Vec Ideal S16x128 .f32) :
    amM.view.readAt (Elt Ideal) (Rect.unit (s := S16x128) ![0, 0] S16x128.size inb_S16x128_S16x128_0_0).toLoadRect f = f :=
  Memref.readAt_unit_zero (Elt Ideal) cc0_scratch8 (by decide) _ f
/-- Row `c` of the maxima is the row device `c` sends. -/
theorem am_row (c : Dev nD) (i : Fin 128) : amBuf (F := Ideal) m (ix2 c i) = amv m c (ix2 0 i) := by
  unfold amBuf
  refine congrArg (amv m c) (funext fun a => ?_)
  match a with
  | ⟨0, _⟩ => rfl
  | ⟨1, _⟩ => rfl
/-- The maximum every device computes is at most a bound when all the entries of the result are. -/
theorem gmax_le (t : EReal) : (k0_pay79 (gmax (F := Ideal) m) : EReal) ≤ t ↔ ∀ j r k, sum16 m j r k ≤ t := by
  unfold gmax
  rw [pay78_le, am_read]
  have e : ∀ (c : Dev nD) (i : Fin 128), (show EReal from amBuf (F := Ideal) m (ix2 c i)) ≤ t
      ↔ (∀ r k, sum16 m (nxt c) r (lo k) ≤ t) ∧ ∀ r k, sum16 m (prv c) r (hi k) ≤ t := by
    intro c i
    rw [am_row]
    refine (pay77_le (ownR m c) (ownL m c) i t).trans ?_
    simp only [ownR_at, ownL_at]
  constructor
  · exact fun h j r k => halves (P := fun j k => sum16 m j r k ≤ t) (fun c k => ((e c 0).mp (h c 0)).1 r k) (fun c k => ((e c 0).mp (h c 0)).2 r k) j k
  · exact fun h c i => (e c i).mpr ⟨fun r k => h _ r _, fun r k => h _ r _⟩

/-! ## The result -/

/-- A block of the result: the quantised half times the scale. -/
theorem ob_at (i : Fin 32) (c : Dev nD) (h : Fin 2) (hc : i.val / 2 = c.val) (hh : i.val % 2 = h.val) (r : Fin 256) (k : Fin 1024) :
    (ob (F := Ideal) m i (ix3 0 r k) : EReal) = qv m c h (ix3 0 r k) * Ideal.div (k0_pay79 (gmax m)) ((448 : ℝ) : EReal) := by
  obtain ⟨c, hc'⟩ := c; obtain ⟨h, hh'⟩ := h
  subst hc hh
  rw [← word_448]
  pointwise [ob, deq, qv2, scl, k0_pay81]

/-- An entry `y` of the result: quantised by the kernel's multiplication and scaled back. -/
def back (g y : EReal) : EReal := y * Ideal.div ((448 : ℝ) : EReal) g * Ideal.div g ((448 : ℝ) : EReal)

/-- An entry in the left half of the columns. -/
theorem out_lo (c : Dev nD) (r : Fin 256) (k : Fin 1024) :
    (outB (F := Ideal) m (ix3 (nxt c) r (lo k)) : EReal) = back (k0_pay79 (gmax m)) (sum16 m (nxt c) r (lo k)) := by
  have hc : c.val < 16 := c.isLt
  let i : Fin 32 := ⟨2 * c.val, by omega⟩
  have e : (rOut i).emb (ix3 0 r k) = ix3 (nxt c) r (lo k) := by
    funext a; refine Fin.ext ?_
    match a with
    | ⟨0, _⟩ =>
      show (chunk i).val + 1 * 0 = (c.val + 1) % 16
      unfold chunk; rw [if_pos (show (2 * c.val) % 2 = 0 by omega)]
      show ((2 * c.val) / 2 + 1) % 16 + 1 * 0 = _
      omega
    | ⟨1, _⟩ => exact (Nat.zero_add _).trans (Nat.one_mul _)
    | ⟨2, _⟩ => show 1024 * ((2 * c.val) % 2) + 1 * k.val = k.val; omega
  rw [← e, outB_emb, ob_at m i c 0 (by show (2 * c.val) / 2 = c.val; omega) (by show (2 * c.val) % 2 = 0; omega)]
  unfold qv; rw [if_pos rfl, pay82_at, ownR_at, back]
/-- An entry in the right half. -/
theorem out_hi (c : Dev nD) (r : Fin 256) (k : Fin 1024) :
    (outB (F := Ideal) m (ix3 (prv c) r (hi k)) : EReal) = back (k0_pay79 (gmax m)) (sum16 m (prv c) r (hi k)) := by
  have hc : c.val < 16 := c.isLt
  let i : Fin 32 := ⟨2 * c.val + 1, by omega⟩
  have e : (rOut i).emb (ix3 0 r k) = ix3 (prv c) r (hi k) := by
    funext a; refine Fin.ext ?_
    match a with
    | ⟨0, _⟩ =>
      show (chunk i).val + 1 * 0 = (c.val + 15) % 16
      unfold chunk; rw [if_neg (show ¬ (2 * c.val + 1) % 2 = 0 by omega)]
      show ((2 * c.val + 1) / 2 + 15) % 16 + 1 * 0 = _
      omega
    | ⟨1, _⟩ => exact (Nat.zero_add _).trans (Nat.one_mul _)
    | ⟨2, _⟩ => show 1024 * ((2 * c.val + 1) % 2) + 1 * k.val = 1024 + k.val; omega
  rw [← e, outB_emb, ob_at m i c 1 (by show (2 * c.val + 1) / 2 = c.val; omega) (by show (2 * c.val + 1) % 2 = 1; omega)]
  unfold qv; rw [if_neg (by decide), pay83_at, ownL_at, back]

/-- Every entry of the kernel's result. -/
theorem out_at (j : Fin 16) (r : Fin 256) (k : Fin 2048) :
    (outB (F := Ideal) m (ix3 j r k) : EReal) = back (k0_pay79 (gmax m)) (sum16 m j r k) :=
  halves (P := fun j k => (outB (F := Ideal) m (ix3 j r k) : EReal) = back (k0_pay79 (gmax m)) (sum16 m j r k))
    (fun c k => out_lo m c r k) (fun c k => out_hi m c r k) j k

/-- The activations are cut along the contracted axis, and the weights along theirs. -/
theorem tiles_x : Layout.Tiles ⟨3, ![16, 256, 256]⟩ ⟨3, ![16, 256, 4096]⟩ 2 16 := by decide
theorem tiles_w : Layout.Tiles ⟨2, ![256, 2048]⟩ ⟨2, ![4096, 2048]⟩ 0 16 := by decide

section Whole

variable (a : Vec Ideal Cert.ReferenceIdeal.S16x256x4096 .bf16) (b : Vec Ideal Cert.ReferenceIdeal.S4096x2048 .bf16)
  (ha : ∀ c : Dev nD, mx m c = Layout.block ⟨3, ![16, 256, 256]⟩ ⟨3, ![16, 256, 4096]⟩ 2 16 c a tiles_x)
  (hb : ∀ c : Dev nD, mw m c = Layout.block ⟨2, ![256, 2048]⟩ ⟨2, ![4096, 2048]⟩ 0 16 c b tiles_w)

include ha hb

/-- The devices' parts of an entry add up to the whole product's. -/
theorem sum16_eq (j : Fin 16) (r : Fin 256) (k : Fin 2048) : sum16 m j r k = full a b j r k := by
  unfold sum16 full
  refine congrArg (max · 0) ?_
  rw [Fin.sum_univ_tiles 16 256 rfl]
  refine Finset.sum_congr rfl fun d _ => ?_
  unfold pt
  refine Finset.sum_congr rfl fun q _ => ?_
  rw [ha d, hb d]
  refine congrArg₂ (· * ·) (congrArg a (funext fun x => Fin.ext ?_)) (congrArg b (funext fun x => Fin.ext ?_))
  · match x with
    | ⟨0, _⟩ => rfl
    | ⟨1, _⟩ => rfl
    | ⟨2, _⟩ => rfl
  · match x with
    | ⟨0, _⟩ => rfl
    | ⟨1, _⟩ => rfl

/-- The kernel's maximum is the greatest entry of the whole product. -/
theorem gmax_eq : (k0_pay79 (gmax (F := Ideal) m) : EReal) = top a b := by
  refine eq_of_forall_ge_iff fun t => ?_
  rw [gmax_le, top_le]
  simp only [sum16_eq m a b ha hb]

/-- The kernel's result is the reference's on the whole arrays. -/
theorem out_eq : outB (F := Ideal) m = Cert.ReferenceIdeal.Gen.k0_pay1 (F := Ideal) a b := by
  funext i
  have key : ∀ (j : Fin 16) (r : Fin 256) (k : Fin 2048), outB (F := Ideal) m (ix3 j r k) = Cert.ReferenceIdeal.Gen.k0_pay1 (F := Ideal) a b (ix3 j r k) := by
    intro j r k
    rw [out_at, ref_at, gmax_eq m a b ha hb, sum16_eq m a b ha hb, back]
    exact scale_eq _ _ (le_max_right _ _) ((top_le a b _).mp le_rfl j r k)
  have ei : i = ix3 (i 0) (i 1) (i 2) := by
    funext x
    match x with
    | ⟨0, _⟩ => rfl
    | ⟨1, _⟩ => rfl
    | ⟨2, _⟩ => rfl
  rw [ei]; exact key _ _ _

end Whole

end Cert.KernelIdeal.Run

end
-- ==== Proof.Algebra.lean ====
module

public import proofs.«01_k».proof.Defs
public import proofs.«01_k».proof.Proof.Launch
public import proofs.«01_k».proof.Proof.Value

@[expose] public section

noncomputable section

namespace Cert.Proof

open Idealize.ShloMosaic Idealize.ShloMosaic.TcCoe Idealize.SL.Sem
open Cert.KernelIdeal.Run

/-- Over the extended reals every device's result is the whole result the reference computes from the
    whole arrays, whatever they hold; both programs leave their arguments as they were. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, (θ_run Cert.KernelIdeal.defs _ _).mono (fun r h c => ⟨(h.1.2 c).trans (out_eq m _ _ (fun d => (hm d).1) (fun d => (hm d).2)),
    (h.1.1 c (0 : Fin 2)).trans (arr_x m g c), (h.1.1 c (1 : Fin 2)).trans (arr_w m g c)⟩) (run_main (F := Ideal) m g), ?_⟩
  exact (θ_run Cert.ReferenceIdeal.defs _ _).mono (fun r h => h 0) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts,
    frame_kernel, frame_kernelIdeal, fun m ρ _ => Cert.ReferenceIdeal.Gen.frame m ρ, trivial, algebraic⟩

end Cert.Proof

end
